-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S9x256x256 : Shape := ⟨3, ![9, 256, 256]⟩
abbrev S8x256x1024 : Shape := ⟨3, ![8, 256, 1024]⟩
abbrev S7x256x1024 : Shape := ⟨3, ![7, 256, 1024]⟩
abbrev S2x256x1024 : Shape := ⟨3, ![2, 256, 1024]⟩
abbrev S16x8x128 : Shape := ⟨3, ![16, 8, 128]⟩
abbrev S8x128 : Shape := ⟨2, ![8, 128]⟩
abbrev S8 : Shape := ⟨1, ![8]⟩
abbrev S7 : Shape := ⟨1, ![7]⟩
abbrev S2 : Shape := ⟨1, ![2]⟩
abbrev S15 : Shape := ⟨1, ![15]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S256x1024 : Shape := ⟨2, ![256, 1024]⟩
abbrev S1x256x1024 : Shape := ⟨3, ![1, 256, 1024]⟩
abbrev S1x1x1 : Shape := ⟨3, ![1, 1, 1]⟩
abbrev S1x2 : Shape := ⟨2, ![1, 2]⟩
abbrev S1x1 : Shape := ⟨2, ![1, 1]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 14
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S4096x256, .bf16⟩
  | .local _ .vmem, ⟨4, _⟩ => ⟨S256x2048, .bf16⟩
  | .local _ .vmem, ⟨5, _⟩ => ⟨S9x256x256, .bf16⟩
  | .local _ .vmem, ⟨6, _⟩ => ⟨S8x256x1024, .bf16⟩
  | .local _ .vmem, ⟨7, _⟩ => ⟨S8x256x1024, .bf16⟩
  | .local _ .vmem, ⟨8, _⟩ => ⟨S7x256x1024, .bf16⟩
  | .local _ .vmem, ⟨9, _⟩ => ⟨S7x256x1024, .bf16⟩
  | .local _ .vmem, ⟨10, _⟩ => ⟨S2x256x1024, .bf16⟩
  | .local _ .vmem, ⟨11, _⟩ => ⟨S2x256x1024, .bf16⟩
  | .local _ .vmem, ⟨12, _⟩ => ⟨S16x8x128, .f32⟩
  | .local _ .vmem, ⟨13, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v26 : BitVec 32 := Scalar.addi v2 c1_i32_13
  let c16_i32_14 : BitVec 32 := 16#32
  let c0_i32_15 : BitVec 32 := 0#32
  let v27 : BitVec 1 := Scalar.cmpi .eq c16_i32_14 c0_i32_15
  let c1_i32_16 : BitVec 32 := 1#32
  let v28 : BitVec 32 := Scalar.select v27 c1_i32_16 c16_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_21 : BitVec 32 := 1#32
  let v37 : BitVec 32 := Scalar.muli v36 c1_i32_21
  let v38 : BitVec 32 := Scalar.addi c0_i32_22 v37
  v38.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v39 : BitVec 32 := Scalar.addi v2 c2_i32
  let c16_i32_23 : BitVec 32 := 16#32
  let c0_i32_24 : BitVec 32 := 0#32
  let v40 : BitVec 1 := Scalar.cmpi .eq c16_i32_23 c0_i32_24
  let c1_i32_25 : BitVec 32 := 1#32
  let v41 : BitVec 32 := Scalar.select v40 c1_i32_25 c16_i32_23
  let v42 : BitVec 32 := Scalar.remsi v39 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let c1_i32_30 : BitVec 32 := 1#32
  let v50 : BitVec 32 := Scalar.muli v49 c1_i32_30
  let v51 : BitVec 32 := Scalar.addi c0_i32_31 v50
  v51.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v52 : BitVec 32 := Scalar.addi v2 c3_i32
  let c16_i32_32 : BitVec 32 := 16#32
  let c0_i32_33 : BitVec 32 := 0#32
  let v53 : BitVec 1 := Scalar.cmpi .eq c16_i32_32 c0_i32_33
  let c1_i32_34 : BitVec 32 := 1#32
  let v54 : BitVec 32 := Scalar.select v53 c1_i32_34 c16_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_39 : BitVec 32 := 1#32
  let v63 : BitVec 32 := Scalar.muli v62 c1_i32_39
  let v64 : BitVec 32 := Scalar.addi c0_i32_40 v63
  v64.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v65 : BitVec 32 := Scalar.addi v2 c4_i32
  let c16_i32_41 : BitVec 32 := 16#32
  let c0_i32_42 : BitVec 32 := 0#32
  let v66 : BitVec 1 := Scalar.cmpi .eq c16_i32_41 c0_i32_42
  let c1_i32_43 : BitVec 32 := 1#32
  let v67 : BitVec 32 := Scalar.select v66 c1_i32_43 c16_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c1_i32_48 : BitVec 32 := 1#32
  let v76 : BitVec 32 := Scalar.muli v75 c1_i32_48
  let v77 : BitVec 32 := Scalar.addi c0_i32_49 v76
  v77.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v78 : BitVec 32 := Scalar.addi v2 c5_i32
  let c16_i32_50 : BitVec 32 := 16#32
  let c0_i32_51 : BitVec 32 := 0#32
  let v79 : BitVec 1 := Scalar.cmpi .eq c16_i32_50 c0_i32_51
  let c1_i32_52 : BitVec 32 := 1#32
  let v80 : BitVec 32 := Scalar.select v79 c1_i32_52 c16_i32_50
  let v81 : BitVec 32 := Scalar.remsi v78 v80
  let c0_i32_54 : BitVec 32 := 0#32
  let v83 : BitVec 1 := Scalar.cmpi .slt v81 c0_i32_54
  let c0_i32_55 : BitVec 32 := 0#32
  let v84 : BitVec 1 := Scalar.cmpi .slt v80 c0_i32_55
  let v85 : BitVec 1 := Scalar.xori v83 v84
  let c0_i32_53 : BitVec 32 := 0#32
  let v82 : BitVec 1 := Scalar.cmpi .ne v81 c0_i32_53
  let v86 : BitVec 1 := Scalar.andi v85 v82
  let v87 : BitVec 32 := Scalar.addi v81 v80
  let v88 : BitVec 32 := Scalar.select v86 v87 v81
  let c1_i32_57 : BitVec 32 := 1#32
  let v89 : BitVec 32 := Scalar.muli v88 c1_i32_57
  let v90 : BitVec 32 := Scalar.addi c0_i32_58 v89
  v90.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v91 : BitVec 32 := Scalar.addi v2 c6_i32
  let c16_i32_59 : BitVec 32 := 16#32
  let c0_i32_60 : BitVec 32 := 0#32
  let v92 : BitVec 1 := Scalar.cmpi .eq c16_i32_59 c0_i32_60
  let c1_i32_61 : BitVec 32 := 1#32
  let v93 : BitVec 32 := Scalar.select v92 c1_i32_61 c16_i32_59
  let v94 : BitVec 32 := Scalar.remsi v91 v93
  let c0_i32_63 : BitVec 32 := 0#32
  let v96 : BitVec 1 := Scalar.cmpi .slt v94 c0_i32_63
  let c0_i32_64 : BitVec 32 := 0#32
  let v97 : BitVec 1 := Scalar.cmpi .slt v93 c0_i32_64
  let v98 : BitVec 1 := Scalar.xori v96 v97
  let c0_i32_62 : BitVec 32 := 0#32
  let v95 : BitVec 1 := Scalar.cmpi .ne v94 c0_i32_62
  let v99 : BitVec 1 := Scalar.andi v98 v95
  let v100 : BitVec 32 := Scalar.addi v94 v93
  let v101 : BitVec 32 := Scalar.select v99 v100 v94
  let c1_i32_66 : BitVec 32 := 1#32
  let v102 : BitVec 32 := Scalar.muli v101 c1_i32_66
  let v103 : BitVec 32 := Scalar.addi c0_i32_67 v102
  v103.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v104 : BitVec 32 := Scalar.addi v2 c7_i32
  let c16_i32_68 : BitVec 32 := 16#32
  let c0_i32_69 : BitVec 32 := 0#32
  let v105 : BitVec 1 := Scalar.cmpi .eq c16_i32_68 c0_i32_69
  let c1_i32_70 : BitVec 32 := 1#32
  let v106 : BitVec 32 := Scalar.select v105 c1_i32_70 c16_i32_68
  let v107 : BitVec 32 := Scalar.remsi v104 v106
  let c0_i32_72 : BitVec 32 := 0#32
  let v109 : BitVec 1 := Scalar.cmpi .slt v107 c0_i32_72
  let c0_i32_73 : BitVec 32 := 0#32
  let v110 : BitVec 1 := Scalar.cmpi .slt v106 c0_i32_73
  let v111 : BitVec 1 := Scalar.xori v109 v110
  let c0_i32_71 : BitVec 32 := 0#32
  let v108 : BitVec 1 := Scalar.cmpi .ne v107 c0_i32_71
  let v112 : BitVec 1 := Scalar.andi v111 v108
  let v113 : BitVec 32 := Scalar.addi v107 v106
  let v114 : BitVec 32 := Scalar.select v112 v113 v107
  let c1_i32_75 : BitVec 32 := 1#32
  let v115 : BitVec 32 := Scalar.muli v114 c1_i32_75
  let v116 : BitVec 32 := Scalar.addi c0_i32_76 v115
  v116.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v117 : BitVec 32 := Scalar.addi v2 c8_i32
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c1_i32_84 : BitVec 32 := 1#32
  let v128 : BitVec 32 := Scalar.muli v127 c1_i32_84
  let v129 : BitVec 32 := Scalar.addi c0_i32_85 v128
  v129.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v130 : BitVec 32 := Scalar.addi v2 c9_i32
  let c16_i32_86 : BitVec 32 := 16#32
  let c0_i32_87 : BitVec 32 := 0#32
  let v131 : BitVec 1 := Scalar.cmpi .eq c16_i32_86 c0_i32_87
  let c1_i32_88 : BitVec 32 := 1#32
  let v132 : BitVec 32 := Scalar.select v131 c1_i32_88 c16_i32_86
  let v133 : BitVec 32 := Scalar.remsi v130 v132
  let c0_i32_90 : BitVec 32 := 0#32
  let v135 : BitVec 1 := Scalar.cmpi .slt v133 c0_i32_90
  let c0_i32_91 : BitVec 32 := 0#32
  let v136 : BitVec 1 := Scalar.cmpi .slt v132 c0_i32_91
  let v137 : BitVec 1 := Scalar.xori v135 v136
  let c0_i32_89 : BitVec 32 := 0#32
  let v134 : BitVec 1 := Scalar.cmpi .ne v133 c0_i32_89
  let v138 : BitVec 1 := Scalar.andi v137 v134
  let v139 : BitVec 32 := Scalar.addi v133 v132
  let v140 : BitVec 32 := Scalar.select v138 v139 v133
  let c1_i32_93 : BitVec 32 := 1#32
  let v141 : BitVec 32 := Scalar.muli v140 c1_i32_93
  let v142 : BitVec 32 := Scalar.addi c0_i32_94 v141
  v142.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v143 : BitVec 32 := Scalar.addi v2 c10_i32
  let c16_i32_95 : BitVec 32 := 16#32
  let c0_i32_96 : BitVec 32 := 0#32
  let v144 : BitVec 1 := Scalar.cmpi .eq c16_i32_95 c0_i32_96
  let c1_i32_97 : BitVec 32 := 1#32
  let v145 : BitVec 32 := Scalar.select v144 c1_i32_97 c16_i32_95
  let v146 : BitVec 32 := Scalar.remsi v143 v145
  let c0_i32_99 : BitVec 32 := 0#32
  let v148 : BitVec 1 := Scalar.cmpi .slt v146 c0_i32_99
  let c0_i32_100 : BitVec 32 := 0#32
  let v149 : BitVec 1 := Scalar.cmpi .slt v145 c0_i32_100
  let v150 : BitVec 1 := Scalar.xori v148 v149
  let c0_i32_98 : BitVec 32 := 0#32
  let v147 : BitVec 1 := Scalar.cmpi .ne v146 c0_i32_98
  let v151 : BitVec 1 := Scalar.andi v150 v147
  let v152 : BitVec 32 := Scalar.addi v146 v145
  let v153 : BitVec 32 := Scalar.select v151 v152 v146
  let c1_i32_102 : BitVec 32 := 1#32
  let v154 : BitVec 32 := Scalar.muli v153 c1_i32_102
  let v155 : BitVec 32 := Scalar.addi c0_i32_103 v154
  v155.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v156 : BitVec 32 := Scalar.addi v2 c11_i32
  let c16_i32_104 : BitVec 32 := 16#32
  let c0_i32_105 : BitVec 32 := 0#32
  let v157 : BitVec 1 := Scalar.cmpi .eq c16_i32_104 c0_i32_105
  let c1_i32_106 : BitVec 32 := 1#32
  let v158 : BitVec 32 := Scalar.select v157 c1_i32_106 c16_i32_104
  let v159 : BitVec 32 := Scalar.remsi v156 v158
  let c0_i32_108 : BitVec 32 := 0#32
  let v161 : BitVec 1 := Scalar.cmpi .slt v159 c0_i32_108
  let c0_i32_109 : BitVec 32 := 0#32
  let v162 : BitVec 1 := Scalar.cmpi .slt v158 c0_i32_109
  let v163 : BitVec 1 := Scalar.xori v161 v162
  let c0_i32_107 : BitVec 32 := 0#32
  let v160 : BitVec 1 := Scalar.cmpi .ne v159 c0_i32_107
  let v164 : BitVec 1 := Scalar.andi v163 v160
  let v165 : BitVec 32 := Scalar.addi v159 v158
  let v166 : BitVec 32 := Scalar.select v164 v165 v159
  let c1_i32_111 : BitVec 32 := 1#32
  let v167 : BitVec 32 := Scalar.muli v166 c1_i32_111
  let v168 : BitVec 32 := Scalar.addi c0_i32_112 v167
  v168.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v169 : BitVec 32 := Scalar.addi v2 c12_i32
  let c16_i32_113 : BitVec 32 := 16#32
  let c0_i32_114 : BitVec 32 := 0#32
  let v170 : BitVec 1 := Scalar.cmpi .eq c16_i32_113 c0_i32_114
  let c1_i32_115 : BitVec 32 := 1#32
  let v171 : BitVec 32 := Scalar.select v170 c1_i32_115 c16_i32_113
  let v172 : BitVec 32 := Scalar.remsi v169 v171
  let c0_i32_117 : BitVec 32 := 0#32
  let v174 : BitVec 1 := Scalar.cmpi .slt v172 c0_i32_117
  let c0_i32_118 : BitVec 32 := 0#32
  let v175 : BitVec 1 := Scalar.cmpi .slt v171 c0_i32_118
  let v176 : BitVec 1 := Scalar.xori v174 v175
  let c0_i32_116 : BitVec 32 := 0#32
  let v173 : BitVec 1 := Scalar.cmpi .ne v172 c0_i32_116
  let v177 : BitVec 1 := Scalar.andi v176 v173
  let v178 : BitVec 32 := Scalar.addi v172 v171
  let v179 : BitVec 32 := Scalar.select v177 v178 v172
  let c1_i32_120 : BitVec 32 := 1#32
  let v180 : BitVec 32 := Scalar.muli v179 c1_i32_120
  let v181 : BitVec 32 := Scalar.addi c0_i32_121 v180
  v181.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v182 : BitVec 32 := Scalar.addi v2 c13_i32
  let c16_i32_122 : BitVec 32 := 16#32
  let c0_i32_123 : BitVec 32 := 0#32
  let v183 : BitVec 1 := Scalar.cmpi .eq c16_i32_122 c0_i32_123
  let c1_i32_124 : BitVec 32 := 1#32
  let v184 : BitVec 32 := Scalar.select v183 c1_i32_124 c16_i32_122
  let v185 : BitVec 32 := Scalar.remsi v182 v184
  let c0_i32_126 : BitVec 32 := 0#32
  let v187 : BitVec 1 := Scalar.cmpi .slt v185 c0_i32_126
  let c0_i32_127 : BitVec 32 := 0#32
  let v188 : BitVec 1 := Scalar.cmpi .slt v184 c0_i32_127
  let v189 : BitVec 1 := Scalar.xori v187 v188
  let c0_i32_125 : BitVec 32 := 0#32
  let v186 : BitVec 1 := Scalar.cmpi .ne v185 c0_i32_125
  let v190 : BitVec 1 := Scalar.andi v189 v186
  let v191 : BitVec 32 := Scalar.addi v185 v184
  let v192 : BitVec 32 := Scalar.select v190 v191 v185
  let c1_i32_129 : BitVec 32 := 1#32
  let v193 : BitVec 32 := Scalar.muli v192 c1_i32_129
  let v194 : BitVec 32 := Scalar.addi c0_i32_130 v193
  v194.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v195 : BitVec 32 := Scalar.addi v2 c14_i32
  let c16_i32_131 : BitVec 32 := 16#32
  let c0_i32_132 : BitVec 32 := 0#32
  let v196 : BitVec 1 := Scalar.cmpi .eq c16_i32_131 c0_i32_132
  let c1_i32_133 : BitVec 32 := 1#32
  let v197 : BitVec 32 := Scalar.select v196 c1_i32_133 c16_i32_131
  let v198 : BitVec 32 := Scalar.remsi v195 v197
  let c0_i32_135 : BitVec 32 := 0#32
  let v200 : BitVec 1 := Scalar.cmpi .slt v198 c0_i32_135
  let c0_i32_136 : BitVec 32 := 0#32
  let v201 : BitVec 1 := Scalar.cmpi .slt v197 c0_i32_136
  let v202 : BitVec 1 := Scalar.xori v200 v201
  let c0_i32_134 : BitVec 32 := 0#32
  let v199 : BitVec 1 := Scalar.cmpi .ne v198 c0_i32_134
  let v203 : BitVec 1 := Scalar.andi v202 v199
  let v204 : BitVec 32 := Scalar.addi v198 v197
  let v205 : BitVec 32 := Scalar.select v203 v204 v198
  let c1_i32_138 : BitVec 32 := 1#32
  let v206 : BitVec 32 := Scalar.muli v205 c1_i32_138
  let v207 : BitVec 32 := Scalar.addi c0_i32_139 v206
  v207.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v208 : BitVec 32 := Scalar.addi v2 c15_i32
  let c16_i32_140 : BitVec 32 := 16#32
  let c0_i32_141 : BitVec 32 := 0#32
  let v209 : BitVec 1 := Scalar.cmpi .eq c16_i32_140 c0_i32_141
  let c1_i32_142 : BitVec 32 := 1#32
  let v210 : BitVec 32 := Scalar.select v209 c1_i32_142 c16_i32_140
  let v211 : BitVec 32 := Scalar.remsi v208 v210
  let c0_i32_144 : BitVec 32 := 0#32
  let v213 : BitVec 1 := Scalar.cmpi .slt v211 c0_i32_144
  let c0_i32_145 : BitVec 32 := 0#32
  let v214 : BitVec 1 := Scalar.cmpi .slt v210 c0_i32_145
  let v215 : BitVec 1 := Scalar.xori v213 v214
  let c0_i32_143 : BitVec 32 := 0#32
  let v212 : BitVec 1 := Scalar.cmpi .ne v211 c0_i32_143
  let v216 : BitVec 1 := Scalar.andi v215 v212
  let v217 : BitVec 32 := Scalar.addi v211 v210
  let v218 : BitVec 32 := Scalar.select v216 v217 v211
  let c1_i32_147 : BitVec 32 := 1#32
  let v219 : BitVec 32 := Scalar.muli v218 c1_i32_147
  let v220 : BitVec 32 := Scalar.addi c0_i32_148 v219
  v220.toNat
def k0_off1 (d0 : Dev nD) (c1_i32_157 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v231 : BitVec 32 := Scalar.addi v2 c1_i32_157
  let c16_i32_158 : BitVec 32 := 16#32
  let c0_i32_159 : BitVec 32 := 0#32
  let v232 : BitVec 1 := Scalar.cmpi .eq c16_i32_158 c0_i32_159
  let c1_i32_160 : BitVec 32 := 1#32
  let v233 : BitVec 32 := Scalar.select v232 c1_i32_160 c16_i32_158
  let v234 : BitVec 32 := Scalar.remsi v231 v233
  let c0_i32_162 : BitVec 32 := 0#32
  let v236 : BitVec 1 := Scalar.cmpi .slt v234 c0_i32_162
  let c0_i32_163 : BitVec 32 := 0#32
  let v237 : BitVec 1 := Scalar.cmpi .slt v233 c0_i32_163
  let v238 : BitVec 1 := Scalar.xori v236 v237
  let c0_i32_161 : BitVec 32 := 0#32
  let v235 : BitVec 1 := Scalar.cmpi .ne v234 c0_i32_161
  let v239 : BitVec 1 := Scalar.andi v238 v235
  let v240 : BitVec 32 := Scalar.addi v234 v233
  let v241 : BitVec 32 := Scalar.select v239 v240 v234
  let c256_i32 : BitVec 32 := 256#32
  let v242 : BitVec 32 := Scalar.muli v241 c256_i32
  let c0_i32_171 : BitVec 32 := 0#32
  ![v242.toNat, 0]
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v231 : BitVec 32 := Scalar.addi v2 c1_i32_157
  let c16_i32_158 : BitVec 32 := 16#32
  let c0_i32_159 : BitVec 32 := 0#32
  let v232 : BitVec 1 := Scalar.cmpi .eq c16_i32_158 c0_i32_159
  let c1_i32_160 : BitVec 32 := 1#32
  let v233 : BitVec 32 := Scalar.select v232 c1_i32_160 c16_i32_158
  let v234 : BitVec 32 := Scalar.remsi v231 v233
  let c0_i32_162 : BitVec 32 := 0#32
  let v236 : BitVec 1 := Scalar.cmpi .slt v234 c0_i32_162
  let c0_i32_163 : BitVec 32 := 0#32
  let v237 : BitVec 1 := Scalar.cmpi .slt v233 c0_i32_163
  let v238 : BitVec 1 := Scalar.xori v236 v237
  let c0_i32_161 : BitVec 32 := 0#32
  let v235 : BitVec 1 := Scalar.cmpi .ne v234 c0_i32_161
  let v239 : BitVec 1 := Scalar.andi v238 v235
  let v240 : BitVec 32 := Scalar.addi v234 v233
  let v241 : BitVec 32 := Scalar.select v239 v240 v234
  let c1_i32_167 : BitVec 32 := 1#32
  let v243 : BitVec 32 := Scalar.muli v241 c1_i32_167
  let v244 : BitVec 32 := Scalar.addi c0_i32_168 v243
  v244.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_172 : BitVec 32 := 2#32
  let v252 : BitVec 32 := Scalar.addi v2 c2_i32_172
  let c16_i32_173 : BitVec 32 := 16#32
  let c0_i32_174 : BitVec 32 := 0#32
  let v253 : BitVec 1 := Scalar.cmpi .eq c16_i32_173 c0_i32_174
  let c1_i32_175 : BitVec 32 := 1#32
  let v254 : BitVec 32 := Scalar.select v253 c1_i32_175 c16_i32_173
  let v255 : BitVec 32 := Scalar.remsi v252 v254
  let c0_i32_177 : BitVec 32 := 0#32
  let v257 : BitVec 1 := Scalar.cmpi .slt v255 c0_i32_177
  let c0_i32_178 : BitVec 32 := 0#32
  let v258 : BitVec 1 := Scalar.cmpi .slt v254 c0_i32_178
  let v259 : BitVec 1 := Scalar.xori v257 v258
  let c0_i32_176 : BitVec 32 := 0#32
  let v256 : BitVec 1 := Scalar.cmpi .ne v255 c0_i32_176
  let v260 : BitVec 1 := Scalar.andi v259 v256
  let v261 : BitVec 32 := Scalar.addi v255 v254
  let v262 : BitVec 32 := Scalar.select v260 v261 v255
  let c1_i32_183 : BitVec 32 := 1#32
  let v264 : BitVec 32 := Scalar.muli v262 c1_i32_183
  let v265 : BitVec 32 := Scalar.addi c0_i32_184 v264
  v265.toNat
def k0_dev18 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_188 : BitVec 32 := 3#32
  let v273 : BitVec 32 := Scalar.addi v2 c3_i32_188
  let c16_i32_189 : BitVec 32 := 16#32
  let c0_i32_190 : BitVec 32 := 0#32
  let v274 : BitVec 1 := Scalar.cmpi .eq c16_i32_189 c0_i32_190
  let c1_i32_191 : BitVec 32 := 1#32
  let v275 : BitVec 32 := Scalar.select v274 c1_i32_191 c16_i32_189
  let v276 : BitVec 32 := Scalar.remsi v273 v275
  let c0_i32_193 : BitVec 32 := 0#32
  let v278 : BitVec 1 := Scalar.cmpi .slt v276 c0_i32_193
  let c0_i32_194 : BitVec 32 := 0#32
  let v279 : BitVec 1 := Scalar.cmpi .slt v275 c0_i32_194
  let v280 : BitVec 1 := Scalar.xori v278 v279
  let c0_i32_192 : BitVec 32 := 0#32
  let v277 : BitVec 1 := Scalar.cmpi .ne v276 c0_i32_192
  let v281 : BitVec 1 := Scalar.andi v280 v277
  let v282 : BitVec 32 := Scalar.addi v276 v275
  let v283 : BitVec 32 := Scalar.select v281 v282 v276
  let c1_i32_199 : BitVec 32 := 1#32
  let v285 : BitVec 32 := Scalar.muli v283 c1_i32_199
  let v286 : BitVec 32 := Scalar.addi c0_i32_200 v285
  v286.toNat
def k0_dev19 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_204 : BitVec 32 := 4#32
  let v294 : BitVec 32 := Scalar.addi v2 c4_i32_204
  let c16_i32_205 : BitVec 32 := 16#32
  let c0_i32_206 : BitVec 32 := 0#32
  let v295 : BitVec 1 := Scalar.cmpi .eq c16_i32_205 c0_i32_206
  let c1_i32_207 : BitVec 32 := 1#32
  let v296 : BitVec 32 := Scalar.select v295 c1_i32_207 c16_i32_205
  let v297 : BitVec 32 := Scalar.remsi v294 v296
  let c0_i32_209 : BitVec 32 := 0#32
  let v299 : BitVec 1 := Scalar.cmpi .slt v297 c0_i32_209
  let c0_i32_210 : BitVec 32 := 0#32
  let v300 : BitVec 1 := Scalar.cmpi .slt v296 c0_i32_210
  let v301 : BitVec 1 := Scalar.xori v299 v300
  let c0_i32_208 : BitVec 32 := 0#32
  let v298 : BitVec 1 := Scalar.cmpi .ne v297 c0_i32_208
  let v302 : BitVec 1 := Scalar.andi v301 v298
  let v303 : BitVec 32 := Scalar.addi v297 v296
  let v304 : BitVec 32 := Scalar.select v302 v303 v297
  let c1_i32_215 : BitVec 32 := 1#32
  let v306 : BitVec 32 := Scalar.muli v304 c1_i32_215
  let v307 : BitVec 32 := Scalar.addi c0_i32_216 v306
  v307.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_220 : BitVec 32 := 5#32
  let v315 : BitVec 32 := Scalar.addi v2 c5_i32_220
  let c16_i32_221 : BitVec 32 := 16#32
  let c0_i32_222 : BitVec 32 := 0#32
  let v316 : BitVec 1 := Scalar.cmpi .eq c16_i32_221 c0_i32_222
  let c1_i32_223 : BitVec 32 := 1#32
  let v317 : BitVec 32 := Scalar.select v316 c1_i32_223 c16_i32_221
  let v318 : BitVec 32 := Scalar.remsi v315 v317
  let c0_i32_225 : BitVec 32 := 0#32
  let v320 : BitVec 1 := Scalar.cmpi .slt v318 c0_i32_225
  let c0_i32_226 : BitVec 32 := 0#32
  let v321 : BitVec 1 := Scalar.cmpi .slt v317 c0_i32_226
  let v322 : BitVec 1 := Scalar.xori v320 v321
  let c0_i32_224 : BitVec 32 := 0#32
  let v319 : BitVec 1 := Scalar.cmpi .ne v318 c0_i32_224
  let v323 : BitVec 1 := Scalar.andi v322 v319
  let v324 : BitVec 32 := Scalar.addi v318 v317
  let v325 : BitVec 32 := Scalar.select v323 v324 v318
  let c1_i32_231 : BitVec 32 := 1#32
  let v327 : BitVec 32 := Scalar.muli v325 c1_i32_231
  let v328 : BitVec 32 := Scalar.addi c0_i32_232 v327
  v328.toNat
def k0_dev21 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_236 : BitVec 32 := 6#32
  let v336 : BitVec 32 := Scalar.addi v2 c6_i32_236
  let c16_i32_237 : BitVec 32 := 16#32
  let c0_i32_238 : BitVec 32 := 0#32
  let v337 : BitVec 1 := Scalar.cmpi .eq c16_i32_237 c0_i32_238
  let c1_i32_239 : BitVec 32 := 1#32
  let v338 : BitVec 32 := Scalar.select v337 c1_i32_239 c16_i32_237
  let v339 : BitVec 32 := Scalar.remsi v336 v338
  let c0_i32_241 : BitVec 32 := 0#32
  let v341 : BitVec 1 := Scalar.cmpi .slt v339 c0_i32_241
  let c0_i32_242 : BitVec 32 := 0#32
  let v342 : BitVec 1 := Scalar.cmpi .slt v338 c0_i32_242
  let v343 : BitVec 1 := Scalar.xori v341 v342
  let c0_i32_240 : BitVec 32 := 0#32
  let v340 : BitVec 1 := Scalar.cmpi .ne v339 c0_i32_240
  let v344 : BitVec 1 := Scalar.andi v343 v340
  let v345 : BitVec 32 := Scalar.addi v339 v338
  let v346 : BitVec 32 := Scalar.select v344 v345 v339
  let c1_i32_247 : BitVec 32 := 1#32
  let v348 : BitVec 32 := Scalar.muli v346 c1_i32_247
  let v349 : BitVec 32 := Scalar.addi c0_i32_248 v348
  v349.toNat
def k0_dev22 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_252 : BitVec 32 := 7#32
  let v357 : BitVec 32 := Scalar.addi v2 c7_i32_252
  let c16_i32_253 : BitVec 32 := 16#32
  let c0_i32_254 : BitVec 32 := 0#32
  let v358 : BitVec 1 := Scalar.cmpi .eq c16_i32_253 c0_i32_254
  let c1_i32_255 : BitVec 32 := 1#32
  let v359 : BitVec 32 := Scalar.select v358 c1_i32_255 c16_i32_253
  let v360 : BitVec 32 := Scalar.remsi v357 v359
  let c0_i32_257 : BitVec 32 := 0#32
  let v362 : BitVec 1 := Scalar.cmpi .slt v360 c0_i32_257
  let c0_i32_258 : BitVec 32 := 0#32
  let v363 : BitVec 1 := Scalar.cmpi .slt v359 c0_i32_258
  let v364 : BitVec 1 := Scalar.xori v362 v363
  let c0_i32_256 : BitVec 32 := 0#32
  let v361 : BitVec 1 := Scalar.cmpi .ne v360 c0_i32_256
  let v365 : BitVec 1 := Scalar.andi v364 v361
  let v366 : BitVec 32 := Scalar.addi v360 v359
  let v367 : BitVec 32 := Scalar.select v365 v366 v360
  let c1_i32_263 : BitVec 32 := 1#32
  let v369 : BitVec 32 := Scalar.muli v367 c1_i32_263
  let v370 : BitVec 32 := Scalar.addi c0_i32_264 v369
  v370.toNat
def k0_dev23 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_268 : BitVec 32 := 8#32
  let v378 : BitVec 32 := Scalar.addi v2 c8_i32_268
  let c16_i32_269 : BitVec 32 := 16#32
  let c0_i32_270 : BitVec 32 := 0#32
  let v379 : BitVec 1 := Scalar.cmpi .eq c16_i32_269 c0_i32_270
  let c1_i32_271 : BitVec 32 := 1#32
  let v380 : BitVec 32 := Scalar.select v379 c1_i32_271 c16_i32_269
  let v381 : BitVec 32 := Scalar.remsi v378 v380
  let c0_i32_273 : BitVec 32 := 0#32
  let v383 : BitVec 1 := Scalar.cmpi .slt v381 c0_i32_273
  let c0_i32_274 : BitVec 32 := 0#32
  let v384 : BitVec 1 := Scalar.cmpi .slt v380 c0_i32_274
  let v385 : BitVec 1 := Scalar.xori v383 v384
  let c0_i32_272 : BitVec 32 := 0#32
  let v382 : BitVec 1 := Scalar.cmpi .ne v381 c0_i32_272
  let v386 : BitVec 1 := Scalar.andi v385 v382
  let v387 : BitVec 32 := Scalar.addi v381 v380
  let v388 : BitVec 32 := Scalar.select v386 v387 v381
  let c1_i32_279 : BitVec 32 := 1#32
  let v390 : BitVec 32 := Scalar.muli v388 c1_i32_279
  let v391 : BitVec 32 := Scalar.addi c0_i32_280 v390
  v391.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_284 : BitVec 32 := 256#32
  let v399 : BitVec 32 := Scalar.muli v2 c256_i32_284
  let v400 : Index := Scalar.indexCast v399
  let c0_285 : Index := 0#32
  ![v400.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_290 : BitVec 32 := 7#32
  let v406 : BitVec 32 := Scalar.subi v2 c7_i32_290
  let c16_i32_291 : BitVec 32 := 16#32
  let c0_i32_292 : BitVec 32 := 0#32
  let v407 : BitVec 1 := Scalar.cmpi .eq c16_i32_291 c0_i32_292
  let c1_i32_293 : BitVec 32 := 1#32
  let v408 : BitVec 32 := Scalar.select v407 c1_i32_293 c16_i32_291
  let v409 : BitVec 32 := Scalar.remsi v406 v408
  let c0_i32_295 : BitVec 32 := 0#32
  let v411 : BitVec 1 := Scalar.cmpi .slt v409 c0_i32_295
  let c0_i32_296 : BitVec 32 := 0#32
  let v412 : BitVec 1 := Scalar.cmpi .slt v408 c0_i32_296
  let v413 : BitVec 1 := Scalar.xori v411 v412
  let c0_i32_294 : BitVec 32 := 0#32
  let v410 : BitVec 1 := Scalar.cmpi .ne v409 c0_i32_294
  let v414 : BitVec 1 := Scalar.andi v413 v410
  let v415 : BitVec 32 := Scalar.addi v409 v408
  let v416 : BitVec 32 := Scalar.select v414 v415 v409
  let c256_i32_297 : BitVec 32 := 256#32
  let v417 : BitVec 32 := Scalar.muli v416 c256_i32_297
  let v418 : Index := Scalar.indexCast v417
  let c0_298 : Index := 0#32
  ![v418.toNat, 0]
def k0_dev24 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_387 : BitVec 32 := 1#32
  let v502 : BitVec 32 := Scalar.muli v24 c1_i32_387
  let v503 : BitVec 32 := Scalar.addi c0_i32_388 v502
  v503.toNat
def k0_dev25 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_396 : BitVec 32 := 1#32
  let v511 : BitVec 32 := Scalar.muli v24 c1_i32_396
  let v512 : BitVec 32 := Scalar.addi c0_i32_397 v511
  v512.toNat
def k0_dev26 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_405 : BitVec 32 := 1#32
  let v520 : BitVec 32 := Scalar.muli v13 c1_i32_405
  let v521 : BitVec 32 := Scalar.addi c0_i32_406 v520
  v521.toNat
def k0_dev27 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_415 : BitVec 32 := 1#32
  let v530 : BitVec 32 := Scalar.muli v13 c1_i32_415
  let v531 : BitVec 32 := Scalar.addi c0_i32_416 v530
  v531.toNat
def k0_off4 (d0 : Dev nD) (c0_i32_422 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_421 : BitVec 32 := 6#32
  let v540 : BitVec 32 := Scalar.subi v2 c6_i32_421
  let v541 : BitVec 32 := Scalar.addi v540 c0_i32_422
  let c16_i32_423 : BitVec 32 := 16#32
  let c0_i32_424 : BitVec 32 := 0#32
  let v542 : BitVec 1 := Scalar.cmpi .eq c16_i32_423 c0_i32_424
  let c1_i32_425 : BitVec 32 := 1#32
  let v543 : BitVec 32 := Scalar.select v542 c1_i32_425 c16_i32_423
  let v544 : BitVec 32 := Scalar.remsi v541 v543
  let c0_i32_427 : BitVec 32 := 0#32
  let v546 : BitVec 1 := Scalar.cmpi .slt v544 c0_i32_427
  let c0_i32_428 : BitVec 32 := 0#32
  let v547 : BitVec 1 := Scalar.cmpi .slt v543 c0_i32_428
  let v548 : BitVec 1 := Scalar.xori v546 v547
  let c0_i32_426 : BitVec 32 := 0#32
  let v545 : BitVec 1 := Scalar.cmpi .ne v544 c0_i32_426
  let v549 : BitVec 1 := Scalar.andi v548 v545
  let v550 : BitVec 32 := Scalar.addi v544 v543
  let v551 : BitVec 32 := Scalar.select v549 v550 v544
  let c256_i32_429 : BitVec 32 := 256#32
  let v552 : BitVec 32 := Scalar.muli v551 c256_i32_429
  let v553 : Index := Scalar.indexCast v552
  let c0_430 : Index := 0#32
  ![v553.toNat, 0]
def k0_dev28 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_460 : BitVec 32 := 1#32
  let v581 : BitVec 32 := Scalar.muli v24 c1_i32_460
  let v582 : BitVec 32 := Scalar.addi c0_i32_461 v581
  v582.toNat
def k0_dev29 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_479 : BitVec 32 := 1#32
  let v598 : BitVec 32 := Scalar.muli v24 c1_i32_479
  let v599 : BitVec 32 := Scalar.addi c0_i32_480 v598
  v599.toNat
def k0_dev30 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_534 : BitVec 32 := 1#32
  let v652 : BitVec 32 := Scalar.muli v13 c1_i32_534
  let v653 : BitVec 32 := Scalar.addi c0_i32_535 v652
  v653.toNat
def k0_dev31 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v662 : BitVec 32 := Scalar.muli v13 c1_i32_544
  let v663 : BitVec 32 := Scalar.addi c0_i32_545 v662
  v663.toNat
def k0_dev32 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_590 : BitVec 32 := 1#32
  let v714 : BitVec 32 := Scalar.muli v24 c1_i32_590
  let v715 : BitVec 32 := Scalar.addi c0_i32_591 v714
  v715.toNat
def k0_dev33 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_610 : BitVec 32 := 1#32
  let v732 : BitVec 32 := Scalar.muli v24 c1_i32_610
  let v733 : BitVec 32 := Scalar.addi c0_i32_611 v732
  v733.toNat
def k0_dev34 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_683 : BitVec 32 := 1#32
  let v798 : BitVec 32 := Scalar.muli v13 c1_i32_683
  let v799 : BitVec 32 := Scalar.addi c0_i32_684 v798
  v799.toNat
def k0_dev35 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_693 : BitVec 32 := 1#32
  let v808 : BitVec 32 := Scalar.muli v13 c1_i32_693
  let v809 : BitVec 32 := Scalar.addi c0_i32_694 v808
  v809.toNat
def k0_dev36 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_739 : BitVec 32 := 1#32
  let v860 : BitVec 32 := Scalar.muli v24 c1_i32_739
  let v861 : BitVec 32 := Scalar.addi c0_i32_740 v860
  v861.toNat
def k0_dev37 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_759 : BitVec 32 := 1#32
  let v878 : BitVec 32 := Scalar.muli v24 c1_i32_759
  let v879 : BitVec 32 := Scalar.addi c0_i32_760 v878
  v879.toNat
def k0_dev38 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_832 : BitVec 32 := 1#32
  let v944 : BitVec 32 := Scalar.muli v13 c1_i32_832
  let v945 : BitVec 32 := Scalar.addi c0_i32_833 v944
  v945.toNat
def k0_dev39 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_842 : BitVec 32 := 1#32
  let v954 : BitVec 32 := Scalar.muli v13 c1_i32_842
  let v955 : BitVec 32 := Scalar.addi c0_i32_843 v954
  v955.toNat
def k0_dev40 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_888 : BitVec 32 := 1#32
  let v1006 : BitVec 32 := Scalar.muli v24 c1_i32_888
  let v1007 : BitVec 32 := Scalar.addi c0_i32_889 v1006
  v1007.toNat
def k0_dev41 (d0 : Dev nD) : Nat :=
  let c0_i32_909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_908 : BitVec 32 := 1#32
  let v1024 : BitVec 32 := Scalar.muli v24 c1_i32_908
  let v1025 : BitVec 32 := Scalar.addi c0_i32_909 v1024
  v1025.toNat
def k0_dev42 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_981 : BitVec 32 := 1#32
  let v1090 : BitVec 32 := Scalar.muli v13 c1_i32_981
  let v1091 : BitVec 32 := Scalar.addi c0_i32_982 v1090
  v1091.toNat
def k0_dev43 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_991 : BitVec 32 := 1#32
  let v1100 : BitVec 32 := Scalar.muli v13 c1_i32_991
  let v1101 : BitVec 32 := Scalar.addi c0_i32_992 v1100
  v1101.toNat
def k0_dev44 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1037 : BitVec 32 := 1#32
  let v1152 : BitVec 32 := Scalar.muli v24 c1_i32_1037
  let v1153 : BitVec 32 := Scalar.addi c0_i32_1038 v1152
  v1153.toNat
def k0_dev45 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1057 : BitVec 32 := 1#32
  let v1170 : BitVec 32 := Scalar.muli v24 c1_i32_1057
  let v1171 : BitVec 32 := Scalar.addi c0_i32_1058 v1170
  v1171.toNat
def k0_dev46 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1130 : BitVec 32 := 1#32
  let v1236 : BitVec 32 := Scalar.muli v13 c1_i32_1130
  let v1237 : BitVec 32 := Scalar.addi c0_i32_1131 v1236
  v1237.toNat
def k0_dev47 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1140 : BitVec 32 := 1#32
  let v1246 : BitVec 32 := Scalar.muli v13 c1_i32_1140
  let v1247 : BitVec 32 := Scalar.addi c0_i32_1141 v1246
  v1247.toNat
def k0_dev48 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1186 : BitVec 32 := 1#32
  let v1298 : BitVec 32 := Scalar.muli v24 c1_i32_1186
  let v1299 : BitVec 32 := Scalar.addi c0_i32_1187 v1298
  v1299.toNat
def k0_dev49 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1206 : BitVec 32 := 1#32
  let v1316 : BitVec 32 := Scalar.muli v24 c1_i32_1206
  let v1317 : BitVec 32 := Scalar.addi c0_i32_1207 v1316
  v1317.toNat
def k0_dev50 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1279 : BitVec 32 := 1#32
  let v1382 : BitVec 32 := Scalar.muli v13 c1_i32_1279
  let v1383 : BitVec 32 := Scalar.addi c0_i32_1280 v1382
  v1383.toNat
def k0_dev51 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1289 : BitVec 32 := 1#32
  let v1392 : BitVec 32 := Scalar.muli v13 c1_i32_1289
  let v1393 : BitVec 32 := Scalar.addi c0_i32_1290 v1392
  v1393.toNat
def k0_dev52 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1309 : BitVec 32 := 1#32
  let v1410 : BitVec 32 := Scalar.muli v24 c1_i32_1309
  let v1411 : BitVec 32 := Scalar.addi c0_i32_1310 v1410
  v1411.toNat
def k0_dev53 (d0 : Dev nD) : Nat :=
  let c0_i32_1330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1329 : BitVec 32 := 1#32
  let v1428 : BitVec 32 := Scalar.muli v24 c1_i32_1329
  let v1429 : BitVec 32 := Scalar.addi c0_i32_1330 v1428
  v1429.toNat
def k0_dev54 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1418 : BitVec 32 := 1#32
  let v1526 : BitVec 32 := Scalar.addi v2 c1_i32_1418
  let c16_i32_1419 : BitVec 32 := 16#32
  let c0_i32_1420 : BitVec 32 := 0#32
  let v1527 : BitVec 1 := Scalar.cmpi .eq c16_i32_1419 c0_i32_1420
  let c1_i32_1421 : BitVec 32 := 1#32
  let v1528 : BitVec 32 := Scalar.select v1527 c1_i32_1421 c16_i32_1419
  let v1529 : BitVec 32 := Scalar.remsi v1526 v1528
  let c0_i32_1423 : BitVec 32 := 0#32
  let v1531 : BitVec 1 := Scalar.cmpi .slt v1529 c0_i32_1423
  let c0_i32_1424 : BitVec 32 := 0#32
  let v1532 : BitVec 1 := Scalar.cmpi .slt v1528 c0_i32_1424
  let v1533 : BitVec 1 := Scalar.xori v1531 v1532
  let c0_i32_1422 : BitVec 32 := 0#32
  let v1530 : BitVec 1 := Scalar.cmpi .ne v1529 c0_i32_1422
  let v1534 : BitVec 1 := Scalar.andi v1533 v1530
  let v1535 : BitVec 32 := Scalar.addi v1529 v1528
  let v1536 : BitVec 32 := Scalar.select v1534 v1535 v1529
  let c1_i32_1428 : BitVec 32 := 1#32
  let v1537 : BitVec 32 := Scalar.muli v1536 c1_i32_1428
  let v1538 : BitVec 32 := Scalar.addi c0_i32_1429 v1537
  v1538.toNat
def k0_dev55 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1432 : BitVec 32 := 2#32
  let v1545 : BitVec 32 := Scalar.addi v2 c2_i32_1432
  let c16_i32_1433 : BitVec 32 := 16#32
  let c0_i32_1434 : BitVec 32 := 0#32
  let v1546 : BitVec 1 := Scalar.cmpi .eq c16_i32_1433 c0_i32_1434
  let c1_i32_1435 : BitVec 32 := 1#32
  let v1547 : BitVec 32 := Scalar.select v1546 c1_i32_1435 c16_i32_1433
  let v1548 : BitVec 32 := Scalar.remsi v1545 v1547
  let c0_i32_1437 : BitVec 32 := 0#32
  let v1550 : BitVec 1 := Scalar.cmpi .slt v1548 c0_i32_1437
  let c0_i32_1438 : BitVec 32 := 0#32
  let v1551 : BitVec 1 := Scalar.cmpi .slt v1547 c0_i32_1438
  let v1552 : BitVec 1 := Scalar.xori v1550 v1551
  let c0_i32_1436 : BitVec 32 := 0#32
  let v1549 : BitVec 1 := Scalar.cmpi .ne v1548 c0_i32_1436
  let v1553 : BitVec 1 := Scalar.andi v1552 v1549
  let v1554 : BitVec 32 := Scalar.addi v1548 v1547
  let v1555 : BitVec 32 := Scalar.select v1553 v1554 v1548
  let c1_i32_1442 : BitVec 32 := 1#32
  let v1556 : BitVec 32 := Scalar.muli v1555 c1_i32_1442
  let v1557 : BitVec 32 := Scalar.addi c0_i32_1443 v1556
  v1557.toNat
def k0_dev56 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1446 : BitVec 32 := 3#32
  let v1564 : BitVec 32 := Scalar.addi v2 c3_i32_1446
  let c16_i32_1447 : BitVec 32 := 16#32
  let c0_i32_1448 : BitVec 32 := 0#32
  let v1565 : BitVec 1 := Scalar.cmpi .eq c16_i32_1447 c0_i32_1448
  let c1_i32_1449 : BitVec 32 := 1#32
  let v1566 : BitVec 32 := Scalar.select v1565 c1_i32_1449 c16_i32_1447
  let v1567 : BitVec 32 := Scalar.remsi v1564 v1566
  let c0_i32_1451 : BitVec 32 := 0#32
  let v1569 : BitVec 1 := Scalar.cmpi .slt v1567 c0_i32_1451
  let c0_i32_1452 : BitVec 32 := 0#32
  let v1570 : BitVec 1 := Scalar.cmpi .slt v1566 c0_i32_1452
  let v1571 : BitVec 1 := Scalar.xori v1569 v1570
  let c0_i32_1450 : BitVec 32 := 0#32
  let v1568 : BitVec 1 := Scalar.cmpi .ne v1567 c0_i32_1450
  let v1572 : BitVec 1 := Scalar.andi v1571 v1568
  let v1573 : BitVec 32 := Scalar.addi v1567 v1566
  let v1574 : BitVec 32 := Scalar.select v1572 v1573 v1567
  let c1_i32_1456 : BitVec 32 := 1#32
  let v1575 : BitVec 32 := Scalar.muli v1574 c1_i32_1456
  let v1576 : BitVec 32 := Scalar.addi c0_i32_1457 v1575
  v1576.toNat
def k0_dev57 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1460 : BitVec 32 := 4#32
  let v1583 : BitVec 32 := Scalar.addi v2 c4_i32_1460
  let c16_i32_1461 : BitVec 32 := 16#32
  let c0_i32_1462 : BitVec 32 := 0#32
  let v1584 : BitVec 1 := Scalar.cmpi .eq c16_i32_1461 c0_i32_1462
  let c1_i32_1463 : BitVec 32 := 1#32
  let v1585 : BitVec 32 := Scalar.select v1584 c1_i32_1463 c16_i32_1461
  let v1586 : BitVec 32 := Scalar.remsi v1583 v1585
  let c0_i32_1465 : BitVec 32 := 0#32
  let v1588 : BitVec 1 := Scalar.cmpi .slt v1586 c0_i32_1465
  let c0_i32_1466 : BitVec 32 := 0#32
  let v1589 : BitVec 1 := Scalar.cmpi .slt v1585 c0_i32_1466
  let v1590 : BitVec 1 := Scalar.xori v1588 v1589
  let c0_i32_1464 : BitVec 32 := 0#32
  let v1587 : BitVec 1 := Scalar.cmpi .ne v1586 c0_i32_1464
  let v1591 : BitVec 1 := Scalar.andi v1590 v1587
  let v1592 : BitVec 32 := Scalar.addi v1586 v1585
  let v1593 : BitVec 32 := Scalar.select v1591 v1592 v1586
  let c1_i32_1470 : BitVec 32 := 1#32
  let v1594 : BitVec 32 := Scalar.muli v1593 c1_i32_1470
  let v1595 : BitVec 32 := Scalar.addi c0_i32_1471 v1594
  v1595.toNat
def k0_dev58 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1474 : BitVec 32 := 5#32
  let v1602 : BitVec 32 := Scalar.addi v2 c5_i32_1474
  let c16_i32_1475 : BitVec 32 := 16#32
  let c0_i32_1476 : BitVec 32 := 0#32
  let v1603 : BitVec 1 := Scalar.cmpi .eq c16_i32_1475 c0_i32_1476
  let c1_i32_1477 : BitVec 32 := 1#32
  let v1604 : BitVec 32 := Scalar.select v1603 c1_i32_1477 c16_i32_1475
  let v1605 : BitVec 32 := Scalar.remsi v1602 v1604
  let c0_i32_1479 : BitVec 32 := 0#32
  let v1607 : BitVec 1 := Scalar.cmpi .slt v1605 c0_i32_1479
  let c0_i32_1480 : BitVec 32 := 0#32
  let v1608 : BitVec 1 := Scalar.cmpi .slt v1604 c0_i32_1480
  let v1609 : BitVec 1 := Scalar.xori v1607 v1608
  let c0_i32_1478 : BitVec 32 := 0#32
  let v1606 : BitVec 1 := Scalar.cmpi .ne v1605 c0_i32_1478
  let v1610 : BitVec 1 := Scalar.andi v1609 v1606
  let v1611 : BitVec 32 := Scalar.addi v1605 v1604
  let v1612 : BitVec 32 := Scalar.select v1610 v1611 v1605
  let c1_i32_1484 : BitVec 32 := 1#32
  let v1613 : BitVec 32 := Scalar.muli v1612 c1_i32_1484
  let v1614 : BitVec 32 := Scalar.addi c0_i32_1485 v1613
  v1614.toNat
def k0_dev59 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1488 : BitVec 32 := 6#32
  let v1621 : BitVec 32 := Scalar.addi v2 c6_i32_1488
  let c16_i32_1489 : BitVec 32 := 16#32
  let c0_i32_1490 : BitVec 32 := 0#32
  let v1622 : BitVec 1 := Scalar.cmpi .eq c16_i32_1489 c0_i32_1490
  let c1_i32_1491 : BitVec 32 := 1#32
  let v1623 : BitVec 32 := Scalar.select v1622 c1_i32_1491 c16_i32_1489
  let v1624 : BitVec 32 := Scalar.remsi v1621 v1623
  let c0_i32_1493 : BitVec 32 := 0#32
  let v1626 : BitVec 1 := Scalar.cmpi .slt v1624 c0_i32_1493
  let c0_i32_1494 : BitVec 32 := 0#32
  let v1627 : BitVec 1 := Scalar.cmpi .slt v1623 c0_i32_1494
  let v1628 : BitVec 1 := Scalar.xori v1626 v1627
  let c0_i32_1492 : BitVec 32 := 0#32
  let v1625 : BitVec 1 := Scalar.cmpi .ne v1624 c0_i32_1492
  let v1629 : BitVec 1 := Scalar.andi v1628 v1625
  let v1630 : BitVec 32 := Scalar.addi v1624 v1623
  let v1631 : BitVec 32 := Scalar.select v1629 v1630 v1624
  let c1_i32_1498 : BitVec 32 := 1#32
  let v1632 : BitVec 32 := Scalar.muli v1631 c1_i32_1498
  let v1633 : BitVec 32 := Scalar.addi c0_i32_1499 v1632
  v1633.toNat
def k0_dev60 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1502 : BitVec 32 := 7#32
  let v1640 : BitVec 32 := Scalar.addi v2 c7_i32_1502
  let c16_i32_1503 : BitVec 32 := 16#32
  let c0_i32_1504 : BitVec 32 := 0#32
  let v1641 : BitVec 1 := Scalar.cmpi .eq c16_i32_1503 c0_i32_1504
  let c1_i32_1505 : BitVec 32 := 1#32
  let v1642 : BitVec 32 := Scalar.select v1641 c1_i32_1505 c16_i32_1503
  let v1643 : BitVec 32 := Scalar.remsi v1640 v1642
  let c0_i32_1507 : BitVec 32 := 0#32
  let v1645 : BitVec 1 := Scalar.cmpi .slt v1643 c0_i32_1507
  let c0_i32_1508 : BitVec 32 := 0#32
  let v1646 : BitVec 1 := Scalar.cmpi .slt v1642 c0_i32_1508
  let v1647 : BitVec 1 := Scalar.xori v1645 v1646
  let c0_i32_1506 : BitVec 32 := 0#32
  let v1644 : BitVec 1 := Scalar.cmpi .ne v1643 c0_i32_1506
  let v1648 : BitVec 1 := Scalar.andi v1647 v1644
  let v1649 : BitVec 32 := Scalar.addi v1643 v1642
  let v1650 : BitVec 32 := Scalar.select v1648 v1649 v1643
  let c1_i32_1512 : BitVec 32 := 1#32
  let v1651 : BitVec 32 := Scalar.muli v1650 c1_i32_1512
  let v1652 : BitVec 32 := Scalar.addi c0_i32_1513 v1651
  v1652.toNat
def k0_dev61 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1516 : BitVec 32 := 8#32
  let v1659 : BitVec 32 := Scalar.addi v2 c8_i32_1516
  let c16_i32_1517 : BitVec 32 := 16#32
  let c0_i32_1518 : BitVec 32 := 0#32
  let v1660 : BitVec 1 := Scalar.cmpi .eq c16_i32_1517 c0_i32_1518
  let c1_i32_1519 : BitVec 32 := 1#32
  let v1661 : BitVec 32 := Scalar.select v1660 c1_i32_1519 c16_i32_1517
  let v1662 : BitVec 32 := Scalar.remsi v1659 v1661
  let c0_i32_1521 : BitVec 32 := 0#32
  let v1664 : BitVec 1 := Scalar.cmpi .slt v1662 c0_i32_1521
  let c0_i32_1522 : BitVec 32 := 0#32
  let v1665 : BitVec 1 := Scalar.cmpi .slt v1661 c0_i32_1522
  let v1666 : BitVec 1 := Scalar.xori v1664 v1665
  let c0_i32_1520 : BitVec 32 := 0#32
  let v1663 : BitVec 1 := Scalar.cmpi .ne v1662 c0_i32_1520
  let v1667 : BitVec 1 := Scalar.andi v1666 v1663
  let v1668 : BitVec 32 := Scalar.addi v1662 v1661
  let v1669 : BitVec 32 := Scalar.select v1667 v1668 v1662
  let c1_i32_1526 : BitVec 32 := 1#32
  let v1670 : BitVec 32 := Scalar.muli v1669 c1_i32_1526
  let v1671 : BitVec 32 := Scalar.addi c0_i32_1527 v1670
  v1671.toNat
def k0_dev62 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1530 : BitVec 32 := 9#32
  let v1678 : BitVec 32 := Scalar.addi v2 c9_i32_1530
  let c16_i32_1531 : BitVec 32 := 16#32
  let c0_i32_1532 : BitVec 32 := 0#32
  let v1679 : BitVec 1 := Scalar.cmpi .eq c16_i32_1531 c0_i32_1532
  let c1_i32_1533 : BitVec 32 := 1#32
  let v1680 : BitVec 32 := Scalar.select v1679 c1_i32_1533 c16_i32_1531
  let v1681 : BitVec 32 := Scalar.remsi v1678 v1680
  let c0_i32_1535 : BitVec 32 := 0#32
  let v1683 : BitVec 1 := Scalar.cmpi .slt v1681 c0_i32_1535
  let c0_i32_1536 : BitVec 32 := 0#32
  let v1684 : BitVec 1 := Scalar.cmpi .slt v1680 c0_i32_1536
  let v1685 : BitVec 1 := Scalar.xori v1683 v1684
  let c0_i32_1534 : BitVec 32 := 0#32
  let v1682 : BitVec 1 := Scalar.cmpi .ne v1681 c0_i32_1534
  let v1686 : BitVec 1 := Scalar.andi v1685 v1682
  let v1687 : BitVec 32 := Scalar.addi v1681 v1680
  let v1688 : BitVec 32 := Scalar.select v1686 v1687 v1681
  let c1_i32_1540 : BitVec 32 := 1#32
  let v1689 : BitVec 32 := Scalar.muli v1688 c1_i32_1540
  let v1690 : BitVec 32 := Scalar.addi c0_i32_1541 v1689
  v1690.toNat
def k0_dev63 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1544 : BitVec 32 := 10#32
  let v1697 : BitVec 32 := Scalar.addi v2 c10_i32_1544
  let c16_i32_1545 : BitVec 32 := 16#32
  let c0_i32_1546 : BitVec 32 := 0#32
  let v1698 : BitVec 1 := Scalar.cmpi .eq c16_i32_1545 c0_i32_1546
  let c1_i32_1547 : BitVec 32 := 1#32
  let v1699 : BitVec 32 := Scalar.select v1698 c1_i32_1547 c16_i32_1545
  let v1700 : BitVec 32 := Scalar.remsi v1697 v1699
  let c0_i32_1549 : BitVec 32 := 0#32
  let v1702 : BitVec 1 := Scalar.cmpi .slt v1700 c0_i32_1549
  let c0_i32_1550 : BitVec 32 := 0#32
  let v1703 : BitVec 1 := Scalar.cmpi .slt v1699 c0_i32_1550
  let v1704 : BitVec 1 := Scalar.xori v1702 v1703
  let c0_i32_1548 : BitVec 32 := 0#32
  let v1701 : BitVec 1 := Scalar.cmpi .ne v1700 c0_i32_1548
  let v1705 : BitVec 1 := Scalar.andi v1704 v1701
  let v1706 : BitVec 32 := Scalar.addi v1700 v1699
  let v1707 : BitVec 32 := Scalar.select v1705 v1706 v1700
  let c1_i32_1554 : BitVec 32 := 1#32
  let v1708 : BitVec 32 := Scalar.muli v1707 c1_i32_1554
  let v1709 : BitVec 32 := Scalar.addi c0_i32_1555 v1708
  v1709.toNat
def k0_dev64 (d0 : Dev nD) : Nat :=
  let c0_i32_1569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1558 : BitVec 32 := 11#32
  let v1716 : BitVec 32 := Scalar.addi v2 c11_i32_1558
  let c16_i32_1559 : BitVec 32 := 16#32
  let c0_i32_1560 : BitVec 32 := 0#32
  let v1717 : BitVec 1 := Scalar.cmpi .eq c16_i32_1559 c0_i32_1560
  let c1_i32_1561 : BitVec 32 := 1#32
  let v1718 : BitVec 32 := Scalar.select v1717 c1_i32_1561 c16_i32_1559
  let v1719 : BitVec 32 := Scalar.remsi v1716 v1718
  let c0_i32_1563 : BitVec 32 := 0#32
  let v1721 : BitVec 1 := Scalar.cmpi .slt v1719 c0_i32_1563
  let c0_i32_1564 : BitVec 32 := 0#32
  let v1722 : BitVec 1 := Scalar.cmpi .slt v1718 c0_i32_1564
  let v1723 : BitVec 1 := Scalar.xori v1721 v1722
  let c0_i32_1562 : BitVec 32 := 0#32
  let v1720 : BitVec 1 := Scalar.cmpi .ne v1719 c0_i32_1562
  let v1724 : BitVec 1 := Scalar.andi v1723 v1720
  let v1725 : BitVec 32 := Scalar.addi v1719 v1718
  let v1726 : BitVec 32 := Scalar.select v1724 v1725 v1719
  let c1_i32_1568 : BitVec 32 := 1#32
  let v1727 : BitVec 32 := Scalar.muli v1726 c1_i32_1568
  let v1728 : BitVec 32 := Scalar.addi c0_i32_1569 v1727
  v1728.toNat
def k0_dev65 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1572 : BitVec 32 := 12#32
  let v1735 : BitVec 32 := Scalar.addi v2 c12_i32_1572
  let c16_i32_1573 : BitVec 32 := 16#32
  let c0_i32_1574 : BitVec 32 := 0#32
  let v1736 : BitVec 1 := Scalar.cmpi .eq c16_i32_1573 c0_i32_1574
  let c1_i32_1575 : BitVec 32 := 1#32
  let v1737 : BitVec 32 := Scalar.select v1736 c1_i32_1575 c16_i32_1573
  let v1738 : BitVec 32 := Scalar.remsi v1735 v1737
  let c0_i32_1577 : BitVec 32 := 0#32
  let v1740 : BitVec 1 := Scalar.cmpi .slt v1738 c0_i32_1577
  let c0_i32_1578 : BitVec 32 := 0#32
  let v1741 : BitVec 1 := Scalar.cmpi .slt v1737 c0_i32_1578
  let v1742 : BitVec 1 := Scalar.xori v1740 v1741
  let c0_i32_1576 : BitVec 32 := 0#32
  let v1739 : BitVec 1 := Scalar.cmpi .ne v1738 c0_i32_1576
  let v1743 : BitVec 1 := Scalar.andi v1742 v1739
  let v1744 : BitVec 32 := Scalar.addi v1738 v1737
  let v1745 : BitVec 32 := Scalar.select v1743 v1744 v1738
  let c1_i32_1582 : BitVec 32 := 1#32
  let v1746 : BitVec 32 := Scalar.muli v1745 c1_i32_1582
  let v1747 : BitVec 32 := Scalar.addi c0_i32_1583 v1746
  v1747.toNat
def k0_dev66 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1586 : BitVec 32 := 13#32
  let v1754 : BitVec 32 := Scalar.addi v2 c13_i32_1586
  let c16_i32_1587 : BitVec 32 := 16#32
  let c0_i32_1588 : BitVec 32 := 0#32
  let v1755 : BitVec 1 := Scalar.cmpi .eq c16_i32_1587 c0_i32_1588
  let c1_i32_1589 : BitVec 32 := 1#32
  let v1756 : BitVec 32 := Scalar.select v1755 c1_i32_1589 c16_i32_1587
  let v1757 : BitVec 32 := Scalar.remsi v1754 v1756
  let c0_i32_1591 : BitVec 32 := 0#32
  let v1759 : BitVec 1 := Scalar.cmpi .slt v1757 c0_i32_1591
  let c0_i32_1592 : BitVec 32 := 0#32
  let v1760 : BitVec 1 := Scalar.cmpi .slt v1756 c0_i32_1592
  let v1761 : BitVec 1 := Scalar.xori v1759 v1760
  let c0_i32_1590 : BitVec 32 := 0#32
  let v1758 : BitVec 1 := Scalar.cmpi .ne v1757 c0_i32_1590
  let v1762 : BitVec 1 := Scalar.andi v1761 v1758
  let v1763 : BitVec 32 := Scalar.addi v1757 v1756
  let v1764 : BitVec 32 := Scalar.select v1762 v1763 v1757
  let c1_i32_1596 : BitVec 32 := 1#32
  let v1765 : BitVec 32 := Scalar.muli v1764 c1_i32_1596
  let v1766 : BitVec 32 := Scalar.addi c0_i32_1597 v1765
  v1766.toNat
def k0_dev67 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1600 : BitVec 32 := 14#32
  let v1773 : BitVec 32 := Scalar.addi v2 c14_i32_1600
  let c16_i32_1601 : BitVec 32 := 16#32
  let c0_i32_1602 : BitVec 32 := 0#32
  let v1774 : BitVec 1 := Scalar.cmpi .eq c16_i32_1601 c0_i32_1602
  let c1_i32_1603 : BitVec 32 := 1#32
  let v1775 : BitVec 32 := Scalar.select v1774 c1_i32_1603 c16_i32_1601
  let v1776 : BitVec 32 := Scalar.remsi v1773 v1775
  let c0_i32_1605 : BitVec 32 := 0#32
  let v1778 : BitVec 1 := Scalar.cmpi .slt v1776 c0_i32_1605
  let c0_i32_1606 : BitVec 32 := 0#32
  let v1779 : BitVec 1 := Scalar.cmpi .slt v1775 c0_i32_1606
  let v1780 : BitVec 1 := Scalar.xori v1778 v1779
  let c0_i32_1604 : BitVec 32 := 0#32
  let v1777 : BitVec 1 := Scalar.cmpi .ne v1776 c0_i32_1604
  let v1781 : BitVec 1 := Scalar.andi v1780 v1777
  let v1782 : BitVec 32 := Scalar.addi v1776 v1775
  let v1783 : BitVec 32 := Scalar.select v1781 v1782 v1776
  let c1_i32_1610 : BitVec 32 := 1#32
  let v1784 : BitVec 32 := Scalar.muli v1783 c1_i32_1610
  let v1785 : BitVec 32 := Scalar.addi c0_i32_1611 v1784
  v1785.toNat
def k0_dev68 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1614 : BitVec 32 := 15#32
  let v1792 : BitVec 32 := Scalar.addi v2 c15_i32_1614
  let c16_i32_1615 : BitVec 32 := 16#32
  let c0_i32_1616 : BitVec 32 := 0#32
  let v1793 : BitVec 1 := Scalar.cmpi .eq c16_i32_1615 c0_i32_1616
  let c1_i32_1617 : BitVec 32 := 1#32
  let v1794 : BitVec 32 := Scalar.select v1793 c1_i32_1617 c16_i32_1615
  let v1795 : BitVec 32 := Scalar.remsi v1792 v1794
  let c0_i32_1619 : BitVec 32 := 0#32
  let v1797 : BitVec 1 := Scalar.cmpi .slt v1795 c0_i32_1619
  let c0_i32_1620 : BitVec 32 := 0#32
  let v1798 : BitVec 1 := Scalar.cmpi .slt v1794 c0_i32_1620
  let v1799 : BitVec 1 := Scalar.xori v1797 v1798
  let c0_i32_1618 : BitVec 32 := 0#32
  let v1796 : BitVec 1 := Scalar.cmpi .ne v1795 c0_i32_1618
  let v1800 : BitVec 1 := Scalar.andi v1799 v1796
  let v1801 : BitVec 32 := Scalar.addi v1795 v1794
  let v1802 : BitVec 32 := Scalar.select v1800 v1801 v1795
  let c1_i32_1624 : BitVec 32 := 1#32
  let v1803 : BitVec 32 := Scalar.muli v1802 c1_i32_1624
  let v1804 : BitVec 32 := Scalar.addi c0_i32_1625 v1803
  v1804.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Clean.lean ====
/- The kernel's body, written once more as what its source says: phases over families of
   operations indexed by the ring step, the column half and the neighbour. `body_eq` says it is the
   printed body. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MatProof

open Cert.KernelIdeal Cert.KernelIdeal.Gen
open Idealize.ShloMosaic
open Idealize.ShloMosaic.TcCoe
open Idealize.SL.Sem

variable {F : FTy → Type} [FloatOps F]

/-! ## Devices and row offsets, as the program computes them -/

/-- The logical id of the device `w` places after `d` on the ring of sixteen, in the program's words. -/
def aheadW (w : BitVec 32) (d0 : Dev nD) : Nat :=
  let v2 : BitVec 32 := Scalar.remsi (Scalar.divsi (Dev.word d0) 1#32) 16#32
  let v231 : BitVec 32 := Scalar.addi v2 w
  let v233 : BitVec 32 := Scalar.select (Scalar.cmpi .eq 16#32 0#32) 1#32 16#32
  let v234 : BitVec 32 := Scalar.remsi v231 v233
  let v239 : BitVec 1 := Scalar.andi (Scalar.xori (Scalar.cmpi .slt v234 0#32) (Scalar.cmpi .slt v233 0#32)) (Scalar.cmpi .ne v234 0#32)
  let v241 : BitVec 32 := Scalar.select v239 (Scalar.addi v234 v233) v234
  (Scalar.addi 0#32 (Scalar.muli v241 1#32)).toNat

theorem aheadW_eq : ∀ (o : Fin 16) (d : Dev nD), aheadW (BitVec.ofNat 32 o.val) d = (d.val + o.val) % 16 := by
  decide +kernel

theorem aheadW_lt (o : ℕ) (d : Dev nD) : aheadW (BitVec.ofNat 32 (o % 16)) d < nD := by
  rw [aheadW_eq ⟨o % 16, Nat.mod_lt _ (by decide)⟩ d]; exact Nat.mod_lt _ (by decide)

/-- The device `o` places ahead of `d`. -/
def ahead (o : ℕ) (d : Dev nD) : Dev nD := ⟨aheadW (BitVec.ofNat 32 (o % 16)) d, aheadW_lt o d⟩

/-- The device one place behind `d`. -/
def behind (d : Dev nD) : Dev nD := ⟨k0_dev26 d, k0_dev26_lt d⟩

/-! ## The buffers' slots and the semaphores, as total families -/

theorem inb9 (o : ℕ) : ∀ a, (![o % 9, 0, 0] : Fin 3 → Nat) a + S1x256x256.size a ≤ S9x256x256.size a := by
  have h : o % 9 < 9 := Nat.mod_lt _ (by decide)
  intro a; fin_cases a
  · show o % 9 + 1 ≤ 9; omega
  · show 0 + 256 ≤ 256; omega
  · show 0 + 256 ≤ 256; omega

theorem inb8 (s : ℕ) : ∀ a, (![s % 8, 0, 0] : Fin 3 → Nat) a + S1x256x1024.size a ≤ S8x256x1024.size a := by
  have h : s % 8 < 8 := Nat.mod_lt _ (by decide)
  intro a; fin_cases a
  · show s % 8 + 1 ≤ 8; omega
  · show 0 + 256 ≤ 256; omega
  · show 0 + 1024 ≤ 1024; omega

theorem inb7 (s : ℕ) : ∀ a, (![s % 7, 0, 0] : Fin 3 → Nat) a + S1x256x1024.size a ≤ S7x256x1024.size a := by
  have h : s % 7 < 7 := Nat.mod_lt _ (by decide)
  intro a; fin_cases a
  · show s % 7 + 1 ≤ 7; omega
  · show 0 + 256 ≤ 256; omega
  · show 0 + 1024 ≤ 1024; omega

theorem inb2 (s : ℕ) : ∀ a, (![s % 2, 0, 0] : Fin 3 → Nat) a + S1x256x1024.size a ≤ S2x256x1024.size a := by
  have h : s % 2 < 2 := Nat.mod_lt _ (by decide)
  intro a; fin_cases a
  · show s % 2 + 1 ≤ 2; omega
  · show 0 + 256 ≤ 256; omega
  · show 0 + 1024 ≤ 1024; omega

theorem inb16 (o : ℕ) : ∀ a, (![o % 16, 0, 0] : Fin 3 → Nat) a + S1x8x128.size a ≤ S16x8x128.size a := by
  have h : o % 16 < 16 := Nat.mod_lt _ (by decide)
  intro a; fin_cases a
  · show o % 16 + 1 ≤ 16; omega
  · show 0 + 8 ≤ 8; omega
  · show 0 + 128 ≤ 128; omega

theorem inbSem (n o : ℕ) (hn : 0 < n) : ∀ a, (![o % n] : Fin 1 → Nat) a + S1.size a ≤ (⟨1, ![n]⟩ : Shape).size a := by
  have h : o % n < n := Nat.mod_lt _ hn
  intro a; fin_cases a
  show o % n + 1 ≤ n; omega

theorem inbHalf (q : ℕ) : ∀ a, (![0, 1024 * (q % 2)] : Fin 2 → Nat) a + S256x1024.size a ≤ S256x2048.size a := by
  have h : q % 2 < 2 := Nat.mod_lt _ (by decide)
  intro a; fin_cases a
  · show 0 + 256 ≤ 256; omega
  · show 1024 * (q % 2) + 1024 ≤ 2048; omega

/-- The slot of each buffer a copy or a load names. -/
abbrev rX (o : ℕ) : Rect S9x256x256 := Rect.unit (s := S9x256x256) ![o % 9, 0, 0] S1x256x256.size (inb9 o)
abbrev rR (s : ℕ) : Rect S8x256x1024 := Rect.unit (s := S8x256x1024) ![s % 8, 0, 0] S1x256x1024.size (inb8 s)
abbrev rL (s : ℕ) : Rect S7x256x1024 := Rect.unit (s := S7x256x1024) ![s % 7, 0, 0] S1x256x1024.size (inb7 s)
abbrev rS (b : ℕ) : Rect S2x256x1024 := Rect.unit (s := S2x256x1024) ![b % 2, 0, 0] S1x256x1024.size (inb2 b)
abbrev rA (o : ℕ) : Rect S16x8x128 := Rect.unit (s := S16x8x128) ![o % 16, 0, 0] S1x8x128.size (inb16 o)
/-- Half `q` of the columns, of the weights' and of the output's block. -/
abbrev rH (q : ℕ) : Rect S256x2048 := Rect.unit (s := S256x2048) ![0, 1024 * (q % 2)] S256x1024.size (inbHalf q)
/-- A block of rows of the activations. -/
abbrev rB (off : Fin 2 → Nat) (h : ∀ a, off a + S256x256.size a ≤ S4096x256.size a) : Rect S4096x256 :=
  Rect.unit (s := S4096x256) off S256x256.size h

theorem words8 (s : ℕ) : (rR s).WholeWords (EltTy.packing .bf16) :=
  .inl (.inr ⟨by decide, rfl, .inl ⟨⟨0, rfl⟩, ⟨128, rfl⟩⟩⟩)
theorem words7 (s : ℕ) : (rL s).WholeWords (EltTy.packing .bf16) :=
  .inl (.inr ⟨by decide, rfl, .inl ⟨⟨0, rfl⟩, ⟨128, rfl⟩⟩⟩)
theorem packed2 (s : ℕ) : (rS s).PackedRows (EltTy.packing .bf16) :=
  .inr ⟨by decide, rfl, .inl ⟨⟨0, rfl⟩, ⟨128, rfl⟩⟩⟩
theorem words2 (s : ℕ) : (rS s).WholeWords (EltTy.packing .bf16) := .inl (packed2 s)
theorem words9 (s : ℕ) : (rX s).WholeWords (EltTy.packing .bf16) :=
  .inl (.inr ⟨by decide, rfl, .inl ⟨⟨0, rfl⟩, ⟨128, rfl⟩⟩⟩)
theorem wordsH (q : ℕ) : (rH q).WholeWords (EltTy.packing .bf16) :=
  .inl (.inr ⟨by decide, rfl, .inl ⟨⟨0, rfl⟩, ⟨128, rfl⟩⟩⟩)

/-- The whole buffers: activations, weights, the received activations' rows, the two halves of the
weights' ring, of the partial sums' ring, of the partial sums being sent, the received maxima and the
maximum to send. -/
abbrev mXb : Memref sig .tc .vmem S4096x256 .bf16 := Memref.whole cc0_scratch0
abbrev mWb : Memref sig .tc .vmem S256x2048 .bf16 := Memref.whole cc0_scratch1
abbrev mXr : Memref sig .tc .vmem S9x256x256 .bf16 := Memref.whole cc0_scratch2
abbrev mAb : Memref sig .tc .vmem S16x8x128 .f32 := Memref.whole cc0_scratch9
abbrev mAt : Memref sig .tc .vmem S8x128 .f32 := Memref.whole cc0_scratch10

def mR : ℕ → Memref sig .tc .vmem S8x256x1024 .bf16
  | 0 => Memref.whole cc0_scratch3
  | _ + 1 => Memref.whole cc0_scratch4
def mL : ℕ → Memref sig .tc .vmem S7x256x1024 .bf16
  | 0 => Memref.whole cc0_scratch5
  | _ + 1 => Memref.whole cc0_scratch6
def mS : ℕ → Memref sig .tc .vmem S2x256x1024 .bf16
  | 0 => Memref.whole cc0_scratch7
  | _ + 1 => Memref.whole cc0_scratch8

theorem hmR (q : ℕ) : (mR q).IsWhole := by cases q <;> exact Memref.isWhole_whole _
theorem hmL (q : ℕ) : (mL q).IsWhole := by cases q <;> exact Memref.isWhole_whole _
theorem hmS (q : ℕ) : (mS q).IsWhole := by cases q <;> exact Memref.isWhole_whole _

/-- A slot as the copies name it: the slice, its unit axis dropped. -/
abbrev slX (o : ℕ) : Memref sig .tc .vmem S256x256 .bf16 :=
  (mXr.slice (rX o) (fun _ => rfl)).squeeze S256x256 squeezes_S1x256x256_S256x256
abbrev slR (q s : ℕ) : Memref sig .tc .vmem S256x1024 .bf16 :=
  ((mR q).slice (rR s) (fun _ => rfl)).squeeze S256x1024 squeezes_S1x256x1024_S256x1024
abbrev slL (q s : ℕ) : Memref sig .tc .vmem S256x1024 .bf16 :=
  ((mL q).slice (rL s) (fun _ => rfl)).squeeze S256x1024 squeezes_S1x256x1024_S256x1024
abbrev slS (q b : ℕ) : Memref sig .tc .vmem S256x1024 .bf16 :=
  ((mS q).slice (rS b) (fun _ => rfl)).squeeze S256x1024 squeezes_S1x256x1024_S256x1024
abbrev slA (o : ℕ) : Memref sig .tc .vmem S8x128 .f32 :=
  (mAb.slice (rA o) (fun _ => rfl)).squeeze S8x128 squeezes_S1x8x128_S8x128
abbrev slW (q : ℕ) : Memref sig .tc .vmem S256x1024 .bf16 := mWb.slice (rH q) (fun _ => rfl)
abbrev slB (off : Fin 2 → Nat) (h : ∀ a, off a + S256x256.size a ≤ S4096x256.size a) : Memref sig .tc .vmem S256x256 .bf16 :=
  mXb.slice (rB off h) (fun _ => rfl)

/-- The source of copy `s` of the weights' ring: the device's own half, then the slot before. -/
def srcR (q : ℕ) : ℕ → Memref sig .tc .vmem S256x1024 .bf16
  | 0 => slW q
  | s + 1 => slR q s

def sem8 (a : DmaSems sig S8) (i : ℕ) : DmaSem sig :=
  ((a.slice (Rect.unit (s := S8) ![i % 8] S1.size (inbSem 8 i (by decide)))).squeeze S_ squeezes_S1_S_).sem
def sem7 (a : DmaSems sig S7) (i : ℕ) : DmaSem sig :=
  ((a.slice (Rect.unit (s := S7) ![i % 7] S1.size (inbSem 7 i (by decide)))).squeeze S_ squeezes_S1_S_).sem
def sem2 (a : DmaSems sig S2) (i : ℕ) : DmaSem sig :=
  ((a.slice (Rect.unit (s := S2) ![i % 2] S1.size (inbSem 2 i (by decide)))).squeeze S_ squeezes_S1_S_).sem
def sem15 (a : DmaSems sig S15) (i : ℕ) : DmaSem sig :=
  ((a.slice (Rect.unit (s := S15) ![i % 15] S1.size (inbSem 15 i (by decide)))).squeeze S_ squeezes_S1_S_).sem

/-- The semaphores: arrival (`v`) and departure (`d`) of each family of copies. -/
def semRv : ℕ → ℕ → DmaSem sig
  | 0, s => sem8 cc0_scratch11 s
  | _ + 1, s => sem8 cc0_scratch12 s
def semRd : ℕ → ℕ → DmaSem sig
  | 0, s => sem8 cc0_scratch13 s
  | _ + 1, s => sem8 cc0_scratch14 s
def semLv : ℕ → ℕ → DmaSem sig
  | 0, s => sem7 cc0_scratch15 s
  | _ + 1, s => sem7 cc0_scratch16 s
def semLd : ℕ → ℕ → DmaSem sig
  | 0, b => sem2 cc0_scratch17 b
  | _ + 1, b => sem2 cc0_scratch18 b
def semXd (i : ℕ) : DmaSem sig := sem8 cc0_scratch19 i
def semXv (i : ℕ) : DmaSem sig := sem8 cc0_scratch20 i
def semAd (i : ℕ) : DmaSem sig := sem15 cc0_scratch21 i
def semAv (i : ℕ) : DmaSem sig := sem15 cc0_scratch22 i
abbrev barS : Sem sig := (SemArray.scalar (sig.barrier 0 rfl) : Sems sig S_).sem

/-! ## The operations -/

abbrev KProg (F : FTy → Type) (α : Type) : Type 1 := Prog (TpuEff nD τ sig (Elt F) Λ₀ .tc) α

/-- Run `f i`, …, `f (i + n - 1)`. -/
def rep (f : ℕ → KProg F PUnit) : ℕ → ℕ → KProg F PUnit
  | _, 0 => pure ⟨⟩
  | i, n + 1 => f i >>= fun _ => rep f (i + 1) n

theorem exR (q s : ℕ) : (slR q s).view.WordExact := ((hmR q).wordExact_slice rfl _ (words8 s)).reshape _ _
theorem exL (q s : ℕ) : (slL q s).view.WordExact := ((hmL q).wordExact_slice rfl _ (words7 s)).reshape _ _
theorem exS (q s : ℕ) : (slS q s).view.WordExact := ((hmS q).wordExact_slice rfl _ (words2 s)).reshape _ _
theorem exX (o : ℕ) : (slX o).view.WordExact := ((Memref.isWhole_whole cc0_scratch2).wordExact_slice rfl _ (words9 o)).reshape _ _
theorem exW (q : ℕ) : (slW q).view.WordExact := (Memref.isWhole_whole cc0_scratch1).wordExact_slice rfl _ (wordsH q)
theorem exA (o : ℕ) : (slA o).view.WordExact := (View.wordExact_bits rfl).reshape _ _
theorem exAt : mAt.view.WordExact := (Memref.isWhole_whole cc0_scratch10).wordExact
theorem exB (off : Fin 2 → Nat) (h) (hw : (rB off h).WholeWords (EltTy.packing .bf16)) : (slB off h).view.WordExact :=
  (Memref.isWhole_whole cc0_scratch0).wordExact_slice rfl _ hw
theorem exSrcR (q : ℕ) : ∀ s, (srcR q s).view.WordExact
  | 0 => exW q
  | s + 1 => exR q s

/-- The rows the activations' copy `i + 1` reads, and those the products read. -/
abbrev off1 (d : Dev nD) (i : ℕ) : Fin 2 → Nat := k0_off1 d (BitVec.ofNat 32 (1 + i % 8))
theorem off1_inb (d : Dev nD) (i : ℕ) : ∀ a, off1 d i a + S256x256.size a ≤ S4096x256.size a :=
  k0_off1_inb d ⟨i % 8, Nat.mod_lt _ (by decide)⟩
theorem off1_words (d : Dev nD) (i : ℕ) : (rB (off1 d i) (off1_inb d i)).WholeWords (EltTy.packing .bf16) :=
  k0_off1_wordsbf16 d ⟨i % 8, Nat.mod_lt _ (by decide)⟩
abbrev off4 (d : Dev nD) (s : ℕ) : Fin 2 → Nat := k0_off4 d (BitVec.ofNat 32 (s % 6))
theorem off4_inb (d : Dev nD) (s : ℕ) : ∀ a, off4 d s a + S256x256.size a ≤ S4096x256.size a :=
  k0_off4_inb d ⟨s % 6, Nat.mod_lt _ (by decide)⟩

abbrev VX (F : FTy → Type) : Type := Vec F S256x256 .bf16
abbrev VW (F : FTy → Type) : Type := Vec F S256x1024 .bf16
abbrev VF (F : FTy → Type) : Type := FVec F S256x1024 .f32
abbrev V1 (F : FTy → Type) : Type := Vec F S1x256x1024 .bf16

/-- The product of a block of rows with half the columns. -/
def pdot (x : VX F) (w : VW F) : VF F :=
  matmul dot_S256x256_S256x1024_S256x1024_1_0_0_1_n_n none x w (constant S256x1024 .f32 0x00000000#32)
/-- A partial sum as it travels. -/
def packS (v : VF F) : V1 F :=
  shapeCast S1x256x1024 (truncf .bf16 v bitsLt_bf16_f32 : FVec F S256x1024 .bf16) shapeCasts_S256x1024_S1x256x1024
def dropW (v : V1 F) : VW F := shapeCast S256x1024 v shapeCasts_S1x256x1024_S256x1024
def dropX (v : Vec F S1x256x256 .bf16) : VX F := shapeCast S256x256 v shapeCasts_S1x256x256_S256x256
def widen (v : VW F) : VF F := extf .f32 (v : FVec F S256x1024 .bf16) bitsLt_bf16_f32

def opSig (d : Dev nD) (i : ℕ) : KProg F PUnit := semSignalWord (ahead (i + 1) d) barS 1#32
def opBar : KProg F PUnit := semWaitWord barS 15#32

/-- Stage the two operands. -/
def opStage (a0 : Memref sig .tc .vmem S4096x256 .bf16) (a1 : Memref sig .tc .vmem S256x2048 .bf16) : KProg F PUnit := do
  let v221 : Vec F S4096x256 .bf16 ← Prog.lift (.load a0 (Rect.unit (s := S4096x256) ![0, 0] S4096x256.size inb_S4096x256_S4096x256_0_0).toLoadRect (View.loadsAt_vmem h_S4096x256))
  let _ : Vec F S4096x256 .bf16 ← Prog.lift (.load mXb (Rect.unit (s := S4096x256) ![0, 0] S4096x256.size inb_S4096x256_S4096x256_0_0).toLoadRect (View.loadsAt_vmem h_S4096x256))
  Prog.lift (.store mXb (Rect.unit (s := S4096x256) ![0, 0] S4096x256.size inb_S4096x256_S4096x256_0_0) (k0_pay2 v221) Finset.univ (View.stores_vmem h_S4096x256 ((Memref.isWhole_whole cc0_scratch0).storeExact_slice rfl _ packedbf16_S4096x256_S4096x256_0_0) (fun _ => rfl)) (.inl rfl))
  let v226 : Vec F S256x2048 .bf16 ← Prog.lift (.load a1 (Rect.unit (s := S256x2048) ![0, 0] S256x2048.size inb_S256x2048_S256x2048_0_0).toLoadRect (View.loadsAt_vmem h_S256x2048))
  let _ : Vec F S256x2048 .bf16 ← Prog.lift (.load mWb (Rect.unit (s := S256x2048) ![0, 0] S256x2048.size inb_S256x2048_S256x2048_0_0).toLoadRect (View.loadsAt_vmem h_S256x2048))
  Prog.lift (.store mWb (Rect.unit (s := S256x2048) ![0, 0] S256x2048.size inb_S256x2048_S256x2048_0_0) (k0_pay4 (k0_pay3 v226)) Finset.univ (View.stores_vmem h_S256x2048 ((Memref.isWhole_whole cc0_scratch1).storeExact_slice rfl _ packedbf16_S256x2048_S256x2048_0_0) (fun _ => rfl)) (.inl rfl))

/-- Send block `i + 1` of the rows to the device `i + 1` ahead, and the other copies. -/
def opSendX (d : Dev nD) (i : ℕ) : KProg F PUnit :=
  Prog.lift (.enqueueDma (slB (off1 d i) (off1_inb d i)) (.remote (Dev.tc (ahead (i + 1) d)) (slX (i + 1)) (.dma (semXd i))) (.dma (semXv i))
    (exB _ _ (off1_words d i)) (exX _) ⟨⟨rfl, Or.inl rfl⟩, trivial⟩)
def opWaitXv (d : Dev nD) (i : ℕ) : KProg F PUnit :=
  Prog.lift (.waitDma2 (semXv i) (slB (off1 d i) (off1_inb d i)) (slX (i + 1)) (exB _ _ (off1_words d i)) (exX _))
def opWaitXd (d : Dev nD) (i : ℕ) : KProg F PUnit :=
  Prog.lift (.waitDma2 (semXd i) (slX (i + 1)) (slB (off1 d i) (off1_inb d i)) (exX _) (exB _ _ (off1_words d i)))

def opSendR (d : Dev nD) (q s : ℕ) : KProg F PUnit :=
  Prog.lift (.enqueueDma (srcR q s) (.remote (Dev.tc (ahead 1 d)) (slR q s) (.dma (semRd q s))) (.dma (semRv q s))
    (exSrcR q s) (exR q s) ⟨⟨rfl, Or.inl rfl⟩, trivial⟩)
def opWaitRv (q s : ℕ) : KProg F PUnit :=
  Prog.lift (.waitDma2 (semRv q s) (srcR q s) (slR q s) (exSrcR q s) (exR q s))
def opWaitRd (q s : ℕ) : KProg F PUnit :=
  Prog.lift (.waitDma2 (semRd q s) (slR q s) (srcR q s) (exR q s) (exSrcR q s))

def opSendL (d : Dev nD) (q s : ℕ) : KProg F PUnit :=
  Prog.lift (.enqueueDma (slS q s) (.remote (Dev.tc (behind d)) (slL q s) (.dma (semLd q s))) (.dma (semLv q s))
    (exS q s) (exL q s) ⟨⟨rfl, Or.inl rfl⟩, trivial⟩)
def opWaitLv (q s : ℕ) : KProg F PUnit :=
  Prog.lift (.waitDma2 (semLv q s) (slS q s) (slL q s) (exS q s) (exL q s))
def opWaitLd (q s : ℕ) : KProg F PUnit :=
  Prog.lift (.waitDma2 (semLd q s) (slL q s) (slS q s) (exL q s) (exS q s))

def opSendA (d : Dev nD) (i : ℕ) : KProg F PUnit :=
  Prog.lift (.enqueueDma mAt (.remote (Dev.tc (ahead (i + 1) d)) (slA (i + 1)) (.dma (semAd i))) (.dma (semAv i))
    exAt (exA _) ⟨⟨rfl, Or.inl rfl⟩, trivial⟩)
def opWaitAd (i : ℕ) : KProg F PUnit := Prog.lift (.waitDma2 (semAd i) (slA (i + 1)) mAt (exA _) exAt)
def opWaitAv (i : ℕ) : KProg F PUnit := Prog.lift (.waitDma2 (semAv i) mAt (slA (i + 1)) exAt (exA _))

def ldX (off : Fin 2 → Nat) (h : ∀ a, off a + S256x256.size a ≤ S4096x256.size a) : KProg F (VX F) :=
  Prog.lift (.load mXb (rB off h).toLoadRect (View.loadsAt_vmem h_S256x256))
def ldW (q : ℕ) : KProg F (VW F) := Prog.lift (.load mWb (rH q).toLoadRect (View.loadsAt_vmem h_S256x1024))
def ldXr (s : ℕ) : KProg F (Vec F S1x256x256 .bf16) := Prog.lift (.load mXr (rX s).toLoadRect (View.loadsAt_vmem h_S1x256x256))
def ldR (q s : ℕ) : KProg F (V1 F) := Prog.lift (.load (mR q) (rR s).toLoadRect (View.loadsAt_vmem h_S1x256x1024))
def ldL (q s : ℕ) : KProg F (V1 F) := Prog.lift (.load (mL q) (rL s).toLoadRect (View.loadsAt_vmem h_S1x256x1024))
def ldS (q b : ℕ) : KProg F (V1 F) := Prog.lift (.load (mS q) (rS b).toLoadRect (View.loadsAt_vmem h_S1x256x1024))
def stS (q b : ℕ) (v : V1 F) : KProg F PUnit :=
  Prog.lift (.store (mS q) (rS b) v Finset.univ (View.stores_vmem h_S1x256x1024 ((hmS q).storeExact_slice rfl _ (packed2 b)) (fun _ => rfl)) (.inl rfl))

/-- The device's own block's products with its own weights: the accumulators' first values. -/
def opOwn (d : Dev nD) : KProg F (VF F × VF F) := do
  let x ← ldX (k0_off2 d) (k0_off2_inb d)
  let w0 ← ldW 0
  let w1 ← ldW 1
  pure (pdot x w0, pdot x w1)

/-- The first partial sum of half `q`, put in slot 0. -/
def opFirst (d : Dev nD) (q : ℕ) : KProg F PUnit := do
  let x ← ldX (k0_off3 d) (k0_off3_inb d)
  let w ← ldW q
  let _ ← ldS q 0
  stS q 0 (packS (pdot x w))

/-- The products step `s` adds to the partial sums. -/
def opNext (d : Dev nD) (s q : ℕ) : KProg F (VF F) := do
  let x ← ldX (off4 d s) (off4_inb d s)
  let w ← ldW q
  pure (pdot x w)

/-- A half arrives and goes on. -/
def opFwd (d : Dev nD) (s q : ℕ) : KProg F PUnit := do
  opWaitRv q s
  opSendR d q (s + 1)

/-- The neighbour's partial sum arrives, the device's product is added, the sum put in the next slot. -/
def opAddFirst (q : ℕ) (p : VF F) : KProg F PUnit := do
  opWaitLv q 0
  let l ← ldL q 0
  let _ ← ldS q 1
  stS q 1 (packS (addf (widen (dropW l)) p))
def opAdd (s q : ℕ) (p : VF F) : KProg F PUnit := do
  opWaitLv q s
  let l ← ldL q s
  opWaitLd q (s - 1)
  let _ ← ldS q (s + 1)
  stS q (s + 1) (packS (addf (widen (dropW l)) p))

/-- The arrived weights' products, added to the accumulators. -/
def opAcc (s : ℕ) (acc : VF F × VF F) : KProg F (VF F × VF F) := do
  let x0 ← ldXr (s + 1)
  let w0 ← ldR 0 s
  let x1 ← ldXr (s + 1)
  let w1 ← ldR 1 s
  pure (addf acc.1 (pdot (dropX x0) (dropW w0)), addf acc.2 (pdot (dropX x1) (dropW w1)))

def step0 (d : Dev nD) (acc : VF F × VF F) : KProg F (VF F × VF F) := do
  opSendL d 0 0
  opSendL d 1 0
  let p0 ← opNext d 0 0
  let p1 ← opNext d 0 1
  opFwd d 0 0
  opFwd d 0 1
  opAddFirst 0 p0
  opAddFirst 1 p1
  opAcc 0 acc
def stepM (d : Dev nD) (s : ℕ) (acc : VF F × VF F) : KProg F (VF F × VF F) := do
  opSendL d 0 s
  opSendL d 1 s
  let p0 ← opNext d s 0
  let p1 ← opNext d s 1
  opFwd d s 0
  opFwd d s 1
  opAdd s 0 p0
  opAdd s 1 p1
  opAcc s acc
def step6 (d : Dev nD) (acc : VF F × VF F) : KProg F (VF F × VF F) := do
  opSendL d 0 6
  opSendL d 1 6
  opFwd d 6 0
  opFwd d 6 1
  opWaitLv 0 6
  let l0 ← ldL 0 6
  opWaitLv 1 6
  let l1 ← ldL 1 6
  opAcc 6 (addf acc.1 (widen (dropW l0)), addf acc.2 (widen (dropW l1)))
def step7 (acc : VF F × VF F) : KProg F (VF F × VF F) := do
  opWaitRv 0 7
  opWaitRv 1 7
  opAcc 7 acc

/-- The device's largest value, as the tile it sends. -/
def maxTile (acc : VF F × VF F) : FVec F S8x128 .f32 :=
  k0_pay57 acc.2 (shapeCast S1x256x1024 acc.1 shapeCasts_S256x1024_S1x256x1024)

def opMax (acc : VF F × VF F) : KProg F PUnit := do
  let _ : Vec F S8x128 .f32 ← Prog.lift (.load mAt (Rect.unit (s := S8x128) ![0, 0] S8x128.size inb_S8x128_S8x128_0_0).toLoadRect (View.loadsAt_vmem h_S8x128))
  Prog.lift (.store mAt (Rect.unit (s := S8x128) ![0, 0] S8x128.size inb_S8x128_S8x128_0_0) (maxTile acc) Finset.univ (View.stores_vmem_bits_univ h_S8x128 rfl) (.inl rfl))
  let v : Vec F S8x128 .f32 ← Prog.lift (.load mAt (Rect.unit (s := S8x128) ![0, 0] S8x128.size inb_S8x128_S8x128_0_0).toLoadRect (View.loadsAt_vmem h_S8x128))
  let _ : Vec F S1x8x128 .f32 ← Prog.lift (.load mAb (rA 0).toLoadRect (View.loadsAt_vmem h_S1x8x128))
  Prog.lift (.store mAb (rA 0) (k0_pay58 v) Finset.univ (View.stores_vmem_bits_univ h_S1x8x128 rfl) (.inl rfl))

/-- The result's two halves, quantised by the largest value of all. -/
def quant (y : VF F) (ab : Vec F S16x8x128 .f32) : VF F := k0_pay64 (k0_pay59 y) ab

def opOut (a2 : Memref sig .tc .vmem S256x2048 .f32) (acc : VF F × VF F) : KProg F PUnit := do
  let ab : Vec F S16x8x128 .f32 ← Prog.lift (.load mAb (Rect.unit (s := S16x8x128) ![0, 0, 0] S16x8x128.size inb_S16x8x128_S16x8x128_0_0_0).toLoadRect (View.loadsAt_vmem h_S16x8x128))
  let _ : Vec F S256x1024 .f32 ← Prog.lift (.load a2 (rH 0).toLoadRect (View.loadsAt_vmem h_S256x1024))
  Prog.lift (.store a2 (rH 0) (quant acc.1 ab) Finset.univ (View.stores_vmem_bits_univ h_S256x1024 rfl) (.inl rfl))
  let _ : Vec F S256x1024 .f32 ← Prog.lift (.load a2 (rH 1).toLoadRect (View.loadsAt_vmem h_S256x1024))
  Prog.lift (.store a2 (rH 1) (quant acc.2 ab) Finset.univ (View.stores_vmem_bits_univ h_S256x1024 rfl) (.inl rfl))
  pure ⟨⟩

/-- The whole body. -/
def body (a0 : Memref sig .tc .vmem S4096x256 .bf16) (a1 : Memref sig .tc .vmem S256x2048 .bf16)
    (a2 : Memref sig .tc .vmem S256x2048 .f32) : KProg F PUnit := do
  let d ← Prog.lift .deviceId
  rep (opSig d) 0 15
  opStage a0 a1
  opBar
  rep (opSendX d) 0 8
  let acc ← opOwn d
  opFirst d 0
  opFirst d 1
  rep (opWaitXv d) 0 8
  opSendR d 0 0
  opSendR d 1 0
  let acc ← step0 d acc
  let acc ← stepM d 1 acc
  let acc ← stepM d 2 acc
  let acc ← stepM d 3 acc
  let acc ← stepM d 4 acc
  let acc ← stepM d 5 acc
  let acc ← step6 d acc
  let acc ← step7 acc
  opMax acc
  rep (opSendA d) 0 15
  rep (opWaitXd d) 0 8
  rep (opWaitRd 0) 0 8
  rep (opWaitRd 1) 0 8
  opWaitLd 0 5
  opWaitLd 0 6
  opWaitLd 1 5
  opWaitLd 1 6
  rep opWaitAd 0 15
  rep opWaitAv 0 15
  opOut a2 acc

end Cert.MatProof
-- ==== Proof.Common.lean ====
/- What the proof of the kernel's runs speaks of: the ring of sixteen devices, the contents of every
   buffer on the way, the semaphores' cells and what each hands over, what a device owes, and the
   order of the waits. -/
module

public import proofs.«01_k».proof.Proof.Clean
public import Idealize.ShloMosaic.Lib.Transfers

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `o` places ahead of `c`. -/
def nb (o : ℕ) (c : Dev nD) : Dev nD := ⟨(c.val + o) % 16, Nat.mod_lt _ (by decide)⟩

theorem nb_nb (o p : ℕ) (c : Dev nD) : nb o (nb p c) = nb (p + o) c := by
  apply Fin.ext; show ((c.val + p) % 16 + o) % 16 = (c.val + (p + o)) % 16; omega
theorem nb_mod {o p : ℕ} (c : Dev nD) (h : o % 16 = p % 16) : nb o c = nb p c := by
  apply Fin.ext; show (c.val + o) % 16 = (c.val + p) % 16; omega
theorem nb_zero (c : Dev nD) : nb 0 c = c := by
  apply Fin.ext; have h : c.val < 16 := c.isLt; show (c.val + 0) % 16 = c.val; omega
theorem nb_full (c : Dev nD) : nb 16 c = c := by
  apply Fin.ext; have h : c.val < 16 := c.isLt; show (c.val + 16) % 16 = c.val; omega
theorem nb_back {o p : ℕ} (c : Dev nD) (h : p + o = 16) : nb o (nb p c) = c := by
  rw [nb_nb, h, nb_full]

/-- Going `o` places ahead, as a permutation of the devices. -/
def nbE (o : ℕ) : Dev nD ≃ Dev nD where
  toFun := nb o
  invFun := nb (16 - o % 16)
  left_inv c := by rw [nb_nb]; exact (nb_mod c (by omega)).trans (nb_zero c)
  right_inv c := by rw [nb_nb]; exact (nb_mod c (by omega)).trans (nb_zero c)

theorem ahead_eq (o : ℕ) (c : Dev nD) : ahead o c = nb o c := by
  apply Fin.ext
  show aheadW (BitVec.ofNat 32 (o % 16)) c = (c.val + o) % 16
  rw [aheadW_eq ⟨o % 16, Nat.mod_lt _ (by decide)⟩ c]; show (c.val + o % 16) % 16 = _; omega
theorem behind_eq (c : Dev nD) : behind c = nb 15 c := by
  revert c; decide +kernel

/-- The rows' block `b`. -/
abbrev offB (b : Dev nD) : Fin 2 → Nat := ![256 * b.val, 0]
theorem inbB (b : Dev nD) : ∀ a, offB b a + S256x256.size a ≤ S4096x256.size a := by
  have h : b.val < 16 := b.isLt
  intro a; fin_cases a
  · show 256 * b.val + 256 ≤ 4096; omega
  · show 0 + 256 ≤ 256; omega

theorem off1_eq (c : Dev nD) (i : ℕ) (hi : i < 8) : off1 c i = offB (nb (i + 1) c) := by
  have h : ∀ (c : Dev nD) (i : Fin 8), k0_off1 c (BitVec.ofNat 32 (1 + i.val % 8)) = offB (nb (i.val + 1) c) := by decide +kernel
  exact h c ⟨i, hi⟩
theorem off2_eq (c : Dev nD) : k0_off2 c = offB c := k0_off2_eq c
theorem off3_eq (c : Dev nD) : k0_off3 c = offB (nb 9 c) := by revert c; decide +kernel
theorem off4_eq (c : Dev nD) (s : ℕ) (hs : s < 6) : off4 c s = offB (nb (10 + s) c) := by
  have h : ∀ (c : Dev nD) (i : Fin 6), k0_off4 c (BitVec.ofNat 32 (i.val % 6)) = offB (nb (10 + i.val) c) := by decide +kernel
  exact h c ⟨s, hs⟩

/-! ## Semaphore cells by number -/

/-- Cell `k` of a device: the copies' semaphores in the order they are declared, then the barrier's. -/
def csm (k : ℕ) : SemLoc sig := if k = 96 then .reg barS else .dma ⟨3 + k % 96, by have := Nat.mod_lt k (show 0 < 96 by decide); show 3 + k % 96 < 99; omega⟩
abbrev cell (c : Dev nD) (k : ℕ) : GSem nD τ sig := ((c : Thread nD τ), csm k)

def codeOf : SemLoc sig → ℕ
  | .dma d => if d.val < 3 then 200 else d.val - 3
  | .reg s => if s = barS then 96 else 200

theorem codeOf_csm {k : ℕ} (h : k < 97) : codeOf (csm k) = k := by
  unfold csm
  by_cases hk : k = 96
  · rw [if_pos hk, hk]; show (if barS = barS then 96 else 200) = 96; rw [if_pos rfl]
  · rw [if_neg hk]; show (if 3 + k % 96 < 3 then 200 else 3 + k % 96 - 3) = k
    rw [if_neg (by omega)]; omega

theorem semRv_eq (q s : ℕ) (hq : q < 2) (hs : s < 8) : SemLoc.dma (semRv q s) = csm (8 * q + s) := by
  have h : ∀ (q : Fin 2) (s : Fin 8), SemLoc.dma (semRv q.val s.val) = csm (8 * q.val + s.val) := by decide +kernel
  exact h ⟨q, hq⟩ ⟨s, hs⟩
theorem semRd_eq (q s : ℕ) (hq : q < 2) (hs : s < 8) : SemLoc.dma (semRd q s) = csm (16 + 8 * q + s) := by
  have h : ∀ (q : Fin 2) (s : Fin 8), SemLoc.dma (semRd q.val s.val) = csm (16 + 8 * q.val + s.val) := by decide +kernel
  exact h ⟨q, hq⟩ ⟨s, hs⟩
theorem semLv_eq (q s : ℕ) (hq : q < 2) (hs : s < 7) : SemLoc.dma (semLv q s) = csm (32 + 7 * q + s) := by
  have h : ∀ (q : Fin 2) (s : Fin 7), SemLoc.dma (semLv q.val s.val) = csm (32 + 7 * q.val + s.val) := by decide +kernel
  exact h ⟨q, hq⟩ ⟨s, hs⟩
theorem semLd_eq (q s : ℕ) (hq : q < 2) (hs : s < 7) : SemLoc.dma (semLd q s) = csm (46 + 2 * q + s % 2) := by
  have h : ∀ (q : Fin 2) (s : Fin 7), SemLoc.dma (semLd q.val s.val) = csm (46 + 2 * q.val + s.val % 2) := by decide +kernel
  exact h ⟨q, hq⟩ ⟨s, hs⟩
theorem semXd_eq (i : ℕ) (hi : i < 8) : SemLoc.dma (semXd i) = csm (50 + i) := by
  have h : ∀ i : Fin 8, SemLoc.dma (semXd i.val) = csm (50 + i.val) := by decide +kernel
  exact h ⟨i, hi⟩
theorem semXv_eq (i : ℕ) (hi : i < 8) : SemLoc.dma (semXv i) = csm (58 + i) := by
  have h : ∀ i : Fin 8, SemLoc.dma (semXv i.val) = csm (58 + i.val) := by decide +kernel
  exact h ⟨i, hi⟩
theorem semAd_eq (i : ℕ) (hi : i < 15) : SemLoc.dma (semAd i) = csm (66 + i) := by
  have h : ∀ i : Fin 15, SemLoc.dma (semAd i.val) = csm (66 + i.val) := by decide +kernel
  exact h ⟨i, hi⟩
theorem semAv_eq (i : ℕ) (hi : i < 15) : SemLoc.dma (semAv i) = csm (81 + i) := by
  have h : ∀ i : Fin 15, SemLoc.dma (semAv i.val) = csm (81 + i.val) := by decide +kernel
  exact h ⟨i, hi⟩
theorem bar_eq : SemLoc.reg barS = csm 96 := rfl

/-- The credits of the three sizes of copy. -/
abbrev NW : ℕ := (slR 0 0).view.dmaCredit
abbrev NX : ℕ := (slX 0).view.dmaCredit
abbrev NA : ℕ := (slA 0).view.dmaCredit
theorem credR (q s : ℕ) : (slR q s).view.dmaCredit = NW := by cases q <;> rfl
theorem credL (q s : ℕ) : (slL q s).view.dmaCredit = NW := by cases q <;> rfl
theorem credS (q s : ℕ) : (slS q s).view.dmaCredit = NW := by cases q <;> rfl
theorem credW (q : ℕ) : (slW q).view.dmaCredit = NW := by cases q <;> rfl
theorem credSrc (q s : ℕ) : (srcR q s).view.dmaCredit = NW := by
  cases s with
  | zero => exact credW q
  | succ s => exact credR q s
theorem credX (o : ℕ) : (slX o).view.dmaCredit = NX := rfl
theorem credB (off h) : (slB off h).view.dmaCredit = NX := rfl
theorem credA (o : ℕ) : (slA o).view.dmaCredit = NA := rfl
theorem credAt : (mAt).view.dmaCredit = NA := rfl
theorem NW_pos : 0 < NW := View.dmaCredit_pos _ (by decide)
theorem NX_pos : 0 < NX := View.dmaCredit_pos _ (by decide)
theorem NA_pos : 0 < NA := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's operands as staged, and as copied for the products. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def xb (c : Dev nD) : (cc0_scratch0 : Ref sig .tc).ty.Contents (Elt F) := k0_pay2 (xstg m ρ c)
def wb (c : Dev nD) : (cc0_scratch1 : Ref sig .tc).ty.Contents (Elt F) := k0_pay4 (k0_pay3 (wstg m ρ c))

/-- Row block `b` of `c`'s activations; half `q` of the columns of its weights. -/
def xblk (c b : Dev nD) : VX F := (slB (offB b) (inbB b)).view.read (Elt F) (xb m ρ c)
def wH (c : Dev nD) (q : ℕ) : VW F := (slW q).view.read (Elt F) (wb m ρ c)

/-- The partial sum device `c` sends at step `s`. -/
def Lv (q : ℕ) : ℕ → Dev nD → VW F
  | 0, c => truncf .bf16 (pdot (xblk m ρ c (nb 9 c)) (wH m ρ c q)) bitsLt_bf16_f32
  | s + 1, c => truncf .bf16 (addf (widen (Lv q s (nb 1 c))) (pdot (xblk m ρ c (nb (10 + s) c)) (wH m ρ c q))) bitsLt_bf16_f32

/-- The accumulators of device `c` before step `s`'s products; at step 6 the partial sums have come home. -/
def bump (c : Dev nD) (s : ℕ) (a : VF F × VF F) : VF F × VF F :=
  if s = 6 then (addf a.1 (widen (Lv m ρ 0 6 (nb 1 c))), addf a.2 (widen (Lv m ρ 1 6 (nb 1 c)))) else a
def accV (c : Dev nD) : ℕ → VF F × VF F
  | 0 => (pdot (xblk m ρ c c) (wH m ρ c 0), pdot (xblk m ρ c c) (wH m ρ c 1))
  | s + 1 => (addf (bump m ρ c s (accV c s)).1 (pdot (xblk m ρ (nb (15 - s) c) c) (wH m ρ (nb (15 - s) c) 0)),
      addf (bump m ρ c s (accV c s)).2 (pdot (xblk m ρ (nb (15 - s) c) c) (wH m ρ (nb (15 - s) c) 1)))

/-- The maximum a device sends. -/
def tile (c : Dev nD) : FVec F S8x128 .f32 := maxTile (accV m ρ c 8)

/-! ## Ownership of a slot -/

/-- The elements under a view, at some contents; and at given ones. -/
def lent {s : Shape} {e : EltTy} (c : Dev nD) (v : Memref sig .tc .vmem s e) (q : PosShare TreeShare) : sProp 𝕄 :=
  iprop(∃ f : Buf (Elt F) (v.view.loc (c : Thread nD τ)), v.view.loc (c : Thread nD τ) ↦[v.view.set]{q} f)
def has {s : Shape} {e : EltTy} (c : Dev nD) (v : Memref sig .tc .vmem s e) (q : PosShare TreeShare) (V : s.Idx → Elt F e) : sProp 𝕄 :=
  iprop(∃ f : Buf (Elt F) (v.view.loc (c : Thread nD τ)), ⌜v.view.read (Elt F) f = V⌝ ∗ v.view.loc (c : Thread nD τ) ↦[v.view.set]{q} f)

instance lent_storable {s : Shape} {e : EltTy} (c : Dev nD) (v : Memref sig .tc .vmem s e) (q : PosShare TreeShare) :
    BI.Storable (upEmb : UEmb _ 𝕄) (lent (F := F) c v q) := by unfold lent; infer_instance
instance has_storable {s : Shape} {e : EltTy} (c : Dev nD) (v : Memref sig .tc .vmem s e) (q : PosShare TreeShare) (V : s.Idx → Elt F e) :
    BI.Storable (upEmb : UEmb _ 𝕄) (has (F := F) c v q V) := by unfold has; infer_instance

theorem has_lent {s : Shape} {e : EltTy} (c : Dev nD) (v : Memref sig .tc .vmem s e) (q : PosShare TreeShare) (V : s.Idx → Elt F e) :
    has (F := F) c v q V ⊢ lent c v q := by
  unfold has lent
  iintro ⟨%f, -, H⟩
  iexists f; iexact H

abbrev lh : PosShare TreeShare := fullShare.left
abbrev rh : PosShare TreeShare := fullShare.right

/-! ## Families over consecutive numbers -/

/-- `Φ i ∗ … ∗ Φ (i + n - 1)`. -/
def seq (Φ : ℕ → sProp 𝕄) : ℕ → ℕ → sProp 𝕄
  | _, 0 => iprop(emp)
  | i, n + 1 => iprop(Φ i ∗ seq Φ (i + 1) n)

/-! ## The schedule -/

/-- What device `nb (j + 1) c` hands over as it signals `c`: its slots that `c` writes. -/
def barPay (c : Dev nD) (j : ℕ) : sProp 𝕄 :=
  iprop(lent (F := F) (nb (j + 1) c) (slA (j + 1)) fullShare
    ∗ (if j < 8 then lent (nb (j + 1) c) (slX (j + 1)) fullShare else iprop(emp))
    ∗ (if j = 0 then iprop(seq (fun s => lent (nb (j + 1) c) (slR 0 s) fullShare) 0 8 ∗ seq (fun s => lent (nb (j + 1) c) (slR 1 s) fullShare) 0 8) else iprop(emp))
    ∗ (if j = 14 then iprop(seq (fun s => lent (nb (j + 1) c) (slL 0 s) fullShare) 0 7 ∗ seq (fun s => lent (nb (j + 1) c) (slL 1 s) fullShare) 0 7) else iprop(emp)))

instance seq_storable (Φ : ℕ → sProp 𝕄) [∀ i, BI.Storable (upEmb : UEmb _ 𝕄) (Φ i)] (i n : ℕ) :
    BI.Storable (upEmb : UEmb _ 𝕄) (seq Φ i n) := by
  induction n generalizing i with
  | zero => unfold seq; infer_instance
  | succ n ih => unfold seq; have := ih (i + 1); infer_instance

instance barPay_storable (c : Dev nD) (j : ℕ) : BI.Storable (upEmb : UEmb _ 𝕄) (barPay (F := F) c j) := by
  unfold barPay
  (repeat' split) <;> infer_instance

def dutiesK (k r : ℕ) : Finset ℕ :=
  if k = 96 then (if r = 0 then Finset.range 15 else ∅)
  else if 46 ≤ k ∧ k < 50 then (if r < 4 - k % 2 then {0} else ∅)
  else if k < 96 ∧ r = 0 then {0} else ∅
def amountK (k : ℕ) : ℕ := if k = 96 then 1 else if k < 50 then NW else if k < 66 then NX else NA
def payK (c : Dev nD) (k r d : ℕ) : sProp 𝕄 :=
  if k = 96 then barPay c d
  else if k < 16 then has c (slR (k / 8) (k % 8)) fullShare (wH m ρ (nb (15 - k % 8) c) (k / 8))
  else if k < 32 then lent c (srcR ((k - 16) / 8) ((k - 16) % 8)) lh
  else if k < 46 then has c (slL ((k - 32) / 7) ((k - 32) % 7)) fullShare (Lv m ρ ((k - 32) / 7) ((k - 32) % 7) (nb 1 c))
  else if k < 50 then lent c (slS ((k - 46) / 2) ((k - 46) % 2)) fullShare
  else if k < 58 then lent c (slB (offB (nb (k - 50 + 1) c)) (inbB _)) lh
  else if k < 66 then has c (slX (k - 58 + 1)) fullShare (xblk m ρ (nb (15 - (k - 58)) c) c)
  else if k < 81 then lent c mAt (shareTokN fullShare (k - 66))
  else has c (slA (k - 81 + 1)) fullShare (tile m ρ (nb (15 - (k - 81)) c))

instance payK_storable (c : Dev nD) (k r d : ℕ) : BI.Storable (upEmb : UEmb _ 𝕄) (payK (F := F) m ρ c k r d) := by
  unfold payK
  (repeat' split) <;> infer_instance

theorem amountK_pos (k : ℕ) : 0 < amountK k := by
  unfold amountK; split
  · exact Nat.one_pos
  · split
    · exact NW_pos
    · split
      · exact NX_pos
      · exact NA_pos

def Sch : Rounds.Schedule (GSem nD τ sig) ℕ 𝕄 where
  duties g r := if g.1.2 = .tc then dutiesK (codeOf g.2) r else ∅
  unitless _ := False
  amount g _ _ := amountK (codeOf g.2)
  payload g r d := payK m ρ g.1.1 (codeOf g.2) r d
  amount_pos g _ _ _ := amountK_pos _

instance Sch_payload_storable (g : GSem nD τ sig) (r d : ℕ) :
    BI.Storable (upEmb : UEmb _ 𝕄) ((Sch (F := F) m ρ).payload g r d) := by
  show BI.Storable upEmb (payK m ρ g.1.1 (codeOf g.2) r d); infer_instance

section Sched
variable (c : Dev nD) {k : ℕ} (hk : k < 97)
include hk

theorem duties_eq (r : ℕ) : (Sch (F := F) m ρ).duties (cell c k) r = dutiesK k r := by
  show (if (cell c k).1.2 = .tc then dutiesK (codeOf (csm k)) r else ∅) = _
  rw [codeOf_csm hk]; exact if_pos rfl
theorem amount_eq (r d : ℕ) : (Sch (F := F) m ρ).amount (cell c k) r d = amountK k := by
  show amountK (codeOf (csm k)) = _; rw [codeOf_csm hk]
theorem payload_eq (r d : ℕ) : (Sch (F := F) m ρ).payload (cell c k) r d = payK m ρ c k r d := by
  show payK m ρ c (codeOf (csm k)) r d = _; rw [codeOf_csm hk]
theorem expect_one {r : ℕ} (h : dutiesK k r = {0}) : (Sch (F := F) m ρ).expect (cell c k) r = amountK k := by
  unfold Schedule.expect Schedule.amountOf
  rw [duties_eq m ρ c hk, h, Finset.sum_singleton, amount_eq m ρ c hk]
theorem rest_one {r : ℕ} (h : dutiesK k r = {0}) :
    bigSep ((Sch (F := F) m ρ).duties (cell c k) r \ ∅) (fun d => (Sch (F := F) m ρ).payload (cell c k) r d) = payK m ρ c k r 0 := by
  rw [Finset.sdiff_empty, duties_eq m ρ c hk, h, bigSep_singleton, payload_eq m ρ c hk]
end Sched

theorem expect_bar (c : Dev nD) : (Sch (F := F) m ρ).expect (cell c 96) 0 = 15 := by
  unfold Schedule.expect Schedule.amountOf
  rw [duties_eq m ρ c (by decide), show dutiesK 96 0 = Finset.range 15 from rfl,
    Finset.sum_congr rfl fun d _ => amount_eq m ρ c (by decide) 0 d, Finset.sum_const, Finset.card_range]
  rfl

/-! ## What a device owes, and the levels -/

/-- The credits still owed, next one first: a cell of a device and its amount. -/
def owed : List (Dev nD × ℕ) → CellTallies nD τ sig Unit
  | [] => 0
  | p :: l => owed l + tallyAt (cell p.1 p.2) () (amountK p.2)

/-- `f i, …, f (i + n - 1)`, then `l`. -/
def lst (f : ℕ → Dev nD × ℕ) (l : List (Dev nD × ℕ)) : ℕ → ℕ → List (Dev nD × ℕ)
  | _, 0 => l
  | i, n + 1 => f i :: lst f l (i + 1) n

def dueSig (c : Dev nD) (i : ℕ) : Dev nD × ℕ := (nb (i + 1) c, 96)
def dueX (c : Dev nD) (i : ℕ) : Dev nD × ℕ := (nb (i + 1) c, 58 + i)
def dueA (c : Dev nD) (i : ℕ) : Dev nD × ℕ := (nb (i + 1) c, 81 + i)
def dueR (c : Dev nD) (q s : ℕ) : Dev nD × ℕ := (nb 1 c, 8 * q + s)
def dueL (c : Dev nD) (q s : ℕ) : Dev nD × ℕ := (nb 15 c, 32 + 7 * q + s)

/-- Owed from step `7 - n` on. -/
def oweStep (c : Dev nD) : ℕ → List (Dev nD × ℕ)
  | 0 => lst (dueA c) [] 0 15
  | n + 1 => dueL c 0 (6 - n) :: dueL c 1 (6 - n) :: dueR c 0 (7 - n) :: dueR c 1 (7 - n) :: oweStep c n
def oweR (c : Dev nD) : List (Dev nD × ℕ) := dueR c 0 0 :: dueR c 1 0 :: oweStep c 7
def oweX (c : Dev nD) : List (Dev nD × ℕ) := lst (dueX c) (oweR c) 0 8
def oweAll (c : Dev nD) : List (Dev nD × ℕ) := lst (dueSig c) (oweX c) 0 15

def lvK (k : ℕ) : ℕ :=
  if k = 96 then 1 else if k < 16 then 3 + 2 * (k % 8) else if k < 32 then 0 else if k < 46 then 4 + 2 * ((k - 32) % 7)
  else if k < 58 then 0 else if k < 66 then 2 else if k < 81 then 0 else if k < 96 then 100 else 0

def L (g : GSem nD τ sig) : Finset Unit := if g.1.2 = .tc then {()} else ∅
def lv (g : GSem nD τ sig) (_ : Unit) : ℕ := lvK (codeOf g.2)

theorem L_of_ne (g : GSem nD τ sig) (h : g.1.2 ≠ .tc) : L g = ∅ := if_neg h
theorem L_tc (c : Dev nD) (sm : SemLoc sig) : L ((c : Thread nD τ), sm) = {()} := if_pos rfl

/-- Every credit in the list is at a level above `n`. -/
def Above (n : ℕ) (l : List (Dev nD × ℕ)) : Prop := ∀ p ∈ l, p.2 < 97 ∧ n < lvK p.2

theorem Above.mono {a b : ℕ} {l : List (Dev nD × ℕ)} (h : a ≤ b) (hl : Above b l) : Above a l :=
  fun p hp => ⟨(hl p hp).1, lt_of_le_of_lt h (hl p hp).2⟩
theorem Above.cons {n : ℕ} {p : Dev nD × ℕ} {l : List (Dev nD × ℕ)} (hp : p.2 < 97 ∧ n < lvK p.2) (hl : Above n l) : Above n (p :: l) := by
  intro x hx
  rcases List.mem_cons.mp hx with rfl | hx
  · exact hp
  · exact hl x hx
theorem Above.nil (n : ℕ) : Above n [] := fun p hp => absurd hp List.not_mem_nil
theorem Above.tail {n : ℕ} {p : Dev nD × ℕ} {l : List (Dev nD × ℕ)} (h : Above n (p :: l)) : Above n l :=
  fun x hx => h x (List.mem_cons_of_mem _ hx)
theorem Above.lst {n : ℕ} {f : ℕ → Dev nD × ℕ} {l : List (Dev nD × ℕ)} (hl : Above n l) (k : ℕ) :
    ∀ i, (∀ j, i ≤ j → j < i + k → (f j).2 < 97 ∧ n < lvK (f j).2) → Above n (lst f l i k) := by
  induction k with
  | zero => intro i _; exact hl
  | succ k ih =>
    intro i h
    exact Above.cons (h i le_rfl (by omega)) (ih (i + 1) fun j h1 h2 => h j (by omega) (by omega))

theorem owed_pos {l : List (Dev nD × ℕ)} {g : GSem nD τ sig} {u : Unit} (h : 0 < owed l g u) : ∃ p ∈ l, g = cell p.1 p.2 := by
  induction l with
  | nil => exact absurd h (Nat.lt_irrefl 0)
  | cons p l ih =>
    unfold owed at h
    rw [Pi.add_apply, Finsupp.add_apply, tallyAt_apply] at h
    by_cases hg : g = cell p.1 p.2 ∧ u = ()
    · exact ⟨p, List.mem_cons_self, hg.1⟩
    · rw [if_neg hg, Nat.add_zero] at h
      obtain ⟨p', hp', e⟩ := ih h
      exact ⟨p', List.mem_cons_of_mem _ hp', e⟩

/-- A wait at a level below everything owed may block. -/
theorem mayWait (c : Dev nD) (sm : SemLoc sig) (l : List (Dev nD × ℕ)) (h : Above (lvK (codeOf sm)) l) :
    (levAts L lv : sProp 𝕄) ⊢ MayWait (c : Thread nD τ) sm () (owed l) :=
  MayOwe.of_cut (L := L) (lev := lv) (lvK (codeOf sm))
    (fun p hp => by rw [Finset.mem_singleton.mp hp, L_tc]; exact Finset.mem_singleton_self _)
    (fun g u hg => by obtain ⟨p, _, rfl⟩ := owed_pos hg; exact Finset.mem_singleton_self _)
    (fun p hp => by rw [Finset.mem_singleton.mp hp]; exact le_rfl)
    (fun g u hg => by
      obtain ⟨p, hp, rfl⟩ := owed_pos hg
      show _ < lvK (codeOf (csm p.2)); rw [codeOf_csm (h p hp).1]; exact (h p hp).2)

end Cert.MatProof
-- ==== Proof.Ops.lean ====
/- One lemma per kind of operation: a wait, a copy to another device, a signal, a load and a store,
   each from the resources it takes to those it leaves. -/
module

public import proofs.«01_k».proof.Proof.Common

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The standing facts, and the names of what a device holds -/

abbrev kcell (p : Dev nD × Fin 97) : GSem nD τ sig := cell p.1 p.2.val

/-- Every cell's invariant, under the names `K`, and that its first round has begun. -/
def recs (K : Dev nD × Fin 97 → ℕ) : sProp 𝕄 :=
  bigSep Finset.univ (fun p => iprop(cellInv ER (Sch m ρ) (K p) (kcell p) ∗ reached ER (kcell p) 0))
instance recs_persistent (K : Dev nD × Fin 97 → ℕ) : BI.Persistent (recs (F := F) m ρ K) := by unfold recs; infer_instance

/-- The facts that stay: the cells, and the levels. -/
def ctx (K : Dev nD × Fin 97 → ℕ) : sProp 𝕄 := iprop(recs m ρ K ∗ levAts L lv)
instance ctx_persistent (K : Dev nD × Fin 97 → ℕ) : BI.Persistent (ctx (F := F) m ρ K) := by unfold ctx; infer_instance

theorem recs_at (K : Dev nD × Fin 97 → ℕ) (c : Dev nD) {k : ℕ} (hk : k < 97) :
    recs (F := F) m ρ K ⊢ iprop(cellInv ER (Sch m ρ) (K (c, ⟨k, hk⟩)) (cell c k) ∗ reached ER (cell c k) 0) := by
  unfold recs
  exact bigSep_elim (i := ((c, ⟨k, hk⟩) : Dev nD × Fin 97)) (Finset.mem_univ _)

/-- The credit a wait on cell `k` spends; where the device stands on it; the right to pay it; its counter at rest. -/
def tok (c : Dev nD) (k : ℕ) : sProp 𝕄 := cred (tallyAt (cell c k) () (amountK k))
def pos (c : Dev nD) (k r : ℕ) : sProp 𝕄 := atPos ER (cell c k) r ∅ 0
def pays (c : Dev nD) (k r d : ℕ) : sProp 𝕄 := dutyTok ER (cell c k) r d
def rest (c : Dev nD) (k : ℕ) : sProp 𝕄 := semVal (cell c k) 0
def begun (c : Dev nD) (k r : ℕ) : sProp 𝕄 := reached ER (cell c k) r
instance begun_persistent (c : Dev nD) (k r : ℕ) : BI.Persistent (begun (F := F) c k r) := by unfold begun; infer_instance
/-- What the device owes. -/
def owesL (c : Dev nD) (l : List (Dev nD × ℕ)) : sProp 𝕄 := iprop(∃ W, owes (c : Thread nD τ) (owed l) W)

abbrev run {α : Type} (c : Dev nD) (p : KProg F α) (Φ : α → sProp 𝕄) : sProp 𝕄 :=
  wp frame (wpE (defs₀ (F := F)) 𝒱₀ (c : Thread nD τ) none) Set.univ p Φ

variable (K : Dev nD × Fin 97 → ℕ) (c : Dev nD)

theorem begun_zero {k : ℕ} (hk : k < 97) : ctx (F := F) m ρ K ⊢ begun c k 0 := by
  unfold ctx begun
  iintro ⟨#H, -⟩
  ihave H2 := (recs_at m ρ K c hk) $$ H
  icases H2 with ⟨-, H3⟩
  iexact H3

/-! ## Waits -/

theorem wait_upd {k r : ℕ} (hk : k < 97) (hd : dutiesK k r = {0}) {sem : DmaSem sig} (hs : SemLoc.dma sem = csm k)
    {s s' : Shape} {e e' : EltTy} {src : Memref sig .tc .vmem s' e'} {dst : Memref sig .tc .vmem s e} {hsrc : src.view.WordExact} {hdst : dst.view.WordExact}
    (hN : dst.view.dmaCredit = amountK k) {l : List (Dev nD × ℕ)} (ha : Above (lvK k) l) (Φ : PUnit → sProp 𝕄) :
    iprop(ctx m ρ K ∗ tok c k ∗ owesL c l ∗ pos c k r)
      ⊢ iprop(((owesL c l ∗ pos c k (r + 1) ∗ begun c k (r + 1) ∗ payK m ρ c k r 0) -∗ |={Set.univ}=> Φ ⟨⟩)
        -∗ run c (Prog.lift (.waitDma2 sem src dst hsrc hdst)) Φ) := by
  have hc : cell c k = ((c : Thread nD τ), SemLoc.dma sem) := by rw [hs]
  have hcode : codeOf (SemLoc.dma sem) = k := by rw [hs, codeOf_csm hk]
  have hinv := recs_at m ρ K c hk
  have hr := rest_one m ρ c hk (r := r) hd
  have hx := expect_one m ρ c hk (r := r) hd
  unfold ctx tok pos begun owesL
  rw [hc] at hinv hr hx ⊢
  rw [← hN] at hx ⊢
  iintro ⟨⟨#HR, #HL⟩, Hc, ⟨%W, Ho⟩, Hat⟩ Hk
  ihave H2 := hinv $$ HR
  icases H2 with ⟨#HI, -⟩
  unfold run
  iapply (Rounds.wp_wait_rest_token 𝒱₀ ER (Sch m ρ) (c : Thread nD τ) none (κ := K (c, ⟨k, hk⟩))
      (wpE_waitDma2_eq 𝒱₀ (c : Thread nD τ) none Set.univ) (Set.mem_univ _) () (O := owed l) (W := W) (R := r) (m := 0) (T := ∅)
      (by rw [Nat.zero_add, hx])) $$ [Hc Ho Hat]
  · isplitr; · iexact HI
    isplitl [Hc]; · iexact Hc
    isplitl [Ho]; · iexact Ho
    isplitr; · iapply (mayWait c _ l (by rw [hcode]; exact ha)); iexact HL
    iexact Hat
  iintro ⟨Ho, Hat, Hr, Hp⟩
  rw [wp_ret]
  iapply Hk
  isplitl [Ho]; · iexists _; iexact Ho
  isplitl [Hat]; · iexact Hat
  isplitl [Hr]; · iexact Hr
  iapply (Entails.of_eq hr); iexact Hp

theorem wait_one {k r : ℕ} (hk : k < 97) (hd : dutiesK k r = {0})
    {sem : DmaSem sig} (hs : SemLoc.dma sem = csm k)
    {s s' : Shape} {e e' : EltTy} {src : Memref sig .tc .vmem s' e'} {dst : Memref sig .tc .vmem s e} {hsrc : src.view.WordExact} {hdst : dst.view.WordExact}
    (hN : dst.view.dmaCredit = amountK k) {l : List (Dev nD × ℕ)} (ha : Above (lvK k) l) (Φ : PUnit → sProp 𝕄) :
    iprop(ctx m ρ K ∗ tok c k ∗ owesL c l ∗ pos c k r)
      ⊢ iprop(((owesL c l ∗ pos c k (r + 1) ∗ begun c k (r + 1) ∗ payK m ρ c k r 0) -∗ Φ ⟨⟩)
        -∗ run c (Prog.lift (.waitDma2 sem src dst hsrc hdst)) Φ) := by
  iintro H Hk
  iapply (wait_upd m ρ K c hk hd hs hN ha Φ) $$ H
  iintro H
  imodintro
  iapply Hk; iexact H

theorem close_one {k r : ℕ} (hk : k < 97) (hl : ∀ r', r ≤ r' → dutiesK k r' = ∅) :
    iprop(ctx (F := F) m ρ K ∗ pos c k r) ⊢ iprop(|={Set.univ}=> rest c k) := by
  unfold ctx pos rest
  iintro ⟨⟨#HR, #HL⟩, Hat⟩
  ihave H2 := (recs_at m ρ K c hk) $$ HR
  icases H2 with ⟨#HI, -⟩
  iapply (Rounds.cell_close ER (Sch m ρ) (Set.mem_univ (K (c, ⟨k, hk⟩))) (fun h => h) (R := r)
    (fun r' h => by rw [duties_eq m ρ c hk]; exact hl r' h))
  isplitr; · iexact HI
  iexact Hat

theorem wait_last {k r : ℕ} (hk : k < 97) (hd : dutiesK k r = {0}) (hl : ∀ r', r + 1 ≤ r' → dutiesK k r' = ∅)
    {sem : DmaSem sig} (hs : SemLoc.dma sem = csm k)
    {s s' : Shape} {e e' : EltTy} {src : Memref sig .tc .vmem s' e'} {dst : Memref sig .tc .vmem s e} {hsrc : src.view.WordExact} {hdst : dst.view.WordExact}
    (hN : dst.view.dmaCredit = amountK k) {l : List (Dev nD × ℕ)} (ha : Above (lvK k) l) (Φ : PUnit → sProp 𝕄) :
    iprop(ctx m ρ K ∗ tok c k ∗ owesL c l ∗ pos c k r)
      ⊢ iprop(((owesL c l ∗ rest c k ∗ payK m ρ c k r 0) -∗ Φ ⟨⟩)
        -∗ run c (Prog.lift (.waitDma2 sem src dst hsrc hdst)) Φ) := by
  iintro ⟨#HC, Hc, Ho, Hat⟩ Hk
  iapply (wait_upd m ρ K c hk hd hs hN ha Φ) $$ [Hc Ho Hat]
  · isplitr; · iexact HC
    isplitl [Hc]; · iexact Hc
    isplitl [Ho] <;> iassumption
  iintro ⟨Ho, Hat, -, Hp⟩
  imod (close_one m ρ K c hk hl) $$ [Hat] with Hz
  · isplitr; · iexact HC
    iexact Hat
  imodintro
  iapply Hk
  isplitl [Ho]; · iexact Ho
  isplitl [Hz]; · iexact Hz
  iexact Hp

/-! ## Copies to another device -/

theorem send_one {c' d' : Dev nD} (hd' : d' = c') {k₁ k₂ r : ℕ} (hk₁ : k₁ < 97) (hk₂ : k₂ < 97)
    {s : Shape} {e : EltTy} {src : Memref sig .tc .vmem s e} {dst : Memref sig .tc .vmem s e} {sS sem : DmaSem sig}
    {hsc : (dst : Memref sig (Dev.tc d' : Thread nD τ).2.kind .vmem s e).view.ref.isScScratch = false}
    {hsrc : src.view.WordExact} {hdst : dst.view.WordExact}
    {hsem : DmaTarget.Typed .vmem (.dma sem) (.remote (Dev.tc d' : Thread nD τ) dst (.dma sS) hsc)}
    (hs₁ : SemLoc.dma sS = csm k₁) (hs₂ : SemLoc.dma sem = csm k₂)
    (hd₁ : dutiesK k₁ r = {0}) (hd₂ : dutiesK k₂ 0 = {0})
    (hN : dst.view.dmaCredit = amountK k₂) (hA : amountK k₁ = amountK k₂)
    {q : PosShare TreeShare} {fs : Buf (Elt F) (src.view.loc (c : Thread nD τ))}
    (hp₁ : payK m ρ c k₁ r 0 = lent c src q) (hp₂ : payK m ρ c' k₂ 0 0 = has c' dst fullShare (src.view.read (Elt F) fs))
    {l : List (Dev nD × ℕ)} (Φ : PUnit → sProp 𝕄) :
    iprop(ctx m ρ K ∗ (src.view.loc (c : Thread nD τ) ↦[src.view.set]{q} fs) ∗ lent c' dst fullShare ∗ owesL c ((c', k₂) :: l)
        ∗ pays c k₁ r 0 ∗ begun c k₁ r ∗ pays c' k₂ 0 0)
      ⊢ iprop(((tok c k₁ ∗ owesL c l) -∗ Φ ⟨⟩)
        -∗ run c (Prog.lift (.enqueueDma src (.remote (Dev.tc d' : Thread nD τ) dst (.dma sS) hsc) (.dma sem) hsrc hdst hsem)) Φ) := by
  subst hd'
  have hc₁ : cell c k₁ = ((c : Thread nD τ), SemLoc.dma sS) := by rw [hs₁]
  have hc₂ : cell d' k₂ = ((d' : Thread nD τ), SemLoc.dma sem) := by rw [hs₂]
  have hi₁ := recs_at m ρ K c hk₁
  have hi₂ := recs_at m ρ K d' hk₂
  have hdu₁ := duties_eq m ρ c hk₁ r
  have hdu₂ := duties_eq m ρ d' hk₂ 0
  have ham₁ := amount_eq m ρ c hk₁ r 0
  have ham₂ := amount_eq m ρ d' hk₂ 0 0
  have hpl₁ := payload_eq m ρ c hk₁ r 0
  have hpl₂ := payload_eq m ρ d' hk₂ 0 0
  rw [hp₁] at hpl₁
  rw [hp₂] at hpl₂
  have hO : owed ((d', k₂) :: l) = owed l + tallyAt ((d' : Thread nD τ), SemLoc.dma sem) () dst.view.dmaCredit := by
    show owed l + tallyAt (cell d' k₂) () (amountK k₂) = _; rw [hc₂, hN]
  unfold ctx tok pays begun owesL
  rw [hO]
  rw [hc₁] at hi₁ hdu₁ ham₁ hpl₁ ⊢
  rw [hc₂] at hi₂ hdu₂ ham₂ hpl₂ ⊢
  rw [hA] at ham₁ ⊢
  rw [← hN] at ham₁ ham₂ ⊢
  iintro ⟨⟨#HR, #HL⟩, Hs, Hd, ⟨%W, Ho⟩, Ht₁, Hr₁, Ht₂⟩ Hk
  ihave H1 := hi₁ $$ HR
  icases H1 with ⟨#HI₁, -⟩
  ihave H2 := hi₂ $$ HR
  icases H2 with ⟨#HI₂, #Hr₂⟩
  unfold lent
  icases Hd with ⟨%fd, Hd⟩
  unfold run
  iapply (Rounds.wp_send_pointsTo 𝒱₀ ER (Sch m ρ) (c : Thread nD τ) none (κ₁ := K (c, ⟨k₁, hk₁⟩)) (κ₂ := K (d', ⟨k₂, hk₂⟩))
    (r₁ := r) (r₂ := 0) (d₁ := 0) (d₂ := 0) (fd := fd) (fs := fs) (q := q)
    (by rw [hdu₁, hd₁]; exact Finset.mem_singleton_self _) (by rw [hdu₂, hd₂]; exact Finset.mem_singleton_self _)
    () () dst.view.dmaCredit rfl ham₁ ham₂ (owed l) rfl (W := W)
    (by rw [hpl₁]; unfold lent; iintro H; iexists fs; iexact H)
    (by
      rw [hpl₂]; unfold has; iintro H; iexists (dst.view.write (Elt F) fd (src.view.read (Elt F) fs) Finset.univ)
      isplitr
      · ipureintro; exact View.read_write_univ _ _
      iexact H)) $$ [Hs Hd Ho Ht₁ Hr₁ Ht₂]
  · isplitr; · iexact HI₁
    isplitr; · iexact HI₂
    isplitl [Hs]; · iexact Hs
    isplitl [Hd]; · iexact Hd
    isplitl [Ho]; · iexact Ho
    isplitl [Ht₁]; · iexact Ht₁
    isplitl [Hr₁]; · iexact Hr₁
    isplitl [Ht₂]; · iexact Ht₂
    iexact Hr₂
  iintro ⟨Hc, Ho⟩
  rw [wp_ret]; imodintro
  iapply Hk
  isplitl [Hc]; · iexact Hc
  iexists W; iexact Ho

end Cert.MatProof
-- ==== Proof.Loops.lean ====
/- Families over consecutive numbers, the loops over them, the signals, the barrier, and the loads and
   stores of a slot. -/
module

public import proofs.«01_k».proof.Proof.Ops

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

/-! ## Families over consecutive numbers -/

/-- Entailment both ways is equality. -/
theorem both {P Q : sProp 𝕄} (h : P ⊢ Q) (h' : Q ⊢ P) : P = Q := equiv_iff.mp ⟨h, h'⟩

section Seq

theorem seq_mono {Φ Ψ : ℕ → sProp 𝕄} (n : ℕ) : ∀ i, (∀ j, i ≤ j → j < i + n → (Φ j ⊢ Ψ j)) → (seq Φ i n ⊢ seq Ψ i n) := by
  induction n with
  | zero => intro i _; exact .rfl
  | succ n ih =>
    intro i h
    have h0 := h i le_rfl (by omega)
    have h1 := ih (i + 1) fun j h1 h2 => h j (by omega) (by omega)
    show iprop(Φ i ∗ seq Φ (i + 1) n) ⊢ iprop(Ψ i ∗ seq Ψ (i + 1) n)
    iintro ⟨A, B⟩
    isplitl [A]
    · iapply h0; iexact A
    · iapply h1; iexact B

theorem seq_congr {Φ Ψ : ℕ → sProp 𝕄} (n : ℕ) (i : ℕ) (h : ∀ j, i ≤ j → j < i + n → Φ j = Ψ j) : seq Φ i n = seq Ψ i n :=
  equiv_iff.mp ⟨seq_mono n i fun j h1 h2 => Entails.of_eq (h j h1 h2), seq_mono n i fun j h1 h2 => Entails.of_eq (h j h1 h2).symm⟩

theorem seq_shift (Φ : ℕ → sProp 𝕄) (a n : ℕ) : ∀ i, seq Φ (i + a) n = seq (fun j => Φ (j + a)) i n := by
  induction n with
  | zero => intro i; rfl
  | succ n ih =>
    intro i
    show iprop(Φ (i + a) ∗ seq Φ (i + a + 1) n) = iprop(Φ (i + a) ∗ seq (fun j => Φ (j + a)) (i + 1) n)
    rw [← ih (i + 1), show i + a + 1 = i + 1 + a by omega]

theorem seq_add (Φ : ℕ → sProp 𝕄) (b : ℕ) (a : ℕ) : ∀ i, seq Φ i (a + b) = iprop(seq Φ i a ∗ seq Φ (i + a) b) := by
  induction a with
  | zero => intro i; rw [Nat.zero_add, Nat.add_zero]; exact (equiv_iff.mp emp_sep).symm
  | succ a ih =>
    intro i
    rw [show a + 1 + b = a + b + 1 by omega]
    show iprop(Φ i ∗ seq Φ (i + 1) (a + b)) = iprop((Φ i ∗ seq Φ (i + 1) a) ∗ seq Φ (i + (a + 1)) b)
    rw [ih (i + 1), show i + (a + 1) = i + 1 + a by omega]
    exact (both sep_assoc.1 sep_assoc.2).symm

theorem seq_snoc (Φ : ℕ → sProp 𝕄) (i n : ℕ) : seq Φ i (n + 1) = iprop(seq Φ i n ∗ Φ (i + n)) := by
  rw [seq_add]
  show iprop(seq Φ i n ∗ (Φ (i + n) ∗ emp)) = _
  rw [show iprop(Φ (i + n) ∗ emp) = Φ (i + n) from equiv_iff.mp sep_emp]

theorem seq_sep (Φ Ψ : ℕ → sProp 𝕄) (n : ℕ) : ∀ i, seq (fun j => iprop(Φ j ∗ Ψ j)) i n = iprop(seq Φ i n ∗ seq Ψ i n) := by
  induction n with
  | zero => intro i; exact (equiv_iff.mp emp_sep).symm
  | succ n ih =>
    intro i
    show iprop((Φ i ∗ Ψ i) ∗ seq (fun j => iprop(Φ j ∗ Ψ j)) (i + 1) n) = iprop((Φ i ∗ seq Φ (i + 1) n) ∗ (Ψ i ∗ seq Ψ (i + 1) n))
    rw [ih (i + 1)]
    refine both ?_ ?_
    · iintro ⟨⟨A, B⟩, C, D⟩
      isplitl [A C]; · isplitl [A] <;> iassumption
      isplitl [B] <;> iassumption
    · iintro ⟨⟨A, C⟩, B, D⟩
      isplitl [A B]; · isplitl [A] <;> iassumption
      isplitl [C] <;> iassumption

theorem seq_rev (Φ : ℕ → sProp 𝕄) (n : ℕ) : seq Φ 0 n = seq (fun j => Φ (n - 1 - j)) 0 n := by
  induction n with
  | zero => rfl
  | succ n ih =>
    rw [seq_snoc, ih]
    show _ = iprop(Φ (n + 1 - 1 - 0) ∗ seq (fun j => Φ (n + 1 - 1 - j)) (0 + 1) n)
    rw [seq_shift (fun j => Φ (n + 1 - 1 - j)) 1 n 0, show n + 1 - 1 - 0 = 0 + n by omega,
      seq_congr (Ψ := fun j => Φ (n + 1 - 1 - (j + 1))) n 0 (fun j _ _ => by rw [show n - 1 - j = n + 1 - 1 - (j + 1) by omega])]
    exact both sep_comm.1 sep_comm.1

theorem seq_range (Φ : ℕ → sProp 𝕄) (n : ℕ) : bigSep (Finset.range n) Φ = seq Φ 0 n := by
  induction n with
  | zero => rfl
  | succ n ih =>
    rw [Finset.range_add_one, bigSep_insert Finset.notMem_range_self, ih, seq_snoc, Nat.zero_add]
    exact both sep_comm.1 sep_comm.1

theorem seq_univ (Φ : ℕ → sProp 𝕄) (n : ℕ) : bigSep Finset.univ (fun k : Fin n => Φ k.val) = seq Φ 0 n := by
  rw [← seq_range, ← Nat.Iio_eq_range, ← Fin.map_valEmbedding_univ, bigSep_map]; rfl

end Seq

variable (m : (ℓ : Loc nD τ sig) → Buf (Elt F) ℓ) (ρ : Dev nD → PrngReg) (K : Dev nD × Fin 97 → ℕ) (c : Dev nD)

/-! ## Loops -/

/-- A loop whose pass `j` takes `A j` to `B j`, and the running state from `R j` to `R (j + 1)`. -/
theorem each {P : sProp 𝕄} [BI.Persistent P] (f : ℕ → KProg F PUnit) (R A B : ℕ → sProp 𝕄) (n : ℕ) :
    ∀ i, (∀ j, i ≤ j → j < i + n → ∀ Φ : PUnit → sProp 𝕄, (iprop(P ∗ R j ∗ A j) ⊢ iprop(((R (j + 1) ∗ B j) -∗ Φ ⟨⟩) -∗ run c (f j) Φ))) →
    ∀ Φ : PUnit → sProp 𝕄, iprop(P ∗ R i ∗ seq A i n) ⊢ iprop(((R (i + n) ∗ seq B i n) -∗ Φ ⟨⟩) -∗ run c (rep f i n) Φ) := by
  induction n with
  | zero =>
    intro i _ Φ
    iintro ⟨-, HR, HA⟩ Hk
    unfold rep run
    rw [Prog.pure_eq_ret, wp_ret]; imodintro
    iapply Hk
    isplitl [HR]; · iexact HR
    unfold seq; iempintro
  | succ n ih =>
    intro i h Φ
    have hi := h i le_rfl (by omega)
    have ht := ih (i + 1) (fun j h1 h2 => h j (by omega) (by omega))
    rw [show i + 1 + n = i + (n + 1) by omega] at ht
    unfold rep run seq
    rw [wp_bind]
    iintro ⟨#HP, HR, HA, HAs⟩ Hk
    iapply (hi _) $$ [HR HA]
    · isplitr; · iexact HP
      isplitl [HR] <;> iassumption
    iintro ⟨HR, HB⟩
    iapply (ht Φ) $$ [HR HAs]
    · isplitr; · iexact HP
      isplitl [HR] <;> iassumption
    iintro ⟨HR, HBs⟩
    iapply Hk
    isplitl [HR]; · iexact HR
    isplitl [HB] <;> iassumption

/-! ## Signals and the barrier -/

theorem sig_one (i : ℕ) (hi : i < 15) {l : List (Dev nD × ℕ)} (Φ : PUnit → sProp 𝕄) :
    iprop(ctx m ρ K ∗ owesL c (dueSig c i :: l) ∗ pays (nb (i + 1) c) 96 0 (14 - i) ∗ barPay (nb (i + 1) c) (14 - i))
      ⊢ iprop((owesL c l -∗ Φ ⟨⟩) -∗ run c (opSig (F := F) c i) Φ) := by
  have hp := payload_eq (F := F) m ρ (nb (i + 1) c) (k := 96) (by decide) 0 (14 - i)
  have hd := duties_eq (F := F) m ρ (nb (i + 1) c) (k := 96) (by decide) 0
  have ha := amount_eq (F := F) m ρ (nb (i + 1) c) (k := 96) (by decide) 0 (14 - i)
  have hinv := recs_at (F := F) m ρ K (nb (i + 1) c) (k := 96) (by decide)
  unfold opSig run ctx owesL pays
  rw [ahead_eq]
  unfold semSignalWord
  iintro ⟨⟨#HR, #HL⟩, ⟨%W, Ho⟩, Ht, Hp⟩ Hk
  ihave H2 := hinv $$ HR
  icases H2 with ⟨#HI, #Hr⟩
  iapply (Rounds.wp_signal 𝒱₀ ER (Sch m ρ) (c : Thread nD τ) none (dst := (nb (i + 1) c : Thread nD τ)) (κ := K (nb (i + 1) c, ⟨96, by decide⟩))
      (d := 14 - i) (by
        rw [show ((nb (i + 1) c : Thread nD τ), SemLoc.reg barS) = cell (nb (i + 1) c) 96 from rfl, hd]
        exact Finset.mem_range.mpr (by omega))
      (ha.trans (by decide)) () (owed l) rfl)
    $$ [Ho Ht Hp]
  · isplitr; · iexact HI
    isplitl [Ho]; · iexact Ho
    isplitl [Ht]; · iexact Ht
    isplitl [Hp]; · iapply (show barPay (nb (i + 1) c) (14 - i) ⊢ (Sch (F := F) m ρ).payload ((nb (i + 1) c : Thread nD τ), SemLoc.reg barS) 0 (14 - i) from Entails.of_eq hp.symm); iexact Hp
    iexact Hr
  iintro Ho
  rw [wp_ret]; imodintro
  iapply Hk
  iexists W; iexact Ho

theorem bar_wait {l : List (Dev nD × ℕ)} (ha : Above 1 l) (Φ : PUnit → sProp 𝕄) :
    iprop(ctx m ρ K ∗ cred (tallyAt (cell c 96) () 15) ∗ owesL c l ∗ pos c 96 0)
      ⊢ iprop(((owesL c l ∗ rest c 96 ∗ seq (barPay c) 0 15) -∗ Φ ⟨⟩) -∗ run c (opBar (F := F)) Φ) := by
  have hinv := recs_at (F := F) m ρ K c (k := 96) (by decide)
  have hr : bigSep ((Sch (F := F) m ρ).duties (cell c 96) 0 \ ∅) (fun d => (Sch (F := F) m ρ).payload (cell c 96) 0 d) = seq (barPay c) 0 15 := by
    rw [Finset.sdiff_empty, duties_eq m ρ c (by decide), show dutiesK 96 0 = Finset.range 15 from rfl, ← seq_range]
    exact bigSep_congr fun d _ => payload_eq m ρ c (by decide) 0 d
  have hx := expect_bar (F := F) m ρ c
  have hcl := close_one (F := F) m ρ K c (k := 96) (r := 1) (by decide) (fun r' h => by
    unfold dutiesK; rw [if_pos rfl, if_neg (by omega)])
  unfold ctx pos at hcl
  unfold opBar run ctx owesL pos
  unfold semWaitWord
  iintro ⟨⟨#HR, #HL⟩, Hc, ⟨%W, Ho⟩, Hat⟩ Hk
  ihave H2 := hinv $$ HR
  icases H2 with ⟨#HI, #Hr⟩
  iapply (Rounds.wp_wait_rest_token 𝒱₀ ER (Sch m ρ) (c : Thread nD τ) none (κ := K (c, ⟨96, by decide⟩))
      (wpE_semWait_eq 𝒱₀ (c : Thread nD τ) none Set.univ) (Set.mem_univ _) () (O := owed l) (W := W) (R := 0) (m := 0) (T := ∅)
      (by rw [show ((c : Thread nD τ), SemLoc.reg barS) = cell c 96 from rfl, hx]; decide)) $$ [Hc Ho Hat]
  · isplitr; · iexact HI
    isplitl [Hc]; · iexact Hc
    isplitl [Ho]; · iexact Ho
    isplitr; · iapply (mayWait c (SemLoc.reg barS) l ha); iexact HL
    iexact Hat
  iintro ⟨Ho, Hat, -, Hp⟩
  rw [wp_ret]
  imod hcl $$ [Hat] with Hz
  · isplitr
    · isplitr; · iexact HR
      iexact HL
    iexact Hat
  imodintro
  iapply Hk
  isplitl [Ho]; · iexists _; iexact Ho
  isplitl [Hz]; · iexact Hz
  iapply (Entails.of_eq hr); iexact Hp

/-! ## Loads and stores -/

theorem load_one {s : Shape} {e : EltTy} {v : Memref sig .tc .vmem s e} {r : Rect s} {hl : v.view.LoadsAt r.toLoadRect}
    {S : Finset (Idx ((v.access r).loc (c : Thread nD τ)))} {q : PosShare TreeShare} {f : Buf (Elt F) ((v.access r).loc (c : Thread nD τ))}
    (hS : (v.access r).set ⊆ S) (Φ : (r.shape.Idx → Elt F e) → sProp 𝕄) :
    ((v.access r).loc (c : Thread nD τ) ↦[S]{q} f)
      ⊢ iprop((((v.access r).loc (c : Thread nD τ) ↦[S]{q} f) -∗ Φ ((v.access r).read (Elt F) f))
        -∗ run c (Prog.lift (.load v r.toLoadRect hl)) Φ) := by
  iintro H Hk
  unfold run Prog.lift
  iapply (wp_load_rect 𝒱₀ (c : Thread nD τ) none Set.univ hS) $$ H
  iintro H
  rw [wp_ret]; imodintro
  iapply Hk; iexact H

theorem store_one {s : Shape} {e : EltTy} {v : Memref sig .tc .vmem s e} {r : Rect s} {w : r.shape.Idx → Elt F e} {hx : (v.access r).Stores Finset.univ}
    {hm : (Finset.univ : Finset r.shape.Idx) = Finset.univ ∨ ∀ a, r.stride a = 1}
    {S : Finset (Idx ((v.access r).loc (c : Thread nD τ)))} {f : Buf (Elt F) ((v.access r).loc (c : Thread nD τ))}
    (hS : (v.access r).set ⊆ S) (Φ : PUnit → sProp 𝕄) :
    ((v.access r).loc (c : Thread nD τ) ↦[S]{fullShare} f)
      ⊢ iprop((((v.access r).loc (c : Thread nD τ) ↦[S]{fullShare} ((v.access r).write (Elt F) f w Finset.univ)) -∗ Φ ⟨⟩)
        -∗ run c (Prog.lift (.store v r w Finset.univ hx hm)) Φ) := by
  iintro H Hk
  unfold run Prog.lift
  iapply (wp_store 𝒱₀ (c : Thread nD τ) none Set.univ hS) $$ H
  iintro H
  rw [wp_ret]; imodintro
  iapply Hk; iexact H

end Cert.MatProof
-- ==== Proof.Moves.lean ====
/- The operations of each family of slots, at the contents the ring gives them. -/
module

public import proofs.«01_k».proof.Proof.Loops
public import Idealize.ShloMosaic.Lib.Pipeline.Value

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

/-! ## A slot read through the load's rectangle and through the copy's view -/

theorem readR (q s : ℕ) (f : Buf (Elt F) ((slR q s).view.loc (c : Thread nD τ))) :
    dropW (((mR q).access (rR s)).read (Elt F) f) = (slR q s).view.read (Elt F) f := rfl
theorem readL (q s : ℕ) (f : Buf (Elt F) ((slL q s).view.loc (c : Thread nD τ))) :
    dropW (((mL q).access (rL s)).read (Elt F) f) = (slL q s).view.read (Elt F) f := rfl
theorem readS (q b : ℕ) (f : Buf (Elt F) ((slS q b).view.loc (c : Thread nD τ))) :
    dropW (((mS q).access (rS b)).read (Elt F) f) = (slS q b).view.read (Elt F) f := rfl
theorem readX (o : ℕ) (f : Buf (Elt F) ((slX o).view.loc (c : Thread nD τ))) :
    dropX (((mXr).access (rX o)).read (Elt F) f) = (slX o).view.read (Elt F) f := rfl
theorem setR (q s : ℕ) : ((mR q).access (rR s)).set ⊆ (slR q s).view.set := (View.set_reshape _ _).ge
theorem setL (q s : ℕ) : ((mL q).access (rL s)).set ⊆ (slL q s).view.set := (View.set_reshape _ _).ge
theorem setS (q s : ℕ) : ((mS q).access (rS s)).set ⊆ (slS q s).view.set := (View.set_reshape _ _).ge
theorem setX (o : ℕ) : (mXr.access (rX o)).set ⊆ (slX o).view.set := (View.set_reshape _ _).ge
theorem setA (o : ℕ) : (mAb.access (rA o)).set ⊆ (slA o).view.set := (View.set_reshape _ _).ge

theorem dropW_packS (v : VF F) : dropW (packS v) = truncf .bf16 v bitsLt_bf16_f32 := by
  unfold dropW packS
  exact shapeCast_shapeCast _ _ _

theorem ldR_has (q s : ℕ) {sh : PosShare TreeShare} {V : VW F} (Φ : V1 F → sProp 𝕄) :
    has c (slR q s) sh V ⊢ iprop((∀ x : V1 F, (⌜dropW x = V⌝ ∗ has c (slR q s) sh V) -∗ Φ x) -∗ run c (ldR q s) Φ) := by
  unfold has
  iintro ⟨%f, %hf, H⟩ Hk
  iapply (load_one c (v := mR q) (r := rR s) (S := (slR q s).view.set) (setR q s) Φ) $$ H
  iintro H
  iapply Hk
  isplitr; · ipureintro; rw [← hf]; exact readR c q s f
  iexists f
  isplitr; · ipureintro; exact hf
  iexact H
theorem ldL_has (q s : ℕ) {sh : PosShare TreeShare} {V : VW F} (Φ : V1 F → sProp 𝕄) :
    has c (slL q s) sh V ⊢ iprop((∀ x : V1 F, (⌜dropW x = V⌝ ∗ has c (slL q s) sh V) -∗ Φ x) -∗ run c (ldL q s) Φ) := by
  unfold has
  iintro ⟨%f, %hf, H⟩ Hk
  iapply (load_one c (v := mL q) (r := rL s) (S := (slL q s).view.set) (setL q s) Φ) $$ H
  iintro H
  iapply Hk
  isplitr; · ipureintro; rw [← hf]; exact readL c q s f
  iexists f
  isplitr; · ipureintro; exact hf
  iexact H
theorem ldXr_has (o : ℕ) {sh : PosShare TreeShare} {V : VX F} (Φ : Vec F S1x256x256 .bf16 → sProp 𝕄) :
    has c (slX o) sh V ⊢ iprop((∀ x : Vec F S1x256x256 .bf16, (⌜dropX x = V⌝ ∗ has c (slX o) sh V) -∗ Φ x) -∗ run c (ldXr o) Φ) := by
  unfold has
  iintro ⟨%f, %hf, H⟩ Hk
  iapply (load_one c (v := mXr) (r := rX o) (S := (slX o).view.set) (setX o) Φ) $$ H
  iintro H
  iapply Hk
  isplitr; · ipureintro; rw [← hf]; exact readX c o f
  iexists f
  isplitr; · ipureintro; exact hf
  iexact H
theorem ldS_lent (q b : ℕ) {sh : PosShare TreeShare} (Φ : V1 F → sProp 𝕄) :
    lent c (slS q b) sh ⊢ iprop((∀ x : V1 F, lent c (slS q b) sh -∗ Φ x) -∗ run c (ldS q b) Φ) := by
  unfold lent
  iintro ⟨%f, H⟩ Hk
  iapply (load_one c (v := mS q) (r := rS b) (S := (slS q b).view.set) (setS q b) Φ) $$ H
  iintro H
  iapply Hk
  iexists f
  iexact H
theorem stS_lent (q b : ℕ) (v : VF F) (Φ : PUnit → sProp 𝕄) :
    lent c (slS q b) fullShare ⊢ iprop((has c (slS q b) fullShare (truncf .bf16 v bitsLt_bf16_f32 : VW F) -∗ Φ ⟨⟩) -∗ run c (stS q b (packS v)) Φ) := by
  unfold lent has
  iintro ⟨%f, H⟩ Hk
  iapply (store_one c (v := mS q) (r := rS b) (S := (slS q b).view.set) (setS q b) Φ) $$ H
  iintro H
  iapply Hk
  iexists (((mS q).access (rS b)).write (Elt F) f (packS v) Finset.univ)
  isplitr
  · ipureintro
    rw [← readS c q b, View.read_write_univ, dropW_packS]
  iexact H
/-- The own operands, read from a share of the whole. -/
theorem ldX_whole (b : Dev nD) {off : Fin 2 → Nat} {h : ∀ a, off a + S256x256.size a ≤ S4096x256.size a} (hoff : off = offB b) {sh : PosShare TreeShare}
    (Φ : VX F → sProp 𝕄) :
    ((c : Thread nD τ).loc cc0_scratch0 ↦{sh} xb m ρ c) ⊢ iprop((((c : Thread nD τ).loc cc0_scratch0 ↦{sh} xb m ρ c) -∗ Φ (xblk m ρ c b)) -∗ run c (ldX off h) Φ) := by
  subst hoff
  rw [show xblk m ρ c b = (mXb.access (rB (offB b) h)).read (Elt F) (xb m ρ c) from rfl]
  iintro H Hk
  iapply (load_one c (v := mXb) (r := rB (offB b) h) (S := Finset.univ) (Finset.subset_univ _) Φ) $$ H
  iintro H
  iapply Hk; iexact H
theorem ldW_whole (q : ℕ) {sh : PosShare TreeShare} (Φ : VW F → sProp 𝕄) :
    ((c : Thread nD τ).loc cc0_scratch1 ↦{sh} wb m ρ c) ⊢ iprop((((c : Thread nD τ).loc cc0_scratch1 ↦{sh} wb m ρ c) -∗ Φ (wH m ρ c q)) -∗ run c (ldW q) Φ) := by
  rw [show wH m ρ c q = (mWb.access (rH q)).read (Elt F) (wb m ρ c) from rfl]
  iintro H Hk
  iapply (load_one c (v := mWb) (r := rH q) (S := Finset.univ) (Finset.subset_univ _) Φ) $$ H
  iintro H
  iapply Hk; iexact H

/-! ## What each cell's payment is -/

theorem payK_Rv (q s r d : ℕ) (hq : q < 2) (hs : s < 8) :
    payK (F := F) m ρ c (8 * q + s) r d = has c (slR q s) fullShare (wH m ρ (nb (15 - s) c) q) := by
  unfold payK
  rw [if_neg (by omega), if_pos (by omega), show (8 * q + s) / 8 = q by omega, show (8 * q + s) % 8 = s by omega]
theorem payK_Rd (q s r d : ℕ) (hq : q < 2) (hs : s < 8) : payK (F := F) m ρ c (16 + 8 * q + s) r d = lent c (srcR q s) lh := by
  unfold payK
  rw [if_neg (by omega), if_neg (by omega), if_pos (by omega), show (16 + 8 * q + s - 16) / 8 = q by omega, show (16 + 8 * q + s - 16) % 8 = s by omega]
theorem payK_Lv (q s r d : ℕ) (hq : q < 2) (hs : s < 7) :
    payK (F := F) m ρ c (32 + 7 * q + s) r d = has c (slL q s) fullShare (Lv m ρ q s (nb 1 c)) := by
  unfold payK
  rw [if_neg (by omega), if_neg (by omega), if_neg (by omega), if_pos (by omega),
    show (32 + 7 * q + s - 32) / 7 = q by omega, show (32 + 7 * q + s - 32) % 7 = s by omega]
theorem slS_mod (q s : ℕ) : slS q (s % 2) = slS q s := by
  have key : ∀ (n : ℕ) (h : ∀ a, (![n, 0, 0] : Fin 3 → Nat) a + S1x256x1024.size a ≤ S2x256x1024.size a) (n' : ℕ)
      (h' : ∀ a, (![n', 0, 0] : Fin 3 → Nat) a + S1x256x1024.size a ≤ S2x256x1024.size a), n = n' →
      (((mS q).slice (Rect.unit (s := S2x256x1024) ![n, 0, 0] S1x256x1024.size h) (fun _ => rfl)).squeeze S256x1024 squeezes_S1x256x1024_S256x1024)
        = ((mS q).slice (Rect.unit (s := S2x256x1024) ![n', 0, 0] S1x256x1024.size h') (fun _ => rfl)).squeeze S256x1024 squeezes_S1x256x1024_S256x1024 := by
    rintro n h n' h' rfl; rfl
  exact key _ (inb2 (s % 2)) _ (inb2 s) (Nat.mod_mod _ _)
theorem payK_Ld (q s r d : ℕ) (hq : q < 2) : payK (F := F) m ρ c (46 + 2 * q + s % 2) r d = lent c (slS q s) fullShare := by
  unfold payK
  rw [if_neg (by omega), if_neg (by omega), if_neg (by omega), if_neg (by omega), if_pos (by omega),
    show (46 + 2 * q + s % 2 - 46) / 2 = q by omega, show (46 + 2 * q + s % 2 - 46) % 2 = s % 2 by omega]
  rw [slS_mod]
theorem payK_Xd (i r d : ℕ) (hi : i < 8) : payK (F := F) m ρ c (50 + i) r d = lent c (slB (offB (nb (i + 1) c)) (inbB _)) lh := by
  unfold payK
  rw [if_neg (by omega), if_neg (by omega), if_neg (by omega), if_neg (by omega), if_neg (by omega), if_pos (by omega)]
  simp only [show 50 + i - 50 = i by omega]
theorem payK_Xv (i r d : ℕ) (hi : i < 8) : payK (F := F) m ρ c (58 + i) r d = has c (slX (i + 1)) fullShare (xblk m ρ (nb (15 - i) c) c) := by
  unfold payK
  rw [if_neg (by omega), if_neg (by omega), if_neg (by omega), if_neg (by omega), if_neg (by omega), if_neg (by omega), if_pos (by omega),
    show 58 + i - 58 = i by omega]
theorem payK_Ad (i r d : ℕ) (hi : i < 15) : payK (F := F) m ρ c (66 + i) r d = lent c mAt (shareTokN fullShare i) := by
  unfold payK
  rw [if_neg (by omega), if_neg (by omega), if_neg (by omega), if_neg (by omega), if_neg (by omega), if_neg (by omega), if_neg (by omega), if_pos (by omega),
    show 66 + i - 66 = i by omega]
theorem payK_Av (i r d : ℕ) (hi : i < 15) : payK (F := F) m ρ c (81 + i) r d = has c (slA (i + 1)) fullShare (tile m ρ (nb (15 - i) c)) := by
  unfold payK
  rw [if_neg (by omega), if_neg (by omega), if_neg (by omega), if_neg (by omega), if_neg (by omega), if_neg (by omega), if_neg (by omega), if_neg (by omega),
    show 81 + i - 81 = i by omega]

theorem duty0 {k : ℕ} (h : k < 46 ∨ 50 ≤ k ∧ k < 96) : dutiesK k 0 = {0} := by
  unfold dutiesK; rw [if_neg (by omega), if_neg (by omega), if_pos ⟨by omega, rfl⟩]
theorem duty1 {k : ℕ} (h : k < 46 ∨ 50 ≤ k ∧ k < 96) : ∀ r, 0 + 1 ≤ r → dutiesK k r = ∅ := by
  intro r hr; unfold dutiesK; rw [if_neg (by omega), if_neg (by omega), if_neg (by omega)]
/-- The cell and the round of the departure `s` of a partial sum. -/
abbrev kLd (q s : ℕ) : ℕ := 46 + 2 * q + s % 2
theorem kLd_eq (q s : ℕ) : kLd q s = 46 + 2 * q + s % 2 := rfl
theorem kLd_lt {q : ℕ} (s : ℕ) (hq : q < 2) : kLd q s < 50 := by rw [kLd_eq]; omega
theorem kLd_le (q s : ℕ) : 46 ≤ kLd q s := by rw [kLd_eq]; omega
theorem dutyLd (q s : ℕ) (hq : q < 2) (hs : s < 7) : dutiesK (kLd q s) (s / 2) = {0} := by
  unfold dutiesK kLd; rw [if_neg (by omega), if_pos (by omega), if_pos (by omega)]
theorem dutyLd_last (q s : ℕ) (hq : q < 2) (hs : s = 5 ∨ s = 6) : ∀ r, s / 2 + 1 ≤ r → dutiesK (kLd q s) r = ∅ := by
  intro r hr; unfold dutiesK kLd; rw [if_neg (by omega), if_pos (by omega), if_neg (by omega)]
theorem amW {k : ℕ} (h : k < 50) : amountK k = NW := by unfold amountK; rw [if_neg (by omega), if_pos h]
theorem amX {k : ℕ} (h : 50 ≤ k) (h' : k < 66) : amountK k = NX := by unfold amountK; rw [if_neg (by omega), if_neg (by omega), if_pos h']
theorem amA {k : ℕ} (h : 66 ≤ k) (h' : k < 96) : amountK k = NA := by
  unfold amountK; rw [if_neg (by omega), if_neg (by omega), if_neg (by omega)]

theorem lv_Rv (q s : ℕ) (hq : q < 2) (hs : s < 8) : lvK (8 * q + s) = 3 + 2 * s := by
  unfold lvK; rw [if_neg (by omega), if_pos (by omega)]; omega
theorem lv_Lv (q s : ℕ) (hq : q < 2) (hs : s < 7) : lvK (32 + 7 * q + s) = 4 + 2 * s := by
  unfold lvK; rw [if_neg (by omega), if_neg (by omega), if_neg (by omega), if_pos (by omega)]; omega
theorem lv_Xv (i : ℕ) (hi : i < 8) : lvK (58 + i) = 2 := by
  unfold lvK; rw [if_neg (by omega), if_neg (by omega), if_neg (by omega), if_neg (by omega), if_neg (by omega), if_pos (by omega)]
theorem lv_Av (i : ℕ) (hi : i < 15) : lvK (81 + i) = 100 := by
  unfold lvK
  rw [if_neg (by omega), if_neg (by omega), if_neg (by omega), if_neg (by omega), if_neg (by omega), if_neg (by omega), if_neg (by omega), if_pos (by omega)]
/-- Departures are at level 0. -/
theorem lv_dep {k : ℕ} (h : 16 ≤ k ∧ k < 32 ∨ 46 ≤ k ∧ k < 58 ∨ 66 ≤ k ∧ k < 81) : lvK k = 0 := by
  unfold lvK; (repeat' split) <;> omega

theorem slB_eq {off : Fin 2 → Nat} {h : ∀ a, off a + S256x256.size a ≤ S4096x256.size a} {b : Dev nD} (hoff : off = offB b) :
    slB off h = slB (offB b) (inbB b) := by subst hoff; rfl

/-! ## Copies -/

theorem send_has {c' d' : Dev nD} (hd' : d' = c') {k₁ k₂ r : ℕ} (hk₁ : k₁ < 97) (hk₂ : k₂ < 97)
    {s : Shape} {e : EltTy} {src : Memref sig .tc .vmem s e} {dst : Memref sig .tc .vmem s e} {sS sem : DmaSem sig}
    {hsc : (dst : Memref sig (Dev.tc d' : Thread nD τ).2.kind .vmem s e).view.ref.isScScratch = false}
    {hsrc : src.view.WordExact} {hdst : dst.view.WordExact}
    {hsem : DmaTarget.Typed .vmem (.dma sem) (.remote (Dev.tc d' : Thread nD τ) dst (.dma sS) hsc)}
    (hs₁ : SemLoc.dma sS = csm k₁) (hs₂ : SemLoc.dma sem = csm k₂)
    (hd₁ : dutiesK k₁ r = {0}) (hd₂ : dutiesK k₂ 0 = {0})
    (hN : dst.view.dmaCredit = amountK k₂) (hA : amountK k₁ = amountK k₂)
    {q : PosShare TreeShare} {V : s.Idx → Elt F e}
    (hp₁ : payK m ρ c k₁ r 0 = lent c src q) (hp₂ : payK m ρ c' k₂ 0 0 = has c' dst fullShare V)
    {l : List (Dev nD × ℕ)} (Φ : PUnit → sProp 𝕄) :
    iprop(ctx m ρ K ∗ has c src q V ∗ lent c' dst fullShare ∗ owesL c ((c', k₂) :: l)
        ∗ pays c k₁ r 0 ∗ begun c k₁ r ∗ pays c' k₂ 0 0)
      ⊢ iprop(((tok c k₁ ∗ owesL c l) -∗ Φ ⟨⟩)
        -∗ run c (Prog.lift (.enqueueDma src (.remote (Dev.tc d' : Thread nD τ) dst (.dma sS) hsc) (.dma sem) hsrc hdst hsem)) Φ) := by
  unfold has at *
  iintro ⟨#HC, ⟨%f, %hf, Hs⟩, H⟩ Hk
  subst hf
  iapply (send_one m ρ K c hd' hk₁ hk₂ hs₁ hs₂ hd₁ hd₂ hN hA hp₁ (hp₂.trans (by unfold has; rfl)) Φ) $$ [Hs H]
  · isplitr; · iexact HC
    isplitl [Hs]; · iexact Hs
    iexact H
  iexact Hk

theorem sendX (i : ℕ) (hi : i < 8) {l : List (Dev nD × ℕ)} (Φ : PUnit → sProp 𝕄) :
    iprop(ctx m ρ K ∗ owesL c (dueX c i :: l) ∗ (has c (slB (offB (nb (i + 1) c)) (inbB _)) lh (xblk m ρ c (nb (i + 1) c))
        ∗ lent (nb (i + 1) c) (slX (i + 1)) fullShare ∗ pays c (50 + i) 0 0 ∗ pays (nb (i + 1) c) (58 + i) 0 0))
      ⊢ iprop(((owesL c l ∗ tok c (50 + i)) -∗ Φ ⟨⟩) -∗ run c (opSendX c i) Φ) := by
  iintro ⟨#HC, Ho, Hs, Hd, H₁, H₂⟩ Hk
  unfold opSendX
  iapply (send_has m ρ K c (ahead_eq (i + 1) c) (k₁ := 50 + i) (k₂ := 58 + i) (r := 0) (by omega) (by omega) (semXd_eq i hi) (semXv_eq i hi)
    (duty0 (by omega)) (duty0 (by omega)) (by rw [amX (by omega) (by omega)]) (by rw [amX (by omega) (by omega), amX (by omega) (by omega)])
    (V := xblk m ρ c (nb (i + 1) c))
    (by rw [payK_Xd m ρ c i 0 0 hi, slB_eq (off1_eq c i hi)]) (by rw [payK_Xv m ρ _ i 0 0 hi, nb_back c (by omega)]) Φ) $$ [Ho Hs Hd H₁ H₂]
  · isplitr; · iexact HC
    isplitl [Hs]; · rw [slB_eq (off1_eq c i hi)]; iexact Hs
    isplitl [Hd]; · iexact Hd
    isplitl [Ho]; · iexact Ho
    isplitl [H₁]; · iexact H₁
    isplitr; · iapply (begun_zero m ρ K c (by omega)); iexact HC
    iexact H₂
  iintro ⟨Ht, Ho⟩
  iapply Hk; isplitl [Ho] <;> iassumption

theorem sendA (i : ℕ) (hi : i < 15) {l : List (Dev nD × ℕ)} (Φ : PUnit → sProp 𝕄) :
    iprop(ctx m ρ K ∗ owesL c (dueA c i :: l) ∗ (has c mAt (shareTokN fullShare i) (tile m ρ c)
        ∗ lent (nb (i + 1) c) (slA (i + 1)) fullShare ∗ pays c (66 + i) 0 0 ∗ pays (nb (i + 1) c) (81 + i) 0 0))
      ⊢ iprop(((owesL c l ∗ tok c (66 + i)) -∗ Φ ⟨⟩) -∗ run c (opSendA c i) Φ) := by
  iintro ⟨#HC, Ho, Hs, Hd, H₁, H₂⟩ Hk
  unfold opSendA
  iapply (send_has m ρ K c (ahead_eq (i + 1) c) (k₁ := 66 + i) (k₂ := 81 + i) (r := 0) (by omega) (by omega) (semAd_eq i hi) (semAv_eq i hi)
    (duty0 (by omega)) (duty0 (by omega)) (by rw [amA (by omega) (by omega)]) (by rw [amA (by omega) (by omega), amA (by omega) (by omega)])
    (V := tile m ρ c)
    (payK_Ad m ρ c i 0 0 hi) (by rw [payK_Av m ρ _ i 0 0 hi, nb_back c (by omega)]) Φ) $$ [Ho Hs Hd H₁ H₂]
  · isplitr; · iexact HC
    isplitl [Hs]; · iexact Hs
    isplitl [Hd]; · iexact Hd
    isplitl [Ho]; · iexact Ho
    isplitl [H₁]; · iexact H₁
    isplitr; · iapply (begun_zero m ρ K c (by omega)); iexact HC
    iexact H₂
  iintro ⟨Ht, Ho⟩
  iapply Hk; isplitl [Ho] <;> iassumption

theorem sendR (q s : ℕ) (hq : q < 2) (hs : s < 8) {l : List (Dev nD × ℕ)} (Φ : PUnit → sProp 𝕄) :
    iprop(ctx m ρ K ∗ owesL c (dueR c q s :: l) ∗ has c (srcR q s) lh (wH m ρ (nb (16 - s) c) q)
        ∗ lent (nb 1 c) (slR q s) fullShare ∗ pays c (16 + 8 * q + s) 0 0 ∗ pays (nb 1 c) (8 * q + s) 0 0)
      ⊢ iprop(((owesL c l ∗ tok c (16 + 8 * q + s)) -∗ Φ ⟨⟩) -∗ run c (opSendR c q s) Φ) := by
  iintro ⟨#HC, Ho, Hs, Hd, H₁, H₂⟩ Hk
  unfold opSendR
  iapply (send_has m ρ K c (ahead_eq 1 c) (k₁ := 16 + 8 * q + s) (k₂ := 8 * q + s) (r := 0) (by omega) (by omega) (semRd_eq q s hq hs) (semRv_eq q s hq hs)
    (duty0 (by omega)) (duty0 (by omega)) (by rw [amW (by omega), credR]) (by rw [amW (by omega), amW (by omega)])
    (V := wH m ρ (nb (16 - s) c) q)
    (payK_Rd m ρ c q s 0 0 hq hs) (by rw [payK_Rv m ρ _ q s 0 0 hq hs, nb_nb, show 1 + (15 - s) = 16 - s by omega]) Φ) $$ [Ho Hs Hd H₁ H₂]
  · isplitr; · iexact HC
    isplitl [Hs]; · iexact Hs
    isplitl [Hd]; · iexact Hd
    isplitl [Ho]; · iexact Ho
    isplitl [H₁]; · iexact H₁
    isplitr; · iapply (begun_zero m ρ K c (by omega)); iexact HC
    iexact H₂
  iintro ⟨Ht, Ho⟩
  iapply Hk; isplitl [Ho] <;> iassumption

theorem sendL (q s : ℕ) (hq : q < 2) (hs : s < 7) {l : List (Dev nD × ℕ)} (Φ : PUnit → sProp 𝕄) :
    iprop(ctx m ρ K ∗ owesL c (dueL c q s :: l) ∗ has c (slS q s) fullShare (Lv m ρ q s c)
        ∗ lent (nb 15 c) (slL q s) fullShare ∗ pays c (kLd q s) (s / 2) 0 ∗ begun c (kLd q s) (s / 2) ∗ pays (nb 15 c) (32 + 7 * q + s) 0 0)
      ⊢ iprop(((owesL c l ∗ tok c (kLd q s)) -∗ Φ ⟨⟩) -∗ run c (opSendL c q s) Φ) := by
  iintro ⟨#HC, Ho, Hs, Hd, H₁, Hb, H₂⟩ Hk
  unfold opSendL
  iapply (send_has m ρ K c (behind_eq c) (k₁ := kLd q s) (k₂ := 32 + 7 * q + s) (r := s / 2) (by have := kLd_lt s hq; omega) (by omega) (semLd_eq q s hq hs) (semLv_eq q s hq hs)
    (dutyLd q s hq hs) (duty0 (by omega)) (by rw [amW (by omega), credL]) (by rw [amW (kLd_lt s hq), amW (by omega)])
    (V := Lv m ρ q s c)
    (payK_Ld m ρ c q s _ 0 hq) (by rw [payK_Lv m ρ _ q s 0 0 hq hs, nb_back c (by omega)]) Φ) $$ [Ho Hs Hd H₁ Hb H₂]
  · isplitr; · iexact HC
    isplitl [Hs]; · iexact Hs
    isplitl [Hd]; · iexact Hd
    isplitl [Ho]; · iexact Ho
    isplitl [H₁]; · iexact H₁
    isplitl [Hb]; · iexact Hb
    iexact H₂
  iintro ⟨Ht, Ho⟩
  iapply Hk; isplitl [Ho] <;> iassumption

/-! ## Waits -/

/-- A wait on a cell used once. -/
theorem wait_once {k : ℕ} (h : k < 46 ∨ 50 ≤ k ∧ k < 96) {n : ℕ} (hn : lvK k = n)
    {sem : DmaSem sig} (hs : SemLoc.dma sem = csm k)
    {s s' : Shape} {e e' : EltTy} {src : Memref sig .tc .vmem s' e'} {dst : Memref sig .tc .vmem s e} {hsrc : src.view.WordExact} {hdst : dst.view.WordExact}
    (hN : dst.view.dmaCredit = amountK k) {P : sProp 𝕄} (hP : payK m ρ c k 0 0 = P) {l : List (Dev nD × ℕ)} (ha : Above n l) (Φ : PUnit → sProp 𝕄) :
    iprop(ctx m ρ K ∗ owesL c l ∗ (tok c k ∗ pos c k 0))
      ⊢ iprop(((owesL c l ∗ (rest c k ∗ P)) -∗ Φ ⟨⟩) -∗ run c (Prog.lift (.waitDma2 sem src dst hsrc hdst)) Φ) := by
  subst hP hn
  iintro ⟨#HC, Ho, Ht, Hp⟩ Hk
  iapply (wait_last m ρ K c (by omega) (duty0 h) (duty1 h) hs hN ha Φ) $$ [Ho Ht Hp]
  · isplitr; · iexact HC
    isplitl [Ht]; · iexact Ht
    isplitl [Ho] <;> iassumption
  iexact Hk

theorem waitRv (q s : ℕ) (hq : q < 2) (hs : s < 8) {l : List (Dev nD × ℕ)} (ha : Above (3 + 2 * s) l) (Φ : PUnit → sProp 𝕄) :
    iprop(ctx m ρ K ∗ owesL c l ∗ (tok c (8 * q + s) ∗ pos c (8 * q + s) 0))
      ⊢ iprop(((owesL c l ∗ (rest c (8 * q + s) ∗ has c (slR q s) fullShare (wH m ρ (nb (15 - s) c) q))) -∗ Φ ⟨⟩) -∗ run c (opWaitRv q s) Φ) :=
  wait_once m ρ K c (by omega) (lv_Rv q s hq hs) (semRv_eq q s hq hs) (by rw [amW (by omega), credR]) (payK_Rv m ρ c q s 0 0 hq hs) ha Φ
theorem waitRd (q s : ℕ) (hq : q < 2) (hs : s < 8) {l : List (Dev nD × ℕ)} (ha : Above 0 l) (Φ : PUnit → sProp 𝕄) :
    iprop(ctx m ρ K ∗ owesL c l ∗ (tok c (16 + 8 * q + s) ∗ pos c (16 + 8 * q + s) 0))
      ⊢ iprop(((owesL c l ∗ (rest c (16 + 8 * q + s) ∗ lent c (srcR q s) lh)) -∗ Φ ⟨⟩) -∗ run c (opWaitRd q s) Φ) :=
  wait_once m ρ K c (by omega) (lv_dep (by omega)) (semRd_eq q s hq hs) (by rw [amW (by omega), credSrc]) (payK_Rd m ρ c q s 0 0 hq hs) ha Φ
theorem waitLv (q s : ℕ) (hq : q < 2) (hs : s < 7) {l : List (Dev nD × ℕ)} (ha : Above (4 + 2 * s) l) (Φ : PUnit → sProp 𝕄) :
    iprop(ctx m ρ K ∗ owesL c l ∗ (tok c (32 + 7 * q + s) ∗ pos c (32 + 7 * q + s) 0))
      ⊢ iprop(((owesL c l ∗ (rest c (32 + 7 * q + s) ∗ has c (slL q s) fullShare (Lv m ρ q s (nb 1 c)))) -∗ Φ ⟨⟩) -∗ run c (opWaitLv q s) Φ) :=
  wait_once m ρ K c (by omega) (lv_Lv q s hq hs) (semLv_eq q s hq hs) (by rw [amW (by omega), credL]) (payK_Lv m ρ c q s 0 0 hq hs) ha Φ
theorem waitXv (i : ℕ) (hi : i < 8) {l : List (Dev nD × ℕ)} (ha : Above 2 l) (Φ : PUnit → sProp 𝕄) :
    iprop(ctx m ρ K ∗ owesL c l ∗ (tok c (58 + i) ∗ pos c (58 + i) 0))
      ⊢ iprop(((owesL c l ∗ (rest c (58 + i) ∗ has c (slX (i + 1)) fullShare (xblk m ρ (nb (15 - i) c) c))) -∗ Φ ⟨⟩) -∗ run c (opWaitXv c i) Φ) :=
  wait_once m ρ K c (by omega) (lv_Xv i hi) (semXv_eq i hi) (by rw [amX (by omega) (by omega)]) (payK_Xv m ρ c i 0 0 hi) ha Φ
theorem waitXd (i : ℕ) (hi : i < 8) {l : List (Dev nD × ℕ)} (ha : Above 0 l) (Φ : PUnit → sProp 𝕄) :
    iprop(ctx m ρ K ∗ owesL c l ∗ (tok c (50 + i) ∗ pos c (50 + i) 0))
      ⊢ iprop(((owesL c l ∗ (rest c (50 + i) ∗ lent c (slB (offB (nb (i + 1) c)) (inbB _)) lh)) -∗ Φ ⟨⟩) -∗ run c (opWaitXd c i) Φ) :=
  wait_once m ρ K c (by omega) (lv_dep (by omega)) (semXd_eq i hi) (by rw [amX (by omega) (by omega), credB]) (payK_Xd m ρ c i 0 0 hi) ha Φ
theorem waitAd (i : ℕ) (hi : i < 15) {l : List (Dev nD × ℕ)} (ha : Above 0 l) (Φ : PUnit → sProp 𝕄) :
    iprop(ctx m ρ K ∗ owesL c l ∗ (tok c (66 + i) ∗ pos c (66 + i) 0))
      ⊢ iprop(((owesL c l ∗ (rest c (66 + i) ∗ lent c mAt (shareTokN fullShare i))) -∗ Φ ⟨⟩) -∗ run c (opWaitAd i) Φ) :=
  wait_once m ρ K c (by omega) (lv_dep (by omega)) (semAd_eq i hi) (by rw [amA (by omega) (by omega), credAt]) (payK_Ad m ρ c i 0 0 hi) ha Φ
theorem waitAv (i : ℕ) (hi : i < 15) {l : List (Dev nD × ℕ)} (ha : Above 100 l) (Φ : PUnit → sProp 𝕄) :
    iprop(ctx m ρ K ∗ owesL c l ∗ (tok c (81 + i) ∗ pos c (81 + i) 0))
      ⊢ iprop(((owesL c l ∗ (rest c (81 + i) ∗ has c (slA (i + 1)) fullShare (tile m ρ (nb (15 - i) c)))) -∗ Φ ⟨⟩) -∗ run c (opWaitAv i) Φ) :=
  wait_once m ρ K c (by omega) (lv_Av i hi) (semAv_eq i hi) (by rw [amA (by omega) (by omega), credA]) (payK_Av m ρ c i 0 0 hi) ha Φ

/-- Departure `s` of a partial sum; a later departure is to use the cell. -/
theorem waitLd (q s : ℕ) (hq : q < 2) (hs : s < 7) {l : List (Dev nD × ℕ)} (ha : Above 0 l) (Φ : PUnit → sProp 𝕄) :
    iprop(ctx m ρ K ∗ tok c (kLd q s) ∗ owesL c l ∗ pos c (kLd q s) (s / 2))
      ⊢ iprop(((owesL c l ∗ pos c (kLd q s) (s / 2 + 1) ∗ begun c (kLd q s) (s / 2 + 1) ∗ lent c (slS q s) fullShare) -∗ Φ ⟨⟩) -∗ run c (opWaitLd q s) Φ) := by
  have h := wait_one (F := F) m ρ K c (k := kLd q s) (by have := kLd_lt s hq; omega) (dutyLd q s hq hs) (semLd_eq q s hq hs) (src := slL q s) (dst := slS q s) (hsrc := exL q s) (hdst := exS q s)
    (by rw [amW (kLd_lt s hq), credS]) (by rw [lv_dep (by have := kLd_lt s hq; have := kLd_le q s; omega)]; exact ha) Φ
  rw [payK_Ld m ρ c q s _ 0 hq] at h
  exact h
/-- The last departure through the cell. -/
theorem waitLd_last (q s : ℕ) (hq : q < 2) (hs : s = 5 ∨ s = 6) {l : List (Dev nD × ℕ)} (ha : Above 0 l) (Φ : PUnit → sProp 𝕄) :
    iprop(ctx m ρ K ∗ tok c (kLd q s) ∗ owesL c l ∗ pos c (kLd q s) (s / 2))
      ⊢ iprop(((owesL c l ∗ rest c (kLd q s) ∗ lent c (slS q s) fullShare) -∗ Φ ⟨⟩) -∗ run c (opWaitLd q s) Φ) := by
  have h := wait_last (F := F) m ρ K c (k := kLd q s) (by have := kLd_lt s hq; omega) (dutyLd q s hq (by omega)) (dutyLd_last q s hq hs) (semLd_eq q s hq (by omega)) (src := slL q s) (dst := slS q s) (hsrc := exL q s) (hdst := exS q s)
    (by rw [amW (kLd_lt s hq), credS]) (by rw [lv_dep (by have := kLd_lt s hq; have := kLd_le q s; omega)]; exact ha) Φ
  rw [payK_Ld m ρ c q s _ 0 hq] at h
  exact h

end Cert.MatProof
-- ==== Proof.Steps.lean ====
/- The blocks of operations of one ring step, and the steps. -/
module

public import proofs.«01_k».proof.Proof.Moves

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

/-! ## A slot split in two shares, and put together again -/

theorem has_halves {s : Shape} {e : EltTy} (v : Memref sig .tc .vmem s e) (V : s.Idx → Elt F e) :
    has c v fullShare V ⊢ iprop(has c v lh V ∗ has c v rh V) := by
  unfold has
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

theorem lent_whole {s : Shape} {e : EltTy} (v : Memref sig .tc .vmem s e) :
    iprop(lent (F := F) c v lh ∗ lent c v rh) ⊢ lent c v fullShare := by
  unfold lent
  iintro ⟨⟨%f, H1⟩, ⟨%g, H2⟩⟩
  ihave H := (persistent_entails_right pointsTo_agree) $$ [H1 H2]
  · isplitl [H1] <;> iassumption
  icases H with ⟨%h, H1, H2⟩
  iexists f
  iapply (pointsTo_share (PosShare.mem_left_op_right fullShare)).2
  isplitl [H1]; · iexact H1
  rw [pointsTo_congr (f := f) (g := g) (fun i hi => (h i (Finset.mem_inter.mpr ⟨hi, hi⟩)).1)]
  iexact H2

/-! ## Blocks -/

/-- The shares of the own operands that the loads read. -/
def keep : sProp 𝕄 :=
  iprop(((c : Thread nD τ).loc cc0_scratch0 ↦{rh} xb m ρ c) ∗ ((c : Thread nD τ).loc cc0_scratch1 ↦{rh} wb m ρ c))

theorem own_spec (Φ : VF F × VF F → sProp 𝕄) :
    keep m ρ c ⊢ iprop((keep m ρ c -∗ Φ (accV m ρ c 0)) -∗ run c (opOwn c) Φ) := by
  rw [show accV m ρ c 0 = (pdot (xblk m ρ c c) (wH m ρ c 0), pdot (xblk m ρ c c) (wH m ρ c 1)) from rfl]
  unfold keep opOwn run
  rw [wp_bind]
  iintro ⟨Hx, Hw⟩ Hk
  iapply (ldX_whole m ρ c c (off2_eq c) _) $$ Hx
  iintro Hx
  rw [wp_bind]
  iapply (ldW_whole m ρ c 0 _) $$ Hw
  iintro Hw
  rw [wp_bind]
  iapply (ldW_whole m ρ c 1 _) $$ Hw
  iintro Hw
  rw [Prog.pure_eq_ret, wp_ret]; imodintro
  iapply Hk
  isplitl [Hx] <;> iassumption

theorem first_spec (q : ℕ) (Φ : PUnit → sProp 𝕄) :
    iprop(keep m ρ c ∗ lent c (slS q 0) fullShare)
      ⊢ iprop(((keep m ρ c ∗ has c (slS q 0) fullShare (Lv m ρ q 0 c)) -∗ Φ ⟨⟩) -∗ run c (opFirst c q) Φ) := by
  unfold keep opFirst run
  rw [wp_bind]
  iintro ⟨⟨Hx, Hw⟩, Hs⟩ Hk
  iapply (ldX_whole m ρ c (nb 9 c) (off3_eq c) _) $$ Hx
  iintro Hx
  rw [wp_bind]
  iapply (ldW_whole m ρ c q _) $$ Hw
  iintro Hw
  rw [wp_bind]
  iapply (ldS_lent c q 0 _) $$ Hs
  iintro %x Hs
  iapply (stS_lent c q 0 _ _) $$ Hs
  iintro Hs
  iapply Hk
  isplitl [Hx Hw]; · isplitl [Hx] <;> iassumption
  iexact Hs

theorem next_spec (s q : ℕ) (hs : s < 6) (Φ : VF F → sProp 𝕄) :
    keep m ρ c ⊢ iprop((keep m ρ c -∗ Φ (pdot (xblk m ρ c (nb (10 + s) c)) (wH m ρ c q))) -∗ run c (opNext c s q) Φ) := by
  unfold keep opNext run
  rw [wp_bind]
  iintro ⟨Hx, Hw⟩ Hk
  iapply (ldX_whole m ρ c (nb (10 + s) c) (off4_eq c s hs) _) $$ Hx
  iintro Hx
  rw [wp_bind]
  iapply (ldW_whole m ρ c q _) $$ Hw
  iintro Hw
  rw [Prog.pure_eq_ret, wp_ret]; imodintro
  iapply Hk
  isplitl [Hx] <;> iassumption

/-- What is owed as step `s` forwards is above the levels it waits at. -/
theorem above_fwd {n q s : ℕ} (hq : q < 2) (hs : s < 8) (hn : n < 3 + 2 * s) {l : List (Dev nD × ℕ)} (ha : Above n l) : Above n (dueR c q s :: l) :=
  Above.cons ⟨by show 8 * q + s < 97; omega, by show _ < lvK (8 * q + s); rw [lv_Rv q s hq hs]; exact hn⟩ ha

/-- What forwarding half `q` at step `s` takes and leaves. -/
def fwdIn (q s : ℕ) : sProp 𝕄 :=
  iprop((tok c (8 * q + s) ∗ pos c (8 * q + s) 0) ∗ lent (nb 1 c) (slR q (s + 1)) fullShare ∗ pays c (16 + 8 * q + (s + 1)) 0 0 ∗ pays (nb 1 c) (8 * q + (s + 1)) 0 0)
def fwdOut (q s : ℕ) : sProp 𝕄 :=
  iprop((rest c (8 * q + s) ∗ tok c (16 + 8 * q + (s + 1))) ∗ has c (slR q s) rh (wH m ρ (nb (15 - s) c) q))

theorem fwd_spec (s q : ℕ) (hq : q < 2) (hs : s < 7) {l : List (Dev nD × ℕ)} (ha : Above (3 + 2 * s) l) (Φ : PUnit → sProp 𝕄) :
    iprop(ctx m ρ K ∗ owesL c (dueR c q (s + 1) :: l) ∗ fwdIn c q s)
      ⊢ iprop(((owesL c l ∗ fwdOut m ρ c q s) -∗ Φ ⟨⟩) -∗ run c (opFwd c s q) Φ) := by
  unfold fwdIn fwdOut opFwd run
  rw [wp_bind]
  iintro ⟨#HC, Ho, Ht, Hd, H₁, H₂⟩ Hk
  iapply (waitRv m ρ K c q s hq (by omega) (above_fwd c (q := q) (s := s + 1) hq (by omega) (by omega) ha) _) $$ [Ho Ht]
  · isplitr; · iexact HC
    isplitl [Ho] <;> iassumption
  iintro ⟨Ho, Hr, Hs⟩
  ihave Hs2 := (has_halves c _ _) $$ Hs
  icases Hs2 with ⟨Hl, Hh⟩
  iapply (sendR m ρ K c q (s + 1) hq (by omega) _) $$ [Ho Hl Hd H₁ H₂]
  · isplitr; · iexact HC
    isplitl [Ho]; · iexact Ho
    isplitl [Hl]; · rw [show 16 - (s + 1) = 15 - s by omega]; iexact Hl
    isplitl [Hd]; · iexact Hd
    isplitl [H₁] <;> iassumption
  iintro ⟨Ho, Ht⟩
  iapply Hk
  isplitl [Ho]; · iexact Ho
  isplitl [Hr Ht]; · isplitl [Hr] <;> iassumption
  iexact Hh

/-- The partial sum `s` to send, in its slot, with the cell its departure uses; and one that has been sent. -/
def up (q s : ℕ) : sProp 𝕄 :=
  iprop(has c (slS q s) fullShare (Lv m ρ q s c) ∗ pos c (kLd q s) (s / 2) ∗ begun c (kLd q s) (s / 2))
def gone (q s : ℕ) : sProp 𝕄 := iprop(tok c (kLd q s) ∗ pos c (kLd q s) (s / 2))

def sendIn (q s : ℕ) : sProp 𝕄 :=
  iprop(lent (nb 15 c) (slL q s) fullShare ∗ pays c (kLd q s) (s / 2) 0 ∗ pays (nb 15 c) (32 + 7 * q + s) 0 0)

theorem sendL_spec (q s : ℕ) (hq : q < 2) (hs : s < 7) {l : List (Dev nD × ℕ)} (Φ : PUnit → sProp 𝕄) :
    iprop(ctx m ρ K ∗ owesL c (dueL c q s :: l) ∗ up m ρ c q s ∗ sendIn c q s)
      ⊢ iprop(((owesL c l ∗ gone c q s) -∗ Φ ⟨⟩) -∗ run c (opSendL c q s) Φ) := by
  unfold up sendIn gone
  iintro ⟨#HC, Ho, ⟨Hs, Hp, Hb⟩, Hd, H₁, H₂⟩ Hk
  iapply (sendL m ρ K c q s hq hs Φ) $$ [Ho Hs Hb Hd H₁ H₂]
  · isplitr; · iexact HC
    isplitl [Ho]; · iexact Ho
    isplitl [Hs]; · iexact Hs
    isplitl [Hd]; · iexact Hd
    isplitl [H₁]; · iexact H₁
    isplitl [Hb] <;> iassumption
  iintro ⟨Ho, Ht⟩
  iapply Hk
  isplitl [Ho]; · iexact Ho
  isplitl [Ht] <;> iassumption

/-- The neighbour's partial sum arrives. -/
def addIn (q s : ℕ) : sProp 𝕄 := iprop(tok c (32 + 7 * q + s) ∗ pos c (32 + 7 * q + s) 0)
def addOut (q s : ℕ) : sProp 𝕄 := iprop(rest c (32 + 7 * q + s) ∗ lent c (slL q s) fullShare)

theorem addFirst_spec (q : ℕ) (hq : q < 2) {l : List (Dev nD × ℕ)} (ha : Above 4 l) (Φ : PUnit → sProp 𝕄) :
    iprop(ctx m ρ K ∗ owesL c l ∗ addIn c q 0 ∗ lent c (slS q 1) fullShare ∗ pos c (kLd q 1) 0)
      ⊢ iprop(((owesL c l ∗ addOut c q 0 ∗ up m ρ c q 1) -∗ Φ ⟨⟩)
        -∗ run c (opAddFirst q (pdot (xblk m ρ c (nb (10 + 0) c)) (wH m ρ c q))) Φ) := by
  unfold addIn addOut up opAddFirst run
  rw [wp_bind]
  iintro ⟨#HC, Ho, Ht, Hs, Hp⟩ Hk
  iapply (waitLv m ρ K c q 0 hq (by omega) ha _) $$ [Ho Ht]
  · isplitr; · iexact HC
    isplitl [Ho] <;> iassumption
  iintro ⟨Ho, Hr, Hl⟩
  rw [wp_bind]
  iapply (ldL_has c q 0 _) $$ Hl
  iintro %x ⟨%hx, Hl⟩
  rw [wp_bind]
  iapply (ldS_lent c q 1 _) $$ Hs
  iintro %y Hs
  rw [hx]
  iapply (stS_lent c q 1 _ _) $$ Hs
  iintro Hs
  iapply Hk
  isplitl [Ho]; · iexact Ho
  isplitl [Hr Hl]
  · isplitl [Hr]; · iexact Hr
    iapply (has_lent c _ _ _); iexact Hl
  isplitl [Hs]; · iexact Hs
  isplitl [Hp]; · iexact Hp
  iapply (begun_zero m ρ K c (by have := kLd_lt 1 hq; omega)); iexact HC

theorem add_spec (q s : ℕ) (hq : q < 2) (hs : s < 5) {l : List (Dev nD × ℕ)} (ha : Above (4 + 2 * (s + 1)) l) (Φ : PUnit → sProp 𝕄) :
    iprop(ctx m ρ K ∗ owesL c l ∗ addIn c q (s + 1) ∗ gone c q s)
      ⊢ iprop(((owesL c l ∗ addOut c q (s + 1) ∗ up m ρ c q (s + 2)) -∗ Φ ⟨⟩)
        -∗ run c (opAdd (s + 1) q (pdot (xblk m ρ c (nb (10 + (s + 1)) c)) (wH m ρ c q))) Φ) := by
  have hk : kLd q (s + 2) = kLd q s := by unfold kLd; omega
  have hr : (s + 2) / 2 = s / 2 + 1 := by omega
  have hsl : (slS q (s + 1 + 1)) = slS q s := by rw [← slS_mod q (s + 1 + 1), ← slS_mod q s, show (s + 1 + 1) % 2 = s % 2 by omega]
  unfold addIn addOut up gone opAdd run
  rw [wp_bind, hk, hr]
  iintro ⟨#HC, Ho, Ht, Hg, Hp⟩ Hk
  iapply (waitLv m ρ K c q (s + 1) hq (by omega) ha _) $$ [Ho Ht]
  · isplitr; · iexact HC
    isplitl [Ho] <;> iassumption
  iintro ⟨Ho, Hr, Hl⟩
  rw [wp_bind]
  iapply (ldL_has c q (s + 1) _) $$ Hl
  iintro %x ⟨%hx, Hl⟩
  rw [wp_bind]
  iapply (waitLd m ρ K c q s hq (by omega) (ha.mono (by omega)) _) $$ [Ho Hg Hp]
  · isplitr; · iexact HC
    isplitl [Hg]; · iexact Hg
    isplitl [Ho] <;> iassumption
  iintro ⟨Ho, Hp, Hb, Hs⟩
  rw [wp_bind, ← hsl]
  iapply (ldS_lent c q (s + 1 + 1) _) $$ Hs
  iintro %y Hs
  rw [hx]
  iapply (stS_lent c q (s + 1 + 1) _ _) $$ Hs
  iintro Hs
  iapply Hk
  isplitl [Ho]; · iexact Ho
  isplitl [Hr Hl]
  · isplitl [Hr]; · iexact Hr
    iapply (has_lent c _ _ _); iexact Hl
  isplitl [Hs]; · iexact Hs
  isplitl [Hp] <;> iassumption

/-- The received rows that step `s` multiplies. -/
def xin (s : ℕ) : sProp 𝕄 := has c (slX (s + 1)) fullShare (xblk m ρ (nb (15 - s) c) c)

theorem acc_spec (s : ℕ) (acc : VF F × VF F) {q₀ q₁ : PosShare TreeShare} (Φ : VF F × VF F → sProp 𝕄) :
    iprop(xin m ρ c s ∗ has c (slR 0 s) q₀ (wH m ρ (nb (15 - s) c) 0) ∗ has c (slR 1 s) q₁ (wH m ρ (nb (15 - s) c) 1))
      ⊢ iprop(((xin m ρ c s ∗ has c (slR 0 s) q₀ (wH m ρ (nb (15 - s) c) 0) ∗ has c (slR 1 s) q₁ (wH m ρ (nb (15 - s) c) 1))
          -∗ Φ (addf acc.1 (pdot (xblk m ρ (nb (15 - s) c) c) (wH m ρ (nb (15 - s) c) 0)), addf acc.2 (pdot (xblk m ρ (nb (15 - s) c) c) (wH m ρ (nb (15 - s) c) 1))))
        -∗ run c (opAcc s acc) Φ) := by
  unfold xin opAcc run
  rw [wp_bind]
  iintro ⟨Hx, H0, H1⟩ Hk
  iapply (ldXr_has c (s + 1) _) $$ Hx
  iintro %x0 ⟨%hx0, Hx⟩
  rw [wp_bind]
  iapply (ldR_has c 0 s _) $$ H0
  iintro %w0 ⟨%hw0, H0⟩
  rw [wp_bind]
  iapply (ldXr_has c (s + 1) _) $$ Hx
  iintro %x1 ⟨%hx1, Hx⟩
  rw [wp_bind]
  iapply (ldR_has c 1 s _) $$ H1
  iintro %w1 ⟨%hw1, H1⟩
  rw [Prog.pure_eq_ret, wp_ret, hx0, hx1, hw0, hw1]; imodintro
  iapply Hk
  isplitl [Hx]; · iexact Hx
  isplitl [H0] <;> iassumption

theorem accV_step (s : ℕ) (hs : s ≠ 6) :
    accV m ρ c (s + 1) = (addf (accV m ρ c s).1 (pdot (xblk m ρ (nb (15 - s) c) c) (wH m ρ (nb (15 - s) c) 0)),
      addf (accV m ρ c s).2 (pdot (xblk m ρ (nb (15 - s) c) c) (wH m ρ (nb (15 - s) c) 1))) := by
  show (addf (bump m ρ c s (accV m ρ c s)).1 _, addf (bump m ρ c s (accV m ρ c s)).2 _) = _
  unfold bump; rw [if_neg hs]

/-! ## Steps -/

/-- What a step takes and leaves, beside what runs through all of them. -/
def stIn (s : ℕ) : sProp 𝕄 := iprop((sendIn c 0 s ∗ sendIn c 1 s) ∗ (fwdIn c 0 s ∗ fwdIn c 1 s) ∗ (addIn c 0 s ∗ addIn c 1 s) ∗ xin m ρ c s)
def stOut (s : ℕ) : sProp 𝕄 := iprop((fwdOut m ρ c 0 s ∗ fwdOut m ρ c 1 s) ∗ (addOut c 0 s ∗ addOut c 1 s) ∗ xin m ρ c s)

theorem step0_spec {l : List (Dev nD × ℕ)} (ha : Above 4 l) (Φ : VF F × VF F → sProp 𝕄) :
    iprop(ctx m ρ K ∗ keep m ρ c ∗ owesL c (dueL c 0 0 :: dueL c 1 0 :: dueR c 0 1 :: dueR c 1 1 :: l)
        ∗ (up m ρ c 0 0 ∗ up m ρ c 1 0) ∗ ((lent c (slS 0 1) fullShare ∗ pos c (kLd 0 1) 0) ∗ (lent c (slS 1 1) fullShare ∗ pos c (kLd 1 1) 0)) ∗ stIn m ρ c 0)
      ⊢ iprop(((keep m ρ c ∗ owesL c l ∗ (up m ρ c 0 1 ∗ up m ρ c 1 1) ∗ (gone c 0 0 ∗ gone c 1 0) ∗ stOut m ρ c 0) -∗ Φ (accV m ρ c 1))
        -∗ run c (step0 c (accV m ρ c 0)) Φ) := by
  unfold stIn stOut step0 run
  rw [wp_bind]
  iintro ⟨#HC, Hkp, Ho, ⟨Hu0, Hu1⟩, ⟨Hf0, Hf1⟩, ⟨Hs0, Hs1⟩, ⟨Hw0, Hw1⟩, ⟨Ha0, Ha1⟩, Hx⟩ Hk
  iapply (sendL_spec m ρ K c 0 0 (by omega) (by omega) _) $$ [Ho Hu0 Hs0]
  · isplitr; · iexact HC
    isplitl [Ho]; · iexact Ho
    isplitl [Hu0] <;> iassumption
  iintro ⟨Ho, Hg0⟩
  rw [wp_bind]
  iapply (sendL_spec m ρ K c 1 0 (by omega) (by omega) _) $$ [Ho Hu1 Hs1]
  · isplitr; · iexact HC
    isplitl [Ho]; · iexact Ho
    isplitl [Hu1] <;> iassumption
  iintro ⟨Ho, Hg1⟩
  rw [wp_bind]
  iapply (next_spec m ρ c 0 0 (by omega) _) $$ Hkp
  iintro Hkp
  rw [wp_bind]
  iapply (next_spec m ρ c 0 1 (by omega) _) $$ Hkp
  iintro Hkp
  rw [wp_bind]
  iapply (fwd_spec m ρ K c 0 0 (by omega) (by omega) (above_fwd c (q := 1) (s := 1) (by omega) (by omega) (by omega) (ha.mono (by omega))) _) $$ [Ho Hw0]
  · isplitr; · iexact HC
    isplitl [Ho] <;> iassumption
  iintro ⟨Ho, Hw0⟩
  rw [wp_bind]
  iapply (fwd_spec m ρ K c 0 1 (by omega) (by omega) (ha.mono (by omega)) _) $$ [Ho Hw1]
  · isplitr; · iexact HC
    isplitl [Ho] <;> iassumption
  iintro ⟨Ho, Hw1⟩
  rw [wp_bind]
  iapply (addFirst_spec m ρ K c 0 (by omega) ha _) $$ [Ho Ha0 Hf0]
  · isplitr; · iexact HC
    isplitl [Ho]; · iexact Ho
    isplitl [Ha0] <;> iassumption
  iintro ⟨Ho, Ha0, Hu0⟩
  rw [wp_bind]
  iapply (addFirst_spec m ρ K c 1 (by omega) ha _) $$ [Ho Ha1 Hf1]
  · isplitr; · iexact HC
    isplitl [Ho]; · iexact Ho
    isplitl [Ha1] <;> iassumption
  iintro ⟨Ho, Ha1, Hu1⟩
  unfold fwdOut
  icases Hw0 with ⟨Hw0, Hr0⟩
  icases Hw1 with ⟨Hw1, Hr1⟩
  rw [accV_step m ρ c 0 (by omega)]
  iapply (acc_spec m ρ c 0 _ _) $$ [Hx Hr0 Hr1]
  · isplitl [Hx]; · iexact Hx
    isplitl [Hr0] <;> iassumption
  iintro ⟨Hx, Hr0, Hr1⟩
  iapply Hk
  isplitl [Hkp]; · iexact Hkp
  isplitl [Ho]; · iexact Ho
  isplitl [Hu0 Hu1]; · isplitl [Hu0] <;> iassumption
  isplitl [Hg0 Hg1]; · isplitl [Hg0] <;> iassumption
  isplitl [Hw0 Hr0 Hw1 Hr1]
  · isplitl [Hw0 Hr0]
    · isplitl [Hw0] <;> iassumption
    · isplitl [Hw1] <;> iassumption
  isplitl [Ha0 Ha1]; · isplitl [Ha0] <;> iassumption
  iexact Hx

theorem stepM_spec (s : ℕ) (hs : s < 5) {l : List (Dev nD × ℕ)} (ha : Above (4 + 2 * (s + 1)) l) (Φ : VF F × VF F → sProp 𝕄) :
    iprop(ctx m ρ K ∗ keep m ρ c ∗ owesL c (dueL c 0 (s + 1) :: dueL c 1 (s + 1) :: dueR c 0 (s + 2) :: dueR c 1 (s + 2) :: l)
        ∗ (up m ρ c 0 (s + 1) ∗ up m ρ c 1 (s + 1)) ∗ (gone c 0 s ∗ gone c 1 s) ∗ stIn m ρ c (s + 1))
      ⊢ iprop(((keep m ρ c ∗ owesL c l ∗ (up m ρ c 0 (s + 2) ∗ up m ρ c 1 (s + 2)) ∗ (gone c 0 (s + 1) ∗ gone c 1 (s + 1)) ∗ stOut m ρ c (s + 1)) -∗ Φ (accV m ρ c (s + 2)))
        -∗ run c (stepM c (s + 1) (accV m ρ c (s + 1))) Φ) := by
  unfold stIn stOut stepM run
  rw [wp_bind]
  iintro ⟨#HC, Hkp, Ho, ⟨Hu0, Hu1⟩, ⟨Hf0, Hf1⟩, ⟨Hs0, Hs1⟩, ⟨Hw0, Hw1⟩, ⟨Ha0, Ha1⟩, Hx⟩ Hk
  iapply (sendL_spec m ρ K c 0 (s + 1) (by omega) (by omega) _) $$ [Ho Hu0 Hs0]
  · isplitr; · iexact HC
    isplitl [Ho]; · iexact Ho
    isplitl [Hu0] <;> iassumption
  iintro ⟨Ho, Hg0⟩
  rw [wp_bind]
  iapply (sendL_spec m ρ K c 1 (s + 1) (by omega) (by omega) _) $$ [Ho Hu1 Hs1]
  · isplitr; · iexact HC
    isplitl [Ho]; · iexact Ho
    isplitl [Hu1] <;> iassumption
  iintro ⟨Ho, Hg1⟩
  rw [wp_bind]
  iapply (next_spec m ρ c (s + 1) 0 (by omega) _) $$ Hkp
  iintro Hkp
  rw [wp_bind]
  iapply (next_spec m ρ c (s + 1) 1 (by omega) _) $$ Hkp
  iintro Hkp
  rw [wp_bind]
  iapply (fwd_spec m ρ K c (s + 1) 0 (by omega) (by omega) (above_fwd c (q := 1) (s := s + 2) (by omega) (by omega) (by omega) (ha.mono (by omega))) _) $$ [Ho Hw0]
  · isplitr; · iexact HC
    isplitl [Ho] <;> iassumption
  iintro ⟨Ho, Hw0⟩
  rw [wp_bind]
  iapply (fwd_spec m ρ K c (s + 1) 1 (by omega) (by omega) (ha.mono (by omega)) _) $$ [Ho Hw1]
  · isplitr; · iexact HC
    isplitl [Ho] <;> iassumption
  iintro ⟨Ho, Hw1⟩
  rw [wp_bind]
  iapply (add_spec m ρ K c 0 s (by omega) hs ha _) $$ [Ho Ha0 Hf0]
  · isplitr; · iexact HC
    isplitl [Ho]; · iexact Ho
    isplitl [Ha0] <;> iassumption
  iintro ⟨Ho, Ha0, Hu0⟩
  rw [wp_bind]
  iapply (add_spec m ρ K c 1 s (by omega) hs ha _) $$ [Ho Ha1 Hf1]
  · isplitr; · iexact HC
    isplitl [Ho]; · iexact Ho
    isplitl [Ha1] <;> iassumption
  iintro ⟨Ho, Ha1, Hu1⟩
  unfold fwdOut
  icases Hw0 with ⟨Hw0, Hr0⟩
  icases Hw1 with ⟨Hw1, Hr1⟩
  rw [accV_step m ρ c (s + 1) (by omega)]
  iapply (acc_spec m ρ c (s + 1) _ _) $$ [Hx Hr0 Hr1]
  · isplitl [Hx]; · iexact Hx
    isplitl [Hr0] <;> iassumption
  iintro ⟨Hx, Hr0, Hr1⟩
  iapply Hk
  isplitl [Hkp]; · iexact Hkp
  isplitl [Ho]; · iexact Ho
  isplitl [Hu0 Hu1]; · isplitl [Hu0] <;> iassumption
  isplitl [Hg0 Hg1]; · isplitl [Hg0] <;> iassumption
  isplitl [Hw0 Hr0 Hw1 Hr1]
  · isplitl [Hw0 Hr0]
    · isplitl [Hw0] <;> iassumption
    · isplitl [Hw1] <;> iassumption
  isplitl [Ha0 Ha1]; · isplitl [Ha0] <;> iassumption
  iexact Hx

theorem step6_spec {l : List (Dev nD × ℕ)} (ha : Above 16 l) (Φ : VF F × VF F → sProp 𝕄) :
    iprop(ctx m ρ K ∗ owesL c (dueL c 0 6 :: dueL c 1 6 :: dueR c 0 7 :: dueR c 1 7 :: l)
        ∗ (up m ρ c 0 6 ∗ up m ρ c 1 6) ∗ stIn m ρ c 6)
      ⊢ iprop(((owesL c l ∗ (gone c 0 6 ∗ gone c 1 6) ∗ stOut m ρ c 6) -∗ Φ (accV m ρ c 7))
        -∗ run c (step6 c (accV m ρ c 6)) Φ) := by
  rw [show accV m ρ c 7 = (addf (addf (accV m ρ c 6).1 (widen (Lv m ρ 0 6 (nb 1 c)))) (pdot (xblk m ρ (nb (15 - 6) c) c) (wH m ρ (nb (15 - 6) c) 0)),
    addf (addf (accV m ρ c 6).2 (widen (Lv m ρ 1 6 (nb 1 c)))) (pdot (xblk m ρ (nb (15 - 6) c) c) (wH m ρ (nb (15 - 6) c) 1))) from rfl]
  unfold stIn stOut step6 run
  rw [wp_bind]
  iintro ⟨#HC, Ho, ⟨Hu0, Hu1⟩, ⟨Hs0, Hs1⟩, ⟨Hw0, Hw1⟩, ⟨Ha0, Ha1⟩, Hx⟩ Hk
  iapply (sendL_spec m ρ K c 0 6 (by omega) (by omega) _) $$ [Ho Hu0 Hs0]
  · isplitr; · iexact HC
    isplitl [Ho]; · iexact Ho
    isplitl [Hu0] <;> iassumption
  iintro ⟨Ho, Hg0⟩
  rw [wp_bind]
  iapply (sendL_spec m ρ K c 1 6 (by omega) (by omega) _) $$ [Ho Hu1 Hs1]
  · isplitr; · iexact HC
    isplitl [Ho]; · iexact Ho
    isplitl [Hu1] <;> iassumption
  iintro ⟨Ho, Hg1⟩
  rw [wp_bind]
  iapply (fwd_spec m ρ K c 6 0 (by omega) (by omega) (above_fwd c (q := 1) (s := 7) (by omega) (by omega) (by omega) (ha.mono (by omega))) _) $$ [Ho Hw0]
  · isplitr; · iexact HC
    isplitl [Ho] <;> iassumption
  iintro ⟨Ho, Hw0⟩
  rw [wp_bind]
  iapply (fwd_spec m ρ K c 6 1 (by omega) (by omega) (ha.mono (by omega)) _) $$ [Ho Hw1]
  · isplitr; · iexact HC
    isplitl [Ho] <;> iassumption
  iintro ⟨Ho, Hw1⟩
  rw [wp_bind]
  unfold addIn
  iapply (waitLv m ρ K c 0 6 (by omega) (by omega) ha _) $$ [Ho Ha0]
  · isplitr; · iexact HC
    isplitl [Ho] <;> iassumption
  iintro ⟨Ho, Hz0, Hl0⟩
  rw [wp_bind]
  iapply (ldL_has c 0 6 _) $$ Hl0
  iintro %l0 ⟨%h0, Hl0⟩
  rw [wp_bind]
  iapply (waitLv m ρ K c 1 6 (by omega) (by omega) ha _) $$ [Ho Ha1]
  · isplitr; · iexact HC
    isplitl [Ho] <;> iassumption
  iintro ⟨Ho, Hz1, Hl1⟩
  rw [wp_bind]
  iapply (ldL_has c 1 6 _) $$ Hl1
  iintro %l1 ⟨%h1, Hl1⟩
  rw [h0, h1]
  unfold fwdOut addOut
  icases Hw0 with ⟨Hw0, Hr0⟩
  icases Hw1 with ⟨Hw1, Hr1⟩
  iapply (acc_spec m ρ c 6 _ _) $$ [Hx Hr0 Hr1]
  · isplitl [Hx]; · iexact Hx
    isplitl [Hr0] <;> iassumption
  iintro ⟨Hx, Hr0, Hr1⟩
  iapply Hk
  isplitl [Ho]; · iexact Ho
  isplitl [Hg0 Hg1]; · isplitl [Hg0] <;> iassumption
  isplitl [Hw0 Hr0 Hw1 Hr1]
  · isplitl [Hw0 Hr0]
    · isplitl [Hw0] <;> iassumption
    · isplitl [Hw1] <;> iassumption
  isplitl [Hz0 Hl0 Hz1 Hl1]
  · isplitl [Hz0 Hl0]
    · isplitl [Hz0]; · iexact Hz0
      iapply (has_lent c _ _ _); iexact Hl0
    · isplitl [Hz1]; · iexact Hz1
      iapply (has_lent c _ _ _); iexact Hl1
  iexact Hx

/-- The last arrival on the weights' ring goes no further. -/
def lastIn : sProp 𝕄 := iprop(((tok c 7 ∗ pos c 7 0) ∗ (tok c 15 ∗ pos c 15 0)) ∗ xin m ρ c 7)
def lastOut : sProp 𝕄 := iprop(((rest c 7 ∗ rest c 15) ∗ (lent c (slR 0 7) fullShare ∗ lent c (slR 1 7) fullShare)) ∗ xin m ρ c 7)

theorem step7_spec {l : List (Dev nD × ℕ)} (ha : Above 17 l) (Φ : VF F × VF F → sProp 𝕄) :
    iprop(ctx m ρ K ∗ owesL c l ∗ lastIn m ρ c)
      ⊢ iprop(((owesL c l ∗ lastOut m ρ c) -∗ Φ (accV m ρ c 8)) -∗ run c (step7 (accV m ρ c 7)) Φ) := by
  unfold lastIn lastOut step7 run
  rw [wp_bind]
  iintro ⟨#HC, Ho, ⟨Ht0, Ht1⟩, Hx⟩ Hk
  iapply (waitRv m ρ K c 0 7 (by omega) (by omega) ha _) $$ [Ho Ht0]
  · isplitr; · iexact HC
    isplitl [Ho] <;> iassumption
  iintro ⟨Ho, Hz0, Hr0⟩
  rw [wp_bind]
  iapply (waitRv m ρ K c 1 7 (by omega) (by omega) ha _) $$ [Ho Ht1]
  · isplitr; · iexact HC
    isplitl [Ho] <;> iassumption
  iintro ⟨Ho, Hz1, Hr1⟩
  rw [accV_step m ρ c 7 (by omega)]
  iapply (acc_spec m ρ c 7 _ _) $$ [Hx Hr0 Hr1]
  · isplitl [Hx]; · iexact Hx
    isplitl [Hr0] <;> iassumption
  iintro ⟨Hx, Hr0, Hr1⟩
  iapply Hk
  isplitl [Ho]; · iexact Ho
  isplitl [Hz0 Hz1 Hr0 Hr1]
  · isplitl [Hz0 Hz1]; · isplitl [Hz0] <;> iassumption
    isplitl [Hr0]
    · iapply (has_lent c _ _ _); iexact Hr0
    · iapply (has_lent c _ _ _); iexact Hr1
  iexact Hx

end Cert.MatProof
-- ==== Proof.Pieces.lean ====
/- The buffers held whole, and slot by slot. -/
module

public import proofs.«01_k».proof.Proof.Steps
public import Idealize.ShloMosaic.Lib.Ring

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Any buffer, cut along one axis -/

/-- A buffer at some contents is its pieces, each at some contents. -/
theorem pieces {ℓ : Loc nD τ sig} (n : ℕ) (I : ℕ → Finset (Idx ℓ)) (hd : ∀ b b' : Fin n, b ≠ b' → Disjoint (I b.val) (I b'.val))
    (hc : Finset.univ.biUnion (fun b : Fin n => I b.val) = Finset.univ) (f₀ : Buf (Elt F) ℓ) (q : PosShare TreeShare) :
    (iprop(∃ f : Buf (Elt F) ℓ, ℓ ↦{q} f) : sProp 𝕄) = seq (fun s => iprop(∃ f : Buf (Elt F) ℓ, ℓ ↦[I s]{q} f)) 0 n := by
  refine both ?_ ((Entails.of_eq (seq_univ _ n).symm).trans (Ring.pointsTo_blocks_join_exists (fun b : Fin n => I b.val) hd hc f₀))
  iintro ⟨%f, H⟩
  iapply (seq_mono (Φ := fun s => (ℓ ↦[I s]{q} f : sProp 𝕄)) n 0 fun j _ _ => (show (ℓ ↦[I j]{q} f : sProp 𝕄) ⊢ iprop(∃ f : Buf (Elt F) ℓ, ℓ ↦[I j]{q} f) from by
    iintro H; iexists f; iexact H))
  iapply (Entails.of_eq ((Ring.pointsTo_blocks (fun b : Fin n => I b.val) hd hc f).trans (seq_univ (fun s => (ℓ ↦[I s]{q} f : sProp 𝕄)) n))); iexact H

/-- A whole buffer at some contents. -/
abbrev full (c : Dev nD) (b : Ref sig .tc) (q : PosShare TreeShare) : sProp 𝕄 :=
  iprop(∃ f : Buf (Elt F) ((c : Thread nD τ).loc b), (c : Thread nD τ).loc b ↦{q} f)

theorem full_lent (b : Ref sig .tc) {s : Shape} {e : EltTy} (n : ℕ) (v : ℕ → Memref sig .tc .vmem s e)
    (I : ℕ → Finset (Idx ((c : Thread nD τ).loc b)))
    (hd : ∀ b b' : Fin n, b ≠ b' → Disjoint (I b.val) (I b'.val))
    (hc : Finset.univ.biUnion (fun b : Fin n => I b.val) = Finset.univ) (f₀ : Buf (Elt F) ((c : Thread nD τ).loc b)) (q : PosShare TreeShare)
    (hv : ∀ j, lent (F := F) c (v j) q = iprop(∃ f : Buf (Elt F) ((c : Thread nD τ).loc b), (c : Thread nD τ).loc b ↦[I j]{q} f)) :
    full (F := F) c b q = seq (fun s => lent c (v s) q) 0 n := by
  unfold full
  rw [pieces n I hd hc f₀ q]
  exact seq_congr n 0 fun j _ _ => (hv j).symm

/-! ## The sets -/

theorem dX : ∀ b b' : Fin 9, b ≠ b' → Disjoint (rX b.val).set (rX b'.val).set :=
  Ring.lead_disjoint (s := S9x256x256) 0 1 (fun b => ![b.val % 9, 0, 0]) S1x256x256.size (fun b => inb9 b.val)
    (fun b => by show b.val % 9 = 1 * b.val; omega) rfl
theorem cX : Finset.univ.biUnion (fun b : Fin 9 => (rX b.val).set) = Finset.univ :=
  Ring.lead_cover (s := S9x256x256) 0 1 (fun b : Fin 9 => ![b.val % 9, 0, 0]) S1x256x256.size (fun b => inb9 b.val)
    (fun b => by show b.val % 9 = 1 * b.val; omega) (fun b a ha => by fin_cases a <;> first | exact absurd rfl ha | rfl) rfl
    (fun a ha => by fin_cases a <;> first | exact absurd rfl ha | rfl) rfl
theorem dR : ∀ b b' : Fin 8, b ≠ b' → Disjoint (rR b.val).set (rR b'.val).set :=
  Ring.lead_disjoint (s := S8x256x1024) 0 1 (fun b => ![b.val % 8, 0, 0]) S1x256x1024.size (fun b => inb8 b.val)
    (fun b => by show b.val % 8 = 1 * b.val; omega) rfl
theorem cR : Finset.univ.biUnion (fun b : Fin 8 => (rR b.val).set) = Finset.univ :=
  Ring.lead_cover (s := S8x256x1024) 0 1 (fun b : Fin 8 => ![b.val % 8, 0, 0]) S1x256x1024.size (fun b => inb8 b.val)
    (fun b => by show b.val % 8 = 1 * b.val; omega) (fun b a ha => by fin_cases a <;> first | exact absurd rfl ha | rfl) rfl
    (fun a ha => by fin_cases a <;> first | exact absurd rfl ha | rfl) rfl
theorem dL : ∀ b b' : Fin 7, b ≠ b' → Disjoint (rL b.val).set (rL b'.val).set :=
  Ring.lead_disjoint (s := S7x256x1024) 0 1 (fun b => ![b.val % 7, 0, 0]) S1x256x1024.size (fun b => inb7 b.val)
    (fun b => by show b.val % 7 = 1 * b.val; omega) rfl
theorem cL : Finset.univ.biUnion (fun b : Fin 7 => (rL b.val).set) = Finset.univ :=
  Ring.lead_cover (s := S7x256x1024) 0 1 (fun b : Fin 7 => ![b.val % 7, 0, 0]) S1x256x1024.size (fun b => inb7 b.val)
    (fun b => by show b.val % 7 = 1 * b.val; omega) (fun b a ha => by fin_cases a <;> first | exact absurd rfl ha | rfl) rfl
    (fun a ha => by fin_cases a <;> first | exact absurd rfl ha | rfl) rfl
theorem dS : ∀ b b' : Fin 2, b ≠ b' → Disjoint (rS b.val).set (rS b'.val).set :=
  Ring.lead_disjoint (s := S2x256x1024) 0 1 (fun b => ![b.val % 2, 0, 0]) S1x256x1024.size (fun b => inb2 b.val)
    (fun b => by show b.val % 2 = 1 * b.val; omega) rfl
theorem cS : Finset.univ.biUnion (fun b : Fin 2 => (rS b.val).set) = Finset.univ :=
  Ring.lead_cover (s := S2x256x1024) 0 1 (fun b : Fin 2 => ![b.val % 2, 0, 0]) S1x256x1024.size (fun b => inb2 b.val)
    (fun b => by show b.val % 2 = 1 * b.val; omega) (fun b a ha => by fin_cases a <;> first | exact absurd rfl ha | rfl) rfl
    (fun a ha => by fin_cases a <;> first | exact absurd rfl ha | rfl) rfl
theorem dA : ∀ b b' : Fin 16, b ≠ b' → Disjoint (rA b.val).set (rA b'.val).set :=
  Ring.lead_disjoint (s := S16x8x128) 0 1 (fun b => ![b.val % 16, 0, 0]) S1x8x128.size (fun b => inb16 b.val)
    (fun b => by show b.val % 16 = 1 * b.val; omega) rfl
theorem cA : Finset.univ.biUnion (fun b : Fin 16 => (rA b.val).set) = Finset.univ :=
  Ring.lead_cover (s := S16x8x128) 0 1 (fun b : Fin 16 => ![b.val % 16, 0, 0]) S1x8x128.size (fun b => inb16 b.val)
    (fun b => by show b.val % 16 = 1 * b.val; omega) (fun b a ha => by fin_cases a <;> first | exact absurd rfl ha | rfl) rfl
    (fun a ha => by fin_cases a <;> first | exact absurd rfl ha | rfl) rfl
theorem dH : ∀ b b' : Fin 2, b ≠ b' → Disjoint (rH b.val).set (rH b'.val).set :=
  Ring.lead_disjoint (s := S256x2048) 1 1024 (fun b => ![0, 1024 * (b.val % 2)]) S256x1024.size (fun b => inbHalf b.val)
    (fun b => by show 1024 * (b.val % 2) = 1024 * b.val; omega) rfl
theorem cH : Finset.univ.biUnion (fun b : Fin 2 => (rH b.val).set) = Finset.univ :=
  Ring.lead_cover (s := S256x2048) 1 1024 (fun b : Fin 2 => ![0, 1024 * (b.val % 2)]) S256x1024.size (fun b => inbHalf b.val)
    (fun b => by show 1024 * (b.val % 2) = 1024 * b.val; omega) (fun b a ha => by fin_cases a <;> first | exact absurd rfl ha | rfl) rfl
    (fun a ha => by fin_cases a <;> first | exact absurd rfl ha | rfl) rfl
theorem dB : ∀ b b' : Dev nD, b ≠ b' → Disjoint (rB (offB b) (inbB b)).set (rB (offB b') (inbB b')).set :=
  Ring.lead_disjoint (s := S4096x256) 0 256 (fun b : Dev nD => offB b) S256x256.size (fun b => inbB b) (fun b => rfl) rfl
theorem cB : Finset.univ.biUnion (fun b : Dev nD => (rB (offB b) (inbB b)).set) = Finset.univ :=
  Ring.lead_cover (s := S4096x256) 0 256 (fun b : Dev nD => offB b) S256x256.size (fun b => inbB b) (fun b => rfl)
    (fun b a ha => by fin_cases a <;> first | exact absurd rfl ha | rfl) rfl
    (fun a ha => by fin_cases a <;> first | exact absurd rfl ha | rfl) rfl

theorem set_slX (o : ℕ) : (slX o).view.set = (rX o).set := (View.set_reshape _ _).trans (View.set_slice_whole cc0_scratch2 (rX o))
theorem set_slA (o : ℕ) : (slA o).view.set = (rA o).set := (View.set_reshape _ _).trans (View.set_slice_whole cc0_scratch9 (rA o))
theorem set_R0 (s : ℕ) : (slR 0 s).view.set = (rR s).set := (View.set_reshape _ _).trans (View.set_slice_whole cc0_scratch3 (rR s))
theorem set_R1 (s : ℕ) : (slR 1 s).view.set = (rR s).set := (View.set_reshape _ _).trans (View.set_slice_whole cc0_scratch4 (rR s))
theorem set_L0 (s : ℕ) : (slL 0 s).view.set = (rL s).set := (View.set_reshape _ _).trans (View.set_slice_whole cc0_scratch5 (rL s))
theorem set_L1 (s : ℕ) : (slL 1 s).view.set = (rL s).set := (View.set_reshape _ _).trans (View.set_slice_whole cc0_scratch6 (rL s))
theorem set_S0 (s : ℕ) : (slS 0 s).view.set = (rS s).set := (View.set_reshape _ _).trans (View.set_slice_whole cc0_scratch7 (rS s))
theorem set_S1 (s : ℕ) : (slS 1 s).view.set = (rS s).set := (View.set_reshape _ _).trans (View.set_slice_whole cc0_scratch8 (rS s))

/-! ## Each buffer -/

variable (f₀ : (b : Ref sig .tc) → b.ty.Contents (Elt F))

include f₀ in
theorem full_X : full (F := F) c cc0_scratch2 fullShare = seq (fun s => lent c (slX s) fullShare) 0 9 :=
  full_lent c cc0_scratch2 9 slX (fun o => (rX o).set) dX cX (f₀ cc0_scratch2) fullShare fun j => by
    rw [← set_slX]; rfl
include f₀ in
theorem full_A : full (F := F) c cc0_scratch9 fullShare = seq (fun s => lent c (slA s) fullShare) 0 16 :=
  full_lent c cc0_scratch9 16 slA (fun o => (rA o).set) dA cA (f₀ cc0_scratch9) fullShare fun j => by
    rw [← set_slA]; rfl
include f₀ in
theorem full_W (q : PosShare TreeShare) : full (F := F) c cc0_scratch1 q = seq (fun s => lent c (slW s) q) 0 2 :=
  full_lent c cc0_scratch1 2 slW (fun o => (rH o).set) dH cH (f₀ cc0_scratch1) q fun j => by
    rw [← View.set_slice_whole cc0_scratch1 (rH j)]; rfl
include f₀ in
theorem full_R0 : full (F := F) c cc0_scratch3 fullShare = seq (fun s => lent c (slR 0 s) fullShare) 0 8 :=
  full_lent c cc0_scratch3 8 (slR 0) (fun o => (rR o).set) dR cR (f₀ cc0_scratch3) fullShare fun j => by
    rw [← set_R0]; rfl
include f₀ in
theorem full_R1 : full (F := F) c cc0_scratch4 fullShare = seq (fun s => lent c (slR 1 s) fullShare) 0 8 :=
  full_lent c cc0_scratch4 8 (slR 1) (fun o => (rR o).set) dR cR (f₀ cc0_scratch4) fullShare fun j => by
    rw [← set_R1]; rfl
include f₀ in
theorem full_L0 : full (F := F) c cc0_scratch5 fullShare = seq (fun s => lent c (slL 0 s) fullShare) 0 7 :=
  full_lent c cc0_scratch5 7 (slL 0) (fun o => (rL o).set) dL cL (f₀ cc0_scratch5) fullShare fun j => by
    rw [← set_L0]; rfl
include f₀ in
theorem full_L1 : full (F := F) c cc0_scratch6 fullShare = seq (fun s => lent c (slL 1 s) fullShare) 0 7 :=
  full_lent c cc0_scratch6 7 (slL 1) (fun o => (rL o).set) dL cL (f₀ cc0_scratch6) fullShare fun j => by
    rw [← set_L1]; rfl
include f₀ in
theorem full_S0 : full (F := F) c cc0_scratch7 fullShare = seq (fun s => lent c (slS 0 s) fullShare) 0 2 :=
  full_lent c cc0_scratch7 2 (slS 0) (fun o => (rS o).set) dS cS (f₀ cc0_scratch7) fullShare fun j => by
    rw [← set_S0]; rfl
include f₀ in
theorem full_S1 : full (F := F) c cc0_scratch8 fullShare = seq (fun s => lent c (slS 1 s) fullShare) 0 2 :=
  full_lent c cc0_scratch8 2 (slS 1) (fun o => (rS o).set) dS cS (f₀ cc0_scratch8) fullShare fun j => by
    rw [← set_S1]; rfl

/-! ## The own operands -/

/-- The devices, counted from `c`. -/
def nbF : Fin 16 ≃ Dev nD where
  toFun i := nb i.val c
  invFun d := ⟨(d.val + 16 - c.val) % 16, Nat.mod_lt _ (by decide)⟩
  left_inv i := by
    have h : c.val < 16 := c.isLt
    apply Fin.ext; show ((c.val + i.val) % 16 + 16 - c.val) % 16 = i.val; omega
  right_inv d := by
    have h : c.val < 16 := c.isLt
    have h' : d.val < 16 := d.isLt
    apply Fin.ext; show (c.val + (d.val + 16 - c.val) % 16) % 16 = d.val; omega

theorem bigSep_nb (Φ : Dev nD → sProp 𝕄) : bigSep Finset.univ Φ = seq (fun i => Φ (nb i c)) 0 16 := by
  rw [← seq_univ, bigSep_univ_equiv (nbF c) Φ]; rfl

theorem xb_blocks (q : PosShare TreeShare) : ((c : Thread nD τ).loc cc0_scratch0 ↦{q} xb m ρ c)
    ⊢ seq (fun i => has c (slB (offB (nb i c)) (inbB _)) q (xblk m ρ c (nb i c))) 0 16 := by
  refine (Entails.of_eq (Ring.pointsTo_blocks (ℓ := (c : Thread nD τ).loc cc0_scratch0) (fun b : Dev nD => (rB (offB b) (inbB b)).set) dB cB (xb m ρ c))).trans ?_
  rw [bigSep_nb c]
  refine seq_mono 16 0 fun j _ _ => ?_
  rw [← View.set_slice_whole cc0_scratch0 (rB (offB (nb j c)) (inbB _))]
  unfold has
  iintro H
  iexists (xb m ρ c)
  isplitr; · ipureintro; rfl
  iexact H

include f₀ in
theorem full_B (q : PosShare TreeShare) : seq (fun i => lent (F := F) c (slB (offB (nb i c)) (inbB _)) q) 0 16 ⊢ full c cc0_scratch0 q := by
  refine BIBase.Entails.trans ?_ (Ring.pointsTo_blocks_join_exists (ℓ := (c : Thread nD τ).loc cc0_scratch0) (fun b : Dev nD => (rB (offB b) (inbB b)).set) dB cB (f₀ cc0_scratch0))
  rw [bigSep_nb c]
  refine seq_mono 16 0 fun j _ _ => ?_
  rw [← View.set_slice_whole cc0_scratch0 (rB (offB (nb j c)) (inbB _))]
  exact .rfl

theorem wb_halves (q : PosShare TreeShare) : ((c : Thread nD τ).loc cc0_scratch1 ↦{q} wb m ρ c)
    ⊢ seq (fun i => has c (slW i) q (wH m ρ c i)) 0 2 := by
  refine (Entails.of_eq ((Ring.pointsTo_blocks (ℓ := (c : Thread nD τ).loc cc0_scratch1) (fun b : Fin 2 => (rH b.val).set) dH cH (wb m ρ c)).trans
    (seq_univ (fun s => ((c : Thread nD τ).loc cc0_scratch1 ↦[(rH s).set]{q} wb m ρ c : sProp 𝕄)) 2))).trans ?_
  refine seq_mono 2 0 fun j _ _ => ?_
  rw [← View.set_slice_whole cc0_scratch1 (rH j)]
  unfold has
  iintro H
  iexists (wb m ρ c)
  isplitr; · ipureintro; rfl
  iexact H

/-- Two shares of a buffer, one of them at known contents, are the buffer. -/
theorem full_join (b : Ref sig .tc) (f : Buf (Elt F) ((c : Thread nD τ).loc b)) :
    iprop(full c b lh ∗ ((c : Thread nD τ).loc b ↦{rh} f)) ⊢ full c b fullShare := by
  iintro ⟨⟨%g, H1⟩, H2⟩
  ihave H := (persistent_entails_right pointsTo_agree) $$ [H1 H2]
  · isplitl [H1] <;> iassumption
  icases H with ⟨%h, H1, H2⟩
  iexists g
  iapply (pointsTo_share (PosShare.mem_left_op_right fullShare)).2
  isplitl [H1]; · iexact H1
  rw [pointsTo_congr (f := g) (g := f) (fun i hi => (h i (Finset.mem_inter.mpr ⟨hi, hi⟩)).1)]
  iexact H2

end Cert.MatProof
-- ==== Proof.Phases.lean ====
/- The phases of the body around the ring's steps: the loops that pay what is owed, the signals and what
   they hand over, the staging of the operands, the maximum, the output. -/
module

public import proofs.«01_k».proof.Proof.Pieces
public import Idealize.ShloMosaic.Lib.Pipeline.ValueKit.Geometry

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

/-! ## Families, further -/

theorem emp_left (P : sProp 𝕄) : iprop(emp ∗ P) = P := equiv_iff.mp emp_sep
theorem emp_right (P : sProp 𝕄) : iprop(P ∗ emp) = P := equiv_iff.mp sep_emp

theorem seq_emp (n : ℕ) : ∀ i, seq (fun _ => (iprop(emp) : sProp 𝕄)) i n = iprop(emp) := by
  induction n with
  | zero => intro i; rfl
  | succ n ih => intro i; show iprop(emp ∗ seq (fun _ => (iprop(emp) : sProp 𝕄)) (i + 1) n) = _; rw [ih, emp_left]

theorem seq_at (Φ : ℕ → sProp 𝕄) (a n : ℕ) : seq Φ a n = seq (fun j => Φ (a + j)) 0 n := by
  have h := seq_shift Φ a n 0
  rw [Nat.zero_add] at h
  exact h.trans (seq_congr n 0 fun j _ _ => by rw [Nat.add_comm])

theorem seq_lt (Φ : ℕ → sProp 𝕄) (a b : ℕ) : seq (fun j => if j < a then Φ j else iprop(emp)) 0 (a + b) = seq Φ 0 a := by
  rw [seq_add, seq_congr (Ψ := Φ) a 0 (fun j _ h => if_pos (by omega)),
    seq_congr (Ψ := fun _ => iprop(emp)) b (0 + a) (fun j h _ => if_neg (by omega)), seq_emp, emp_right]

theorem seq_first (Φ : ℕ → sProp 𝕄) (n : ℕ) : seq (fun j => if j = 0 then Φ j else iprop(emp)) 0 (n + 1) = Φ 0 := by
  show iprop((if (0 : ℕ) = 0 then Φ 0 else iprop(emp)) ∗ seq (fun j => if j = 0 then Φ j else iprop(emp)) (0 + 1) n) = _
  rw [if_pos rfl, seq_congr (Ψ := fun _ => iprop(emp)) n (0 + 1) (fun j h _ => if_neg (by omega)), seq_emp, emp_right]

theorem seq_last (Φ : ℕ → sProp 𝕄) (n : ℕ) : seq (fun j => if j = n then Φ j else iprop(emp)) 0 (n + 1) = Φ n := by
  rw [seq_snoc, seq_congr (Ψ := fun _ => iprop(emp)) n 0 (fun j _ h => if_neg (by omega)), seq_emp, emp_left, Nat.zero_add, if_pos rfl]

theorem seq_one (Φ : ℕ → sProp 𝕄) (i : ℕ) : seq Φ i 1 = Φ i := emp_right _

theorem seq_head (Φ : ℕ → sProp 𝕄) (n : ℕ) : seq Φ 0 (n + 1) = iprop(Φ 0 ∗ seq (fun j => Φ (j + 1)) 0 n) := by
  show iprop(Φ 0 ∗ seq Φ (0 + 1) n) = _
  rw [seq_shift]

/-- A resource that turns each piece of a family into another, and stays. -/
theorem seq_with (P : sProp 𝕄) {Φ Ψ : ℕ → sProp 𝕄} (h : ∀ j, iprop(P ∗ Φ j) ⊢ iprop(P ∗ Ψ j)) (n : ℕ) :
    ∀ i, iprop(P ∗ seq Φ i n) ⊢ iprop(P ∗ seq Ψ i n) := by
  induction n with
  | zero => intro i; exact .rfl
  | succ n ih =>
    intro i
    have hi := h i
    have ht := ih (i + 1)
    unfold seq
    iintro ⟨HP, HA, HB⟩
    ihave H := hi $$ [HP HA]
    · isplitl [HP] <;> iassumption
    icases H with ⟨HP, HA⟩
    ihave H := ht $$ [HP HB]
    · isplitl [HP] <;> iassumption
    icases H with ⟨HP, HB⟩
    isplitl [HP]; · iexact HP
    isplitl [HA] <;> iassumption

/-- A device's cells, family by family. -/
theorem cells (Φ : ℕ → sProp 𝕄) : seq Φ 0 97 = iprop(seq (fun s => Φ (8 * 0 + s)) 0 8 ∗ seq (fun s => Φ (8 * 1 + s)) 0 8
    ∗ seq (fun s => Φ (16 + 8 * 0 + s)) 0 8 ∗ seq (fun s => Φ (16 + 8 * 1 + s)) 0 8
    ∗ seq (fun s => Φ (32 + 7 * 0 + s)) 0 7 ∗ seq (fun s => Φ (32 + 7 * 1 + s)) 0 7
    ∗ seq (fun s => Φ (46 + s)) 0 4 ∗ seq (fun s => Φ (50 + s)) 0 8 ∗ seq (fun s => Φ (58 + s)) 0 8
    ∗ seq (fun s => Φ (66 + s)) 0 15 ∗ seq (fun s => Φ (81 + s)) 0 15 ∗ Φ 96) := by
  rw [show 97 = 8 + (8 + (8 + (8 + (7 + (7 + (4 + (8 + (8 + (15 + (15 + 1)))))))))) from rfl]
  simp only [seq_add, seq_one]
  rw [seq_at Φ (0 + 8), seq_at Φ (0 + 8 + 8), seq_at Φ (0 + 8 + 8 + 8), seq_at Φ (0 + 8 + 8 + 8 + 8), seq_at Φ (0 + 8 + 8 + 8 + 8 + 7),
    seq_at Φ (0 + 8 + 8 + 8 + 8 + 7 + 7), seq_at Φ (0 + 8 + 8 + 8 + 8 + 7 + 7 + 4), seq_at Φ (0 + 8 + 8 + 8 + 8 + 7 + 7 + 4 + 8),
    seq_at Φ (0 + 8 + 8 + 8 + 8 + 7 + 7 + 4 + 8 + 8), seq_at Φ (0 + 8 + 8 + 8 + 8 + 7 + 7 + 4 + 8 + 8 + 15)]
  rw [seq_congr (Φ := Φ) (Ψ := fun s => Φ (8 * 0 + s)) 8 0 (fun j _ _ => by rw [Nat.mul_zero, Nat.zero_add])]

/-! ## Loops that pay what is owed -/

theorem lst_step (f : ℕ → Dev nD × ℕ) (l : List (Dev nD × ℕ)) {j N : ℕ} (h : j < N) : lst f l j (N - j) = f j :: lst f l (j + 1) (N - (j + 1)) := by
  obtain ⟨n, hn⟩ : ∃ n, N - j = n + 1 := ⟨N - j - 1, by omega⟩
  rw [hn, show N - (j + 1) = n by omega]; rfl

theorem each_due (f : ℕ → Dev nD × ℕ) (g : ℕ → KProg F PUnit) (A B : ℕ → sProp 𝕄) (l : List (Dev nD × ℕ)) (N : ℕ)
    (h : ∀ j, j < N → ∀ (l' : List (Dev nD × ℕ)) (Φ : PUnit → sProp 𝕄),
      (iprop(ctx m ρ K ∗ owesL c (f j :: l') ∗ A j) ⊢ iprop(((owesL c l' ∗ B j) -∗ Φ ⟨⟩) -∗ run c (g j) Φ)))
    (Φ : PUnit → sProp 𝕄) :
    iprop(ctx m ρ K ∗ owesL c (lst f l 0 N) ∗ seq A 0 N) ⊢ iprop(((owesL c l ∗ seq B 0 N) -∗ Φ ⟨⟩) -∗ run c (rep g 0 N) Φ) := by
  have h2 := each c (P := ctx m ρ K) g (fun j => owesL c (lst f l j (N - j))) A B N 0
    (fun j _ hj Φ => by
      show iprop(ctx m ρ K ∗ owesL c (lst f l j (N - j)) ∗ A j) ⊢ _
      rw [lst_step f l (show j < N by omega)]; exact h j (by omega) _ Φ) Φ
  simp only [Nat.zero_add, Nat.sub_self, Nat.sub_zero] at h2
  exact h2

theorem each_owing (g : ℕ → KProg F PUnit) (A B : ℕ → sProp 𝕄) (l : List (Dev nD × ℕ)) (N : ℕ)
    (h : ∀ j, j < N → ∀ (Φ : PUnit → sProp 𝕄),
      (iprop(ctx m ρ K ∗ owesL c l ∗ A j) ⊢ iprop(((owesL c l ∗ B j) -∗ Φ ⟨⟩) -∗ run c (g j) Φ)))
    (Φ : PUnit → sProp 𝕄) :
    iprop(ctx m ρ K ∗ owesL c l ∗ seq A 0 N) ⊢ iprop(((owesL c l ∗ seq B 0 N) -∗ Φ ⟨⟩) -∗ run c (rep g 0 N) Φ) :=
  each c (P := ctx m ρ K) g (fun _ => owesL c l) A B N 0 (fun j _ hj Φ => h j (by omega) Φ) Φ

/-! ## The signals and what they hand over -/

/-- What is handed over at signal `j`, the slots being device `d j`'s. -/
def payOf (d : ℕ → Dev nD) (j : ℕ) : sProp 𝕄 :=
  iprop(lent (F := F) (d j) (slA (j + 1)) fullShare
    ∗ (if j < 8 then lent (d j) (slX (j + 1)) fullShare else iprop(emp))
    ∗ (if j = 0 then iprop(seq (fun s => lent (d j) (slR 0 s) fullShare) 0 8 ∗ seq (fun s => lent (d j) (slR 1 s) fullShare) 0 8) else iprop(emp))
    ∗ (if j = 14 then iprop(seq (fun s => lent (d j) (slL 0 s) fullShare) 0 7 ∗ seq (fun s => lent (d j) (slL 1 s) fullShare) 0 7) else iprop(emp)))

theorem barPay_eq : barPay (F := F) c = payOf (fun j => nb (j + 1) c) := rfl

theorem payOf_seq (d : ℕ → Dev nD) : seq (payOf (F := F) d) 0 15
    = iprop(seq (fun j => lent (d j) (slA (j + 1)) fullShare) 0 15 ∗ seq (fun j => lent (d j) (slX (j + 1)) fullShare) 0 8
      ∗ (seq (fun s => lent (d 0) (slR 0 s) fullShare) 0 8 ∗ seq (fun s => lent (d 0) (slR 1 s) fullShare) 0 8)
      ∗ (seq (fun s => lent (d 14) (slL 0 s) fullShare) 0 7 ∗ seq (fun s => lent (d 14) (slL 1 s) fullShare) 0 7)) := by
  unfold payOf
  rw [seq_sep, seq_sep, seq_sep,
    show (15 : ℕ) = 8 + 7 from rfl, seq_lt (fun j => lent (F := F) (d j) (slX (j + 1)) fullShare) 8 7,
    show (8 + 7 : ℕ) = 14 + 1 from rfl,
    seq_first (fun j => iprop(seq (fun s => lent (F := F) (d j) (slR 0 s) fullShare) 0 8 ∗ seq (fun s => lent (d j) (slR 1 s) fullShare) 0 8)) 14,
    seq_last (fun j => iprop(seq (fun s => lent (F := F) (d j) (slL 0 s) fullShare) 0 7 ∗ seq (fun s => lent (d j) (slL 1 s) fullShare) 0 7)) 14]

theorem barPay_own (i : ℕ) (hi : i < 15) : barPay (F := F) (nb (i + 1) c) (14 - i) = payOf (fun _ => c) (14 - i) := by
  rw [barPay_eq]
  unfold payOf
  beta_reduce
  rw [nb_back c (show i + 1 + (14 - i + 1) = 16 by omega)]

theorem sigs_spec (Φ : PUnit → sProp 𝕄) :
    iprop(ctx m ρ K ∗ owesL c (oweAll c) ∗ seq (fun i => pays (nb (i + 1) c) 96 0 (14 - i)) 0 15 ∗ seq (payOf (fun _ => c)) 0 15)
      ⊢ iprop((owesL c (oweX c) -∗ Φ ⟨⟩) -∗ run c (rep (opSig (F := F) c) 0 15) Φ) := by
  have e : seq (fun i => barPay (F := F) (nb (i + 1) c) (14 - i)) 0 15 = seq (payOf (fun _ => c)) 0 15 :=
    (seq_congr (Ψ := fun j => payOf (F := F) (fun _ => c) (15 - 1 - j)) 15 0 (fun j _ hj => by rw [barPay_own c j (by omega), show 15 - 1 - j = 14 - j by omega])).trans
      (seq_rev (payOf (F := F) (fun _ => c)) 15).symm
  have h := each_due m ρ K c (dueSig c) (opSig (F := F) c) (fun i => iprop(pays (nb (i + 1) c) 96 0 (14 - i) ∗ barPay (nb (i + 1) c) (14 - i)))
    (fun _ => iprop(emp)) (oweX c) 15 (fun i hi l' Φ => by
      rw [emp_right]; exact sig_one m ρ K c i hi Φ) Φ
  rw [seq_emp, emp_right, seq_sep (fun i => pays (nb (i + 1) c) 96 0 (14 - i)) (fun i => barPay (F := F) (nb (i + 1) c) (14 - i)), e] at h
  unfold oweAll
  exact h

/-! ## Staging -/

theorem hz : (![0, 0] : Fin 2 → Nat) = fun _ => 0 := funext fun a => by fin_cases a <;> rfl
theorem hz3 : (![0, 0, 0] : Fin 3 → Nat) = fun _ => 0 := funext fun a => by fin_cases a <;> rfl

abbrev RX : Rect S4096x256 := Rect.unit (s := S4096x256) ![0, 0] S4096x256.size inb_S4096x256_S4096x256_0_0
abbrev RW : Rect S256x2048 := Rect.unit (s := S256x2048) ![0, 0] S256x2048.size inb_S256x2048_S256x2048_0_0
abbrev RT : Rect S8x128 := Rect.unit (s := S8x128) ![0, 0] S8x128.size inb_S8x128_S8x128_0_0
abbrev RA : Rect S16x8x128 := Rect.unit (s := S16x8x128) ![0, 0, 0] S16x8x128.size inb_S16x8x128_S16x8x128_0_0_0

theorem rd_x (f : (cc0_stg0_0 : Ref sig .tc).ty.Contents (Elt F)) : ((Memref.whole cc0_stg0_0).access RX).read (Elt F) f = f := Memref.read_access_unit_zero (Elt F) cc0_stg0_0 hz _ f
theorem rd_w (f : (cc0_stg1_0 : Ref sig .tc).ty.Contents (Elt F)) : ((Memref.whole cc0_stg1_0).access RW).read (Elt F) f = f := Memref.read_access_unit_zero (Elt F) cc0_stg1_0 hz _ f
theorem wr_X (f w : (cc0_scratch0 : Ref sig .tc).ty.Contents (Elt F)) : (mXb.access RX).write (Elt F) f w Finset.univ = w := Memref.write_access_unit_zero_univ (Elt F) cc0_scratch0 hz _ f w
theorem wr_W (f w : (cc0_scratch1 : Ref sig .tc).ty.Contents (Elt F)) : (mWb.access RW).write (Elt F) f w Finset.univ = w := Memref.write_access_unit_zero_univ (Elt F) cc0_scratch1 hz _ f w
theorem rd_t (f : (cc0_scratch10 : Ref sig .tc).ty.Contents (Elt F)) : (mAt.access RT).read (Elt F) f = f := Memref.read_access_unit_zero (Elt F) cc0_scratch10 hz _ f
theorem wr_t (f w : (cc0_scratch10 : Ref sig .tc).ty.Contents (Elt F)) : (mAt.access RT).write (Elt F) f w Finset.univ = w := Memref.write_access_unit_zero_univ (Elt F) cc0_scratch10 hz _ f w
theorem rd_ab (f : (cc0_scratch9 : Ref sig .tc).ty.Contents (Elt F)) : (mAb.access RA).read (Elt F) f = f := Memref.read_access_unit_zero (Elt F) cc0_scratch9 hz3 _ f

abbrev at_ (b : Ref sig .tc) (f : b.ty.Contents (Elt F)) : sProp 𝕄 :=
  iprop((c : Thread nD τ).loc b ↦{fullShare} (f : Buf (Elt F) ((c : Thread nD τ).loc b)))

theorem stage_spec (Φ : PUnit → sProp 𝕄) :
    iprop(at_ c cc0_stg0_0 (xstg m ρ c) ∗ at_ c cc0_stg1_0 (wstg m ρ c) ∗ full c cc0_scratch0 fullShare ∗ full c cc0_scratch1 fullShare)
      ⊢ iprop(((at_ c cc0_stg0_0 (xstg m ρ c) ∗ at_ c cc0_stg1_0 (wstg m ρ c) ∗ at_ c cc0_scratch0 (xb m ρ c) ∗ at_ c cc0_scratch1 (wb m ρ c)) -∗ Φ ⟨⟩)
        -∗ run c (opStage (Memref.whole cc0_stg0_0) (Memref.whole cc0_stg1_0)) Φ) := by
  unfold opStage run
  rw [wp_bind]
  iintro ⟨Hx, Hw, ⟨%f, H0⟩, ⟨%g, H1⟩⟩ Hk
  iapply (load_one c (v := Memref.whole cc0_stg0_0) (r := RX) (S := Finset.univ) (Finset.subset_univ _) _) $$ Hx
  iintro Hx
  rw [rd_x, wp_bind]
  iapply (load_one c (v := mXb) (r := RX) (S := Finset.univ) (Finset.subset_univ _) _) $$ H0
  iintro H0
  rw [wp_bind]
  iapply (store_one c (v := mXb) (r := RX) (S := Finset.univ) (Finset.subset_univ _) _) $$ H0
  rw [wr_X]
  iintro H0
  rw [wp_bind]
  iapply (load_one c (v := Memref.whole cc0_stg1_0) (r := RW) (S := Finset.univ) (Finset.subset_univ _) _) $$ Hw
  iintro Hw
  rw [rd_w, wp_bind]
  iapply (load_one c (v := mWb) (r := RW) (S := Finset.univ) (Finset.subset_univ _) _) $$ H1
  iintro H1
  iapply (store_one c (v := mWb) (r := RW) (S := Finset.univ) (Finset.subset_univ _) _) $$ H1
  rw [wr_W]
  iintro H1
  iapply Hk
  isplitl [Hx]; · iexact Hx
  isplitl [Hw]; · iexact Hw
  isplitl [H0]; · iexact H0
  iexact H1

/-- The staged operands, cut for the copies: the blocks of rows, the halves of the columns, and what the loads keep. -/
theorem cut_staged : iprop(at_ c cc0_scratch0 (xb m ρ c) ∗ at_ c cc0_scratch1 (wb m ρ c))
    ⊢ iprop(keep m ρ c ∗ seq (fun i => has c (slB (offB (nb i c)) (inbB _)) lh (xblk m ρ c (nb i c))) 0 16 ∗ seq (fun i => has c (slW i) lh (wH m ρ c i)) 0 2) := by
  iintro ⟨Hx, Hw⟩
  ihave Hx2 := (pointsTo_share (PosShare.mem_left_op_right fullShare)).1 $$ Hx
  icases Hx2 with ⟨Hx, Hx'⟩
  ihave Hw2 := (pointsTo_share (PosShare.mem_left_op_right fullShare)).1 $$ Hw
  icases Hw2 with ⟨Hw, Hw'⟩
  unfold keep
  isplitl [Hx' Hw']; · isplitl [Hx'] <;> iassumption
  isplitl [Hx]
  · iapply (xb_blocks m ρ c lh); iexact Hx
  · iapply (wb_halves m ρ c lh); iexact Hw

/-! ## The maximum -/

/-- A slot at contents that read as `V` is the slot at any contents that do. -/
theorem has_pts {s : Shape} {e : EltTy} (v : Memref sig .tc .vmem s e) (q : PosShare TreeShare) {V : s.Idx → Elt F e}
    (g : Buf (Elt F) (v.view.loc (c : Thread nD τ))) (hg : v.view.read (Elt F) g = V) :
    has c v q V ⊢ (v.view.loc (c : Thread nD τ) ↦[v.view.set]{q} g : sProp 𝕄) := by
  unfold has
  iintro ⟨%f, %hf, H⟩
  rw [pointsTo_congr (f := g) (g := f) (fun i hi => by
    obtain ⟨x, -, rfl⟩ := Finset.mem_map.mp hi
    have h := congrFun (hg.trans hf.symm) x
    rw [View.read_apply, View.read_apply] at h
    exact (cast_inj _).mp h)]
  iexact H

theorem has_At (q : PosShare TreeShare) (V : FVec F S8x128 .f32) :
    has c mAt q V = iprop((c : Thread nD τ).loc cc0_scratch10 ↦{q} (V : Buf (Elt F) ((c : Thread nD τ).loc cc0_scratch10))) := by
  refine both ?_ ?_
  · exact (has_pts c mAt q V rfl).trans (Entails.of_eq (by rw [show mAt.view.set = Finset.univ from View.set_whole _]))
  · unfold has
    rw [show mAt.view.set = Finset.univ from View.set_whole _]
    iintro H
    iexists V
    isplitr; · ipureintro; rfl
    iexact H

theorem max_spec (Φ : PUnit → sProp 𝕄) :
    iprop(full c cc0_scratch10 fullShare ∗ lent c (slA 0) fullShare)
      ⊢ iprop(((has c mAt fullShare (tile m ρ c) ∗ has c (slA 0) fullShare (tile m ρ c)) -∗ Φ ⟨⟩) -∗ run c (opMax (accV m ρ c 8)) Φ) := by
  rw [has_At]
  unfold opMax run lent
  rw [wp_bind]
  iintro ⟨⟨%f, Ht⟩, ⟨%g, Hs⟩⟩ Hk
  iapply (load_one c (v := mAt) (r := RT) (S := Finset.univ) (Finset.subset_univ _) _) $$ Ht
  iintro Ht
  rw [wp_bind]
  iapply (store_one c (v := mAt) (r := RT) (S := Finset.univ) (Finset.subset_univ _) _) $$ Ht
  rw [wr_t]
  iintro Ht
  rw [wp_bind]
  iapply (load_one c (v := mAt) (r := RT) (S := Finset.univ) (Finset.subset_univ _) _) $$ Ht
  iintro Ht
  rw [rd_t, wp_bind]
  iapply (load_one c (v := mAb) (r := rA 0) (setA 0) _) $$ Hs
  iintro Hs
  iapply (store_one c (v := mAb) (r := rA 0) (setA 0) _) $$ Hs
  iintro Hs
  iapply Hk
  isplitl [Ht]; · iexact Ht
  unfold has
  iexists _
  isplitr
  · ipureintro
    show shapeCast S8x128 ((mAb.access (rA 0)).read (Elt F) ((mAb.access (rA 0)).write (Elt F) g (k0_pay58 (maxTile (accV m ρ c 8))) Finset.univ)) shapeCasts_S1x8x128_S8x128 = tile m ρ c
    rw [View.read_write_univ]
    exact shapeCast_shapeCast _ _ _
  iexact Hs

/-- The maximum's tile, shared out to the copies that read it; and gathered. -/
theorem At_share (V : FVec F S8x128 .f32) :
    has c mAt fullShare V = iprop(has c mAt (shareDrop fullShare 15) V ∗ seq (fun i => has c mAt (shareTokN fullShare i) V) 0 15) := by
  simp only [has_At]
  rw [← seq_range]
  exact both (Transfers.pointsTo_toks_range fullShare 15).1 (Transfers.pointsTo_toks_range fullShare 15).2

theorem At_gather (V : FVec F S8x128 .f32) :
    iprop(has c mAt (shareDrop fullShare 15) V ∗ seq (fun i => lent c mAt (shareTokN fullShare i)) 0 15) ⊢ full c cc0_scratch10 fullShare := by
  refine (seq_with _ (fun j => ?_) 15 0).trans ((Entails.of_eq (At_share c V).symm).trans ?_)
  · simp only [has_At]
    unfold lent
    rw [show mAt.view.set = Finset.univ from View.set_whole _]
    iintro ⟨H1, ⟨%g, H2⟩⟩
    ihave H := (persistent_entails_right pointsTo_agree) $$ [H1 H2]
    · isplitl [H1] <;> iassumption
    icases H with ⟨%h, H1, H2⟩
    isplitl [H1]; · iexact H1
    rw [pointsTo_congr (f := V) (g := g) (fun i hi => (h i (Finset.mem_inter.mpr ⟨hi, hi⟩)).1)]
    iexact H2
  · rw [has_At]
    iintro H; iexists V; iexact H

/-! ## The output -/

/-- All sixteen maxima, as the buffer holds them: slot `o` from the device `o` places behind. -/
def abV : Vec F S16x8x128 .f32 := fun i => tile m ρ (nb (16 - (i 0).val) c) (fun a => i a.succ)

theorem abV_slot (o : ℕ) (ho : o < 16) : (slA o).view.read (Elt F) (abV m ρ c) = tile m ρ (nb (16 - o) c) := by
  show shapeCast S8x128 ((mAb.access (rA o)).read (Elt F) (abV m ρ c)) shapeCasts_S1x8x128_S8x128 = _
  funext j
  refine (shapeCast_dropUnit_apply ![8, 128] _ _ j).trans ?_
  show tile m ρ (nb (16 - ((rA o).emb (Fin.cons ⟨0, Nat.one_pos⟩ j) 0).val) c) (fun a => (rA o).emb (Fin.cons ⟨0, Nat.one_pos⟩ j) a.succ) = _
  have h0 : ((rA o).emb (Fin.cons ⟨0, Nat.one_pos⟩ j) 0).val = o := by
    rw [ValueKit.rect_emb_unit_val]; show o % 16 + 0 = o; omega
  rw [h0]
  congr 1
  funext a
  apply Fin.ext
  rw [ValueKit.rect_emb_unit_val]
  fin_cases a
  · show 0 + (j 0).val = _; rw [Nat.zero_add]; rfl
  · show 0 + (j 1).val = _; rw [Nat.zero_add]; rfl

theorem A_join : seq (fun j => has c (slA j) fullShare (tile m ρ (nb (16 - j) c))) 0 16 ⊢ at_ c cc0_scratch9 (abV m ρ c) := by
  refine (seq_mono (Ψ := fun s => iprop((c : Thread nD τ).loc cc0_scratch9 ↦[(rA s).set]{fullShare} (abV m ρ c : Buf (Elt F) ((c : Thread nD τ).loc cc0_scratch9)))) 16 0 fun j _ hj => ?_).trans
    (Entails.of_eq ((Ring.pointsTo_blocks (ℓ := (c : Thread nD τ).loc cc0_scratch9) (fun b : Fin 16 => (rA b.val).set) dA cA (abV m ρ c)).trans
      (seq_univ (fun s => ((c : Thread nD τ).loc cc0_scratch9 ↦[(rA s).set]{fullShare} abV m ρ c : sProp 𝕄)) 16)).symm)
  refine (has_pts c (slA j) fullShare (abV m ρ c) (abV_slot m ρ c j (by omega))).trans ?_
  rw [set_slA]

/-- A block of two halves of columns. -/
abbrev loI (i : S256x2048.Idx) : S256x1024.Idx := fun a => ⟨(i a).val % S256x1024.size a, Nat.mod_lt _ (by fin_cases a <;> decide)⟩
def pair (A B : VF F) : (cc0_stg2_0 : Ref sig .tc).ty.Contents (Elt F) := fun (i : S256x2048.Idx) => if (i 1).val < 1024 then A (loI i) else B (loI i)

theorem emb_loI (q : ℕ) (i : S256x2048.Idx) (h : (i 1).val / 1024 = q % 2) : (rH q).emb (loI i) = i := by
  have h0 : (i 0).val < 256 := (i 0).isLt
  have h1 : (i 1).val < 2048 := (i 1).isLt
  funext a
  apply Fin.ext
  rw [ValueKit.rect_emb_unit_val]
  fin_cases a
  · show 0 + (i 0).val % 256 = (i 0).val; omega
  · show 1024 * (q % 2) + (i 1).val % 1024 = (i 1).val; omega

abbrev mO : Memref sig .tc .vmem S256x2048 .f32 := Memref.whole cc0_stg2_0

theorem write_pair (f : (cc0_stg2_0 : Ref sig .tc).ty.Contents (Elt F)) (A B : VF F) :
    (mO.access (rH 1)).write (Elt F) ((mO.access (rH 0)).write (Elt F) f A Finset.univ) B Finset.univ = pair A B := by
  funext i
  change S256x2048.Idx at i
  have h1 : (i 1).val < 2048 := (i 1).isLt
  by_cases h : (i 1).val < 1024
  · have he : (mO.access (rH 0)).emb (loI i) = i := emb_loI 0 i (by omega)
    have hn : i ∉ (mO.access (rH 1)).setOn Finset.univ := by
      intro hm
      obtain ⟨x, -, hx⟩ := Finset.mem_map.mp hm
      have h2 := congrArg (fun j : S256x2048.Idx => (j 1).val) hx
      have h3 : ((rH 1).emb x 1).val = 1024 + (x 1).val := ValueKit.rect_emb_unit_val _ _ _ _ _
      have h4 : ((rH 1).emb x 1).val = (i 1).val := h2
      omega
    rw [View.write_of_not_mem _ _ _ hn]
    show _ = if (i 1).val < 1024 then A (loI i) else B (loI i)
    rw [if_pos h]
    exact (congrArg _ he.symm).trans (View.write_emb_of_mem (Val := Elt F) (v := mO.access (rH 0)) f A (Finset.mem_univ (loI i)))
  · have he : (mO.access (rH 1)).emb (loI i) = i := emb_loI 1 i (by omega)
    show _ = if (i 1).val < 1024 then A (loI i) else B (loI i)
    rw [if_neg h]
    exact (congrArg _ he.symm).trans (View.write_emb_of_mem (Val := Elt F) (v := mO.access (rH 1)) _ B (Finset.mem_univ (loI i)))

/-- The device's block of the result. -/
def outAt : (cc0_stg2_0 : Ref sig .tc).ty.Contents (Elt F) :=
  pair (quant (accV m ρ c 8).1 (abV m ρ c)) (quant (accV m ρ c 8).2 (abV m ρ c))

theorem out_spec (Φ : PUnit → sProp 𝕄) :
    iprop(at_ c cc0_scratch9 (abV m ρ c) ∗ full c cc0_stg2_0 fullShare)
      ⊢ iprop(((at_ c cc0_scratch9 (abV m ρ c) ∗ at_ c cc0_stg2_0 (outAt m ρ c)) -∗ Φ ⟨⟩) -∗ run c (opOut mO (accV m ρ c 8)) Φ) := by
  unfold opOut run outAt
  rw [wp_bind]
  iintro ⟨Ha, ⟨%f, Ho⟩⟩ Hk
  iapply (load_one c (v := mAb) (r := RA) (S := Finset.univ) (Finset.subset_univ _) _) $$ Ha
  iintro Ha
  rw [rd_ab, wp_bind]
  iapply (load_one c (v := mO) (r := rH 0) (S := Finset.univ) (Finset.subset_univ _) _) $$ Ho
  iintro Ho
  rw [wp_bind]
  iapply (store_one c (v := mO) (r := rH 0) (S := Finset.univ) (Finset.subset_univ _) _) $$ Ho
  iintro Ho
  rw [wp_bind]
  iapply (load_one c (v := mO) (r := rH 1) (S := Finset.univ) (Finset.subset_univ _) _) $$ Ho
  iintro Ho
  rw [wp_bind]
  iapply (store_one c (v := mO) (r := rH 1) (S := Finset.univ) (Finset.subset_univ _) _) $$ Ho
  rw [write_pair]
  iintro Ho
  rw [Prog.pure_eq_ret, wp_ret]; imodintro
  iapply Hk
  isplitl [Ha]; · iexact Ha
  iexact Ho

end Cert.MatProof
-- ==== Proof.Middle.lean ====
/- The body's phases, each from what it needs to what it leaves: the opening, the first copies, the ring's steps, the end. -/
module

public import proofs.«01_k».proof.Proof.Phases

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

/-! ## What is owed lies above -/

theorem lv_dueL {q s : ℕ} (hq : q < 2) (hs : s < 7) {n : ℕ} (h : n < 4 + 2 * s) : (dueL c q s).2 < 97 ∧ n < lvK (dueL c q s).2 :=
  ⟨by show 32 + 7 * q + s < 97; omega, by show _ < lvK (32 + 7 * q + s); rw [lv_Lv q s hq hs]; exact h⟩
theorem lv_dueR {q s : ℕ} (hq : q < 2) (hs : s < 8) {n : ℕ} (h : n < 3 + 2 * s) : (dueR c q s).2 < 97 ∧ n < lvK (dueR c q s).2 :=
  ⟨by show 8 * q + s < 97; omega, by show _ < lvK (8 * q + s); rw [lv_Rv q s hq hs]; exact h⟩

theorem above_A : Above 99 (oweStep c 0) :=
  Above.lst (Above.nil 99) 15 0 fun j _ hj => ⟨by show 81 + j < 97; omega, by show _ < lvK (81 + j); rw [lv_Av j (by omega)]; omega⟩

theorem above_step (n : ℕ) (hn : n < 8) : Above (16 - 2 * n) (oweStep c n) := by
  induction n with
  | zero => exact (above_A c).mono (by omega)
  | succ n ih =>
    have h := (ih (by omega)).mono (show 16 - 2 * (n + 1) ≤ 16 - 2 * n by omega)
    unfold oweStep
    exact .cons (lv_dueL c (by omega) (by omega) (by omega)) (.cons (lv_dueL c (by omega) (by omega) (by omega))
      (.cons (lv_dueR c (by omega) (by omega) (by omega)) (.cons (lv_dueR c (by omega) (by omega) (by omega)) h)))

theorem above_R : Above 2 (oweR c) :=
  .cons (lv_dueR c (by omega) (by omega) (by omega)) (.cons (lv_dueR c (by omega) (by omega) (by omega)) ((above_step c 7 (by omega)).mono (by omega)))

theorem above_X : Above 1 (oweX c) :=
  Above.lst ((above_R c).mono (by omega)) 8 0 fun j _ hj => ⟨by show 58 + j < 97; omega, by show _ < lvK (58 + j); rw [lv_Xv j (by omega)]; omega⟩

theorem oweStep_at {n s : ℕ} (h : n + s = 6) : oweStep c (n + 1) = dueL c 0 s :: dueL c 1 s :: dueR c 0 (s + 1) :: dueR c 1 (s + 1) :: oweStep c n := by
  show dueL c 0 (6 - n) :: dueL c 1 (6 - n) :: dueR c 0 (7 - n) :: dueR c 1 (7 - n) :: oweStep c n = _
  rw [show 6 - n = s by omega, show 7 - n = s + 1 by omega]

/-! ## The opening -/

theorem open_spec {α : Type} (k : PUnit → KProg F α) (Φ : α → sProp 𝕄) :
    iprop(ctx m ρ K ∗ owesL c (oweAll c) ∗ (seq (fun i => pays (nb (i + 1) c) 96 0 (14 - i)) 0 15 ∗ cred (tallyAt (cell c 96) () 15) ∗ pos c 96 0)
        ∗ seq (payOf (fun _ => c)) 0 15 ∗ (at_ c cc0_stg0_0 (xstg m ρ c) ∗ at_ c cc0_stg1_0 (wstg m ρ c) ∗ full c cc0_scratch0 fullShare ∗ full c cc0_scratch1 fullShare))
      ⊢ iprop(((owesL c (oweX c) ∗ rest c 96 ∗ seq (barPay c) 0 15
            ∗ (at_ c cc0_stg0_0 (xstg m ρ c) ∗ at_ c cc0_stg1_0 (wstg m ρ c) ∗ at_ c cc0_scratch0 (xb m ρ c) ∗ at_ c cc0_scratch1 (wb m ρ c))) -∗ run c (k ⟨⟩) Φ)
        -∗ run c (do rep (opSig (F := F) c) 0 15; opStage (Memref.whole cc0_stg0_0) (Memref.whole cc0_stg1_0); let u ← opBar; k u) Φ) := by
  unfold run
  rw [wp_bind]
  iintro ⟨#HC, Ho, ⟨Hp, Hc, Hb⟩, Hg, Hm⟩ Hk
  iapply (sigs_spec m ρ K c _) $$ [Ho Hp Hg]
  · isplitr; · iexact HC
    isplitl [Ho]; · iexact Ho
    isplitl [Hp] <;> iassumption
  iintro Ho
  rw [wp_bind]
  iapply (stage_spec m ρ c _) $$ Hm
  iintro Hm
  rw [wp_bind]
  iapply (bar_wait m ρ K c (above_X c) _) $$ [Hc Ho Hb]
  · isplitr; · iexact HC
    isplitl [Hc]; · iexact Hc
    isplitl [Ho] <;> iassumption
  iintro ⟨Ho, Hr, Hq⟩
  iapply Hk
  isplitl [Ho]; · iexact Ho
  isplitl [Hr]; · iexact Hr
  isplitl [Hq] <;> iassumption

/-! ## The first copies -/

def sendXIn (i : ℕ) : sProp 𝕄 :=
  iprop(has c (slB (offB (nb (i + 1) c)) (inbB _)) lh (xblk m ρ c (nb (i + 1) c)) ∗ lent (nb (i + 1) c) (slX (i + 1)) fullShare ∗ pays c (50 + i) 0 0 ∗ pays (nb (i + 1) c) (58 + i) 0 0)
def sendRIn (q : ℕ) : sProp 𝕄 :=
  iprop(has c (srcR q 0) lh (wH m ρ (nb (16 - 0) c) q) ∗ lent (nb 1 c) (slR q 0) fullShare ∗ pays c (16 + 8 * q + 0) 0 0 ∗ pays (nb 1 c) (8 * q + 0) 0 0)

theorem first_copies {α : Type} (k : VF F × VF F → KProg F α) (Φ : α → sProp 𝕄) :
    iprop(ctx m ρ K ∗ owesL c (oweX c) ∗ keep m ρ c ∗ seq (sendXIn m ρ c) 0 8 ∗ seq (fun i => iprop(tok c (58 + i) ∗ pos c (58 + i) 0)) 0 8
        ∗ (lent c (slS 0 0) fullShare ∗ lent c (slS 1 0) fullShare) ∗ (sendRIn m ρ c 0 ∗ sendRIn m ρ c 1))
      ⊢ iprop(((owesL c (oweStep c 7) ∗ keep m ρ c ∗ seq (fun i => tok c (50 + i)) 0 8 ∗ seq (fun i => iprop(rest c (58 + i) ∗ xin m ρ c i)) 0 8
            ∗ (has c (slS 0 0) fullShare (Lv m ρ 0 0 c) ∗ has c (slS 1 0) fullShare (Lv m ρ 1 0 c)) ∗ (tok c (16 + 8 * 0 + 0) ∗ tok c (16 + 8 * 1 + 0)))
          -∗ run c (k (accV m ρ c 0)) Φ)
        -∗ run c (do rep (opSendX (F := F) c) 0 8; let acc ← opOwn c; opFirst c 0; opFirst c 1; rep (opWaitXv (F := F) c) 0 8
                     opSendR (F := F) c 0 0; opSendR (F := F) c 1 0; k acc) Φ) := by
  unfold run sendRIn
  rw [wp_bind]
  iintro ⟨#HC, Ho, Hkp, HX, HV, ⟨Hs0, Hs1⟩, ⟨Hr0, Hr1⟩⟩ Hk
  iapply (each_due m ρ K c (dueX c) (opSendX c) (sendXIn m ρ c) (fun i => tok c (50 + i)) (oweR c) 8
    (fun j hj l' Φ => sendX m ρ K c j hj Φ) _) $$ [Ho HX]
  · isplitr; · iexact HC
    isplitl [Ho]; · iexact Ho
    iexact HX
  iintro ⟨Ho, HX⟩
  rw [wp_bind]
  iapply (own_spec m ρ c _) $$ Hkp
  iintro Hkp
  rw [wp_bind]
  iapply (first_spec m ρ c 0 _) $$ [Hkp Hs0]
  · isplitl [Hkp] <;> iassumption
  iintro ⟨Hkp, Hs0⟩
  rw [wp_bind]
  iapply (first_spec m ρ c 1 _) $$ [Hkp Hs1]
  · isplitl [Hkp] <;> iassumption
  iintro ⟨Hkp, Hs1⟩
  rw [wp_bind]
  iapply (each_owing m ρ K c (opWaitXv c) (fun i => iprop(tok c (58 + i) ∗ pos c (58 + i) 0)) (fun i => iprop(rest c (58 + i) ∗ xin m ρ c i)) (oweR c) 8
    (fun j hj Φ => waitXv m ρ K c j hj (above_R c) Φ) _) $$ [Ho HV]
  · isplitr; · iexact HC
    isplitl [Ho] <;> iassumption
  iintro ⟨Ho, HV⟩
  rw [wp_bind]
  iapply (sendR m ρ K c 0 0 (by omega) (by omega) (l := dueR c 1 0 :: oweStep c 7) _) $$ [Ho Hr0]
  · isplitr; · iexact HC
    isplitl [Ho]; · iexact Ho
    iexact Hr0
  iintro ⟨Ho, Ht0⟩
  rw [wp_bind]
  iapply (sendR m ρ K c 1 0 (by omega) (by omega) (l := oweStep c 7) _) $$ [Ho Hr1]
  · isplitr; · iexact HC
    isplitl [Ho]; · iexact Ho
    iexact Hr1
  iintro ⟨Ho, Ht1⟩
  iapply Hk
  isplitl [Ho]; · iexact Ho
  isplitl [Hkp]; · iexact Hkp
  isplitl [HX]; · iexact HX
  isplitl [HV]; · iexact HV
  isplitl [Hs0 Hs1]; · isplitl [Hs0] <;> iassumption
  isplitl [Ht0] <;> iassumption

/-! ## The ring's steps -/

/-- Between the steps: step `s` is done, `n` of the middle ones are left. -/
def between (s n : ℕ) : sProp 𝕄 :=
  iprop(keep m ρ c ∗ owesL c (oweStep c (n + 1)) ∗ (up m ρ c 0 (s + 1) ∗ up m ρ c 1 (s + 1)) ∗ (gone c 0 s ∗ gone c 1 s)
    ∗ seq (stIn m ρ c) (s + 1) (n + 1) ∗ seq (stOut m ρ c) 0 (s + 1))

theorem mid_spec (s n : ℕ) (hn : n + s = 4) (Φ : VF F × VF F → sProp 𝕄) :
    iprop(ctx m ρ K ∗ between m ρ c s (n + 1))
      ⊢ iprop((between m ρ c (s + 1) n -∗ Φ (accV m ρ c (s + 2))) -∗ run c (stepM c (s + 1) (accV m ρ c (s + 1))) Φ) := by
  unfold between
  rw [oweStep_at c (show n + 1 + (s + 1) = 6 by omega), seq_snoc (stOut m ρ c) 0 (s + 1), Nat.zero_add,
    show seq (stIn m ρ c) (s + 1) (n + 1 + 1) = iprop(stIn m ρ c (s + 1) ∗ seq (stIn m ρ c) (s + 1 + 1) (n + 1)) from rfl]
  iintro ⟨#HC, Hkp, Ho, Hu, Hg, ⟨Hi, Hin⟩, Hout⟩ Hk
  iapply (stepM_spec m ρ K c s (by omega) ((above_step c (n + 1) (by omega)).mono (by omega)) Φ) $$ [Hkp Ho Hu Hg Hi]
  · isplitr; · iexact HC
    isplitl [Hkp]; · iexact Hkp
    isplitl [Ho]; · iexact Ho
    isplitl [Hu]; · iexact Hu
    isplitl [Hg] <;> iassumption
  iintro ⟨Hkp, Ho, Hu, Hg, Hi⟩
  iapply Hk
  isplitl [Hkp]; · iexact Hkp
  isplitl [Ho]; · iexact Ho
  isplitl [Hu]; · iexact Hu
  isplitl [Hg]; · iexact Hg
  isplitl [Hin]; · iexact Hin
  isplitl [Hout] <;> iassumption

theorem steps_spec {α : Type} (k : VF F × VF F → KProg F α) (Φ : α → sProp 𝕄) :
    iprop(ctx m ρ K ∗ keep m ρ c ∗ owesL c (oweStep c 7) ∗ (has c (slS 0 0) fullShare (Lv m ρ 0 0 c) ∗ has c (slS 1 0) fullShare (Lv m ρ 1 0 c))
        ∗ ((pos c (kLd 0 0) 0 ∗ pos c (kLd 0 1) 0) ∗ (pos c (kLd 1 0) 0 ∗ pos c (kLd 1 1) 0)) ∗ (lent c (slS 0 1) fullShare ∗ lent c (slS 1 1) fullShare)
        ∗ seq (stIn m ρ c) 0 7 ∗ lastIn m ρ c)
      ⊢ iprop(((keep m ρ c ∗ owesL c (oweStep c 0) ∗ (gone c 0 5 ∗ gone c 1 5) ∗ (gone c 0 6 ∗ gone c 1 6) ∗ seq (stOut m ρ c) 0 7 ∗ lastOut m ρ c)
          -∗ run c (k (accV m ρ c 8)) Φ)
        -∗ run c (do let acc ← step0 c (accV m ρ c 0); let acc ← stepM c 1 acc; let acc ← stepM c 2 acc; let acc ← stepM c 3 acc
                     let acc ← stepM c 4 acc; let acc ← stepM c 5 acc; let acc ← step6 c acc; let acc ← step7 acc; k acc) Φ) := by
  have hb0 := begun_zero (F := F) m ρ K c (k := kLd 0 0) (by decide)
  have hb1 := begun_zero (F := F) m ρ K c (k := kLd 1 0) (by decide)
  unfold run
  rw [wp_bind, oweStep_at c (show 6 + 0 = 6 from rfl),
    show seq (stIn m ρ c) 0 7 = iprop(stIn m ρ c 0 ∗ seq (stIn m ρ c) 1 6) from rfl]
  iintro ⟨#HC, Hkp, Ho, ⟨Hs0, Hs1⟩, ⟨⟨Hp00, Hp01⟩, ⟨Hp10, Hp11⟩⟩, ⟨Hf0, Hf1⟩, ⟨Hi, Hin⟩, Hl⟩ Hk
  iapply (step0_spec m ρ K c ((above_step c 6 (by omega)).mono (by omega)) _) $$ [Hkp Ho Hs0 Hs1 Hp00 Hp01 Hp10 Hp11 Hf0 Hf1 Hi]
  · isplitr; · iexact HC
    isplitl [Hkp]; · iexact Hkp
    isplitl [Ho]; · iexact Ho
    isplitl [Hs0 Hs1 Hp00 Hp10]
    · unfold up
      isplitl [Hs0 Hp00]
      · isplitl [Hs0]; · iexact Hs0
        isplitl [Hp00]; · iexact Hp00
        iapply hb0; iexact HC
      · isplitl [Hs1]; · iexact Hs1
        isplitl [Hp10]; · iexact Hp10
        iapply hb1; iexact HC
    isplitr [Hi]
    · isplitl [Hf0 Hp01]
      · isplitl [Hf0] <;> iassumption
      · isplitl [Hf1] <;> iassumption
    iexact Hi
  iintro ⟨Hkp, Ho, Hu, Hg, Hout⟩
  rw [wp_bind]
  iapply (mid_spec m ρ K c 0 4 rfl _) $$ [Hkp Ho Hu Hg Hin Hout]
  · isplitr; · iexact HC
    unfold between
    isplitl [Hkp]; · iexact Hkp
    isplitl [Ho]; · iexact Ho
    isplitl [Hu]; · iexact Hu
    isplitl [Hg]; · iexact Hg
    isplitl [Hin]; · iexact Hin
    rw [seq_one]; iexact Hout
  iintro HB
  rw [wp_bind]
  iapply (mid_spec m ρ K c 1 3 rfl _) $$ [HB]
  · isplitr; · iexact HC
    iexact HB
  iintro HB
  rw [wp_bind]
  iapply (mid_spec m ρ K c 2 2 rfl _) $$ [HB]
  · isplitr; · iexact HC
    iexact HB
  iintro HB
  rw [wp_bind]
  iapply (mid_spec m ρ K c 3 1 rfl _) $$ [HB]
  · isplitr; · iexact HC
    iexact HB
  iintro HB
  rw [wp_bind]
  iapply (mid_spec m ρ K c 4 0 rfl _) $$ [HB]
  · isplitr; · iexact HC
    iexact HB
  unfold between
  rw [oweStep_at c (show 0 + 6 = 6 from rfl), seq_one]
  iintro ⟨Hkp, Ho, Hu, Hg5, Hi, Hout⟩
  rw [wp_bind]
  iapply (step6_spec m ρ K c ((above_step c 0 (by omega)).mono (by omega)) _) $$ [Ho Hu Hi]
  · isplitr; · iexact HC
    isplitl [Ho]; · iexact Ho
    isplitl [Hu] <;> iassumption
  iintro ⟨Ho, Hg6, Hi⟩
  rw [wp_bind]
  iapply (step7_spec m ρ K c ((above_A c).mono (by omega)) _) $$ [Ho Hl]
  · isplitr; · iexact HC
    isplitl [Ho] <;> iassumption
  iintro ⟨Ho, Hl⟩
  iapply Hk
  isplitl [Hkp]; · iexact Hkp
  isplitl [Ho]; · iexact Ho
  isplitl [Hg5]; · iexact Hg5
  isplitl [Hg6]; · iexact Hg6
  isplitl [Hout Hi]
  · rw [show (7 : ℕ) = 6 + 1 from rfl, seq_snoc (stOut m ρ c) 0 6]
    isplitl [Hout] <;> iassumption
  iexact Hl

/-! ## The end -/

def sendAIn (i : ℕ) : sProp 𝕄 :=
  iprop(lent (F := F) (nb (i + 1) c) (slA (i + 1)) fullShare ∗ pays c (66 + i) 0 0 ∗ pays (nb (i + 1) c) (81 + i) 0 0)

/-- What waiting for the copies' departures gives back. -/
def backX (i : ℕ) : sProp 𝕄 := iprop(rest (F := F) c (50 + i) ∗ lent c (slB (offB (nb (i + 1) c)) (inbB _)) lh)
def backR (q s : ℕ) : sProp 𝕄 := iprop(rest (F := F) c (16 + 8 * q + s) ∗ lent c (srcR q s) lh)
def backL (q s : ℕ) : sProp 𝕄 := iprop(rest (F := F) c (kLd q s) ∗ lent c (slS q s) fullShare)

theorem departures_spec {α : Type} (k : KProg F α) (Φ : α → sProp 𝕄) :
    iprop(ctx m ρ K ∗ owesL c [] ∗ seq (fun i => iprop(tok c (50 + i) ∗ pos c (50 + i) 0)) 0 8
        ∗ (seq (fun s => iprop(tok c (16 + 8 * 0 + s) ∗ pos c (16 + 8 * 0 + s) 0)) 0 8 ∗ seq (fun s => iprop(tok c (16 + 8 * 1 + s) ∗ pos c (16 + 8 * 1 + s) 0)) 0 8)
        ∗ (gone c 0 5 ∗ gone c 1 5) ∗ (gone c 0 6 ∗ gone c 1 6))
      ⊢ iprop(((owesL c [] ∗ seq (backX c) 0 8 ∗ (seq (backR c 0) 0 8 ∗ seq (backR c 1) 0 8) ∗ (backL c 0 5 ∗ backL c 1 5) ∗ (backL c 0 6 ∗ backL c 1 6)) -∗ run c k Φ)
        -∗ run c (do rep (opWaitXd (F := F) c) 0 8; rep (opWaitRd (F := F) 0) 0 8; rep (opWaitRd (F := F) 1) 0 8
                     opWaitLd (F := F) 0 5; opWaitLd (F := F) 0 6; opWaitLd (F := F) 1 5; opWaitLd (F := F) 1 6; k) Φ) := by
  unfold run gone
  rw [wp_bind]
  iintro ⟨#HC, Ho, HX, ⟨HR0, HR1⟩, ⟨⟨Ht05, Hp05⟩, ⟨Ht15, Hp15⟩⟩, ⟨⟨Ht06, Hp06⟩, ⟨Ht16, Hp16⟩⟩⟩ Hk
  iapply (each_owing m ρ K c (opWaitXd c) (fun i => iprop(tok c (50 + i) ∗ pos c (50 + i) 0)) (backX c) [] 8
    (fun j hj Φ => waitXd m ρ K c j hj (Above.nil 0) Φ) _) $$ [Ho HX]
  · isplitr; · iexact HC
    isplitl [Ho] <;> iassumption
  iintro ⟨Ho, HX⟩
  rw [wp_bind]
  iapply (each_owing m ρ K c (opWaitRd 0) (fun s => iprop(tok c (16 + 8 * 0 + s) ∗ pos c (16 + 8 * 0 + s) 0)) (backR c 0) [] 8
    (fun j hj Φ => waitRd m ρ K c 0 j (by omega) hj (Above.nil 0) Φ) _) $$ [Ho HR0]
  · isplitr; · iexact HC
    isplitl [Ho] <;> iassumption
  iintro ⟨Ho, HR0⟩
  rw [wp_bind]
  iapply (each_owing m ρ K c (opWaitRd 1) (fun s => iprop(tok c (16 + 8 * 1 + s) ∗ pos c (16 + 8 * 1 + s) 0)) (backR c 1) [] 8
    (fun j hj Φ => waitRd m ρ K c 1 j (by omega) hj (Above.nil 0) Φ) _) $$ [Ho HR1]
  · isplitr; · iexact HC
    isplitl [Ho] <;> iassumption
  iintro ⟨Ho, HR1⟩
  rw [wp_bind]
  iapply (waitLd_last m ρ K c 0 5 (by omega) (.inl rfl) (Above.nil 0) _) $$ [Ho Ht05 Hp05]
  · isplitr; · iexact HC
    isplitl [Ht05]; · iexact Ht05
    isplitl [Ho]; · iexact Ho
    iexact Hp05
  iintro ⟨Ho, H05⟩
  rw [wp_bind]
  iapply (waitLd_last m ρ K c 0 6 (by omega) (.inr rfl) (Above.nil 0) _) $$ [Ho Ht06 Hp06]
  · isplitr; · iexact HC
    isplitl [Ht06]; · iexact Ht06
    isplitl [Ho]; · iexact Ho
    iexact Hp06
  iintro ⟨Ho, H06⟩
  rw [wp_bind]
  iapply (waitLd_last m ρ K c 1 5 (by omega) (.inl rfl) (Above.nil 0) _) $$ [Ho Ht15 Hp15]
  · isplitr; · iexact HC
    isplitl [Ht15]; · iexact Ht15
    isplitl [Ho]; · iexact Ho
    iexact Hp15
  iintro ⟨Ho, H15⟩
  rw [wp_bind]
  iapply (waitLd_last m ρ K c 1 6 (by omega) (.inr rfl) (Above.nil 0) _) $$ [Ho Ht16 Hp16]
  · isplitr; · iexact HC
    isplitl [Ht16]; · iexact Ht16
    isplitl [Ho]; · iexact Ho
    iexact Hp16
  iintro ⟨Ho, H16⟩
  iapply Hk
  unfold backL
  isplitl [Ho]; · iexact Ho
  isplitl [HX]; · iexact HX
  isplitl [HR0 HR1]; · isplitl [HR0] <;> iassumption
  isplitl [H05 H15]; · isplitl [H05] <;> iassumption
  isplitl [H06] <;> iassumption

/-- The maximum, and its copies on their way. -/
theorem maxima_spec {α : Type} (k : KProg F α) (Φ : α → sProp 𝕄) :
    iprop(ctx m ρ K ∗ owesL c (oweStep c 0) ∗ (full c cc0_scratch10 fullShare ∗ lent c (slA 0) fullShare) ∗ seq (sendAIn c) 0 15)
      ⊢ iprop(((owesL c [] ∗ has c mAt (shareDrop fullShare 15) (tile m ρ c) ∗ has c (slA 0) fullShare (tile m ρ c) ∗ seq (fun i => tok c (66 + i)) 0 15) -∗ run c k Φ)
        -∗ run c (do opMax (accV m ρ c 8); rep (opSendA (F := F) c) 0 15; k) Φ) := by
  unfold run
  rw [wp_bind]
  iintro ⟨#HC, Ho, Hm, HA⟩ Hk
  iapply (max_spec m ρ c _) $$ Hm
  rw [At_share]
  iintro ⟨⟨Ht, Hts⟩, Hs⟩
  rw [wp_bind]
  iapply (each_due m ρ K c (dueA c) (opSendA c) (fun i => iprop(has c mAt (shareTokN fullShare i) (tile m ρ c) ∗ sendAIn c i)) (fun i => tok c (66 + i)) [] 15
    (fun j hj l' Φ => sendA m ρ K c j hj Φ) _) $$ [Ho Hts HA]
  · isplitr; · iexact HC
    isplitl [Ho]; · iexact Ho
    rw [seq_sep (fun i => has c mAt (shareTokN fullShare i) (tile m ρ c)) (sendAIn c)]
    isplitl [Hts] <;> iassumption
  iintro ⟨Ho, HT⟩
  iapply Hk
  isplitl [Ho]; · iexact Ho
  isplitl [Ht]; · iexact Ht
  isplitl [Hs]; · iexact Hs
  iexact HT

/-- The other maxima, and the output. -/
theorem close_spec (Φ : PUnit → sProp 𝕄) :
    iprop(ctx m ρ K ∗ owesL c [] ∗ has c mAt (shareDrop fullShare 15) (tile m ρ c) ∗ has c (slA 0) fullShare (tile m ρ c)
        ∗ seq (fun i => iprop(tok c (66 + i) ∗ pos c (66 + i) 0)) 0 15 ∗ seq (fun i => iprop(tok c (81 + i) ∗ pos c (81 + i) 0)) 0 15 ∗ full c cc0_stg2_0 fullShare)
      ⊢ iprop(((owesL c [] ∗ full c cc0_scratch9 fullShare ∗ full c cc0_scratch10 fullShare ∗ at_ c cc0_stg2_0 (outAt m ρ c)
            ∗ seq (fun i => rest c (66 + i)) 0 15 ∗ seq (fun i => rest c (81 + i)) 0 15) -∗ Φ ⟨⟩)
        -∗ run c (do rep (opWaitAd (F := F)) 0 15; rep (opWaitAv (F := F)) 0 15; opOut mO (accV m ρ c 8)) Φ) := by
  have hj := A_join m ρ c
  rw [show (16 : ℕ) = 15 + 1 from rfl, seq_head, show nb (15 + 1 - 0) c = c from nb_full c] at hj
  have hg := At_gather c (tile m ρ c)
  unfold run
  rw [wp_bind]
  iintro ⟨#HC, Ho, Ht, Hs, HD, HV, Hw⟩ Hk
  iapply (each_owing m ρ K c opWaitAd (fun i => iprop(tok c (66 + i) ∗ pos c (66 + i) 0)) (fun i => iprop(rest c (66 + i) ∗ lent c mAt (shareTokN fullShare i))) [] 15
    (fun j hj Φ => waitAd m ρ K c j hj (Above.nil 0) Φ) _) $$ [Ho HD]
  · isplitr; · iexact HC
    isplitl [Ho] <;> iassumption
  rw [seq_sep (fun i => rest c (66 + i))]
  iintro ⟨Ho, HD, HDl⟩
  ihave H10 := hg $$ [Ht HDl]
  · isplitl [Ht] <;> iassumption
  rw [wp_bind]
  iapply (each_owing m ρ K c opWaitAv (fun i => iprop(tok c (81 + i) ∗ pos c (81 + i) 0))
    (fun i => iprop(rest c (81 + i) ∗ has c (slA (i + 1)) fullShare (tile m ρ (nb (15 - i) c)))) [] 15
    (fun j hj Φ => waitAv m ρ K c j hj (Above.nil 100) Φ) _) $$ [Ho HV]
  · isplitr; · iexact HC
    isplitl [Ho] <;> iassumption
  rw [seq_sep (fun i => rest c (81 + i))]
  iintro ⟨Ho, HV, HVl⟩
  ihave H9 := hj $$ [Hs HVl]
  · isplitl [Hs]; · iexact Hs
    rw [seq_congr (Φ := fun j => has c (slA (j + 1)) fullShare (tile m ρ (nb (15 + 1 - (j + 1)) c)))
      (Ψ := fun i => has c (slA (i + 1)) fullShare (tile m ρ (nb (15 - i) c))) 15 0 (fun j _ _ => by rw [show 15 + 1 - (j + 1) = 15 - j by omega])]
    iexact HVl
  iapply (out_spec m ρ c _) $$ [H9 Hw]
  · isplitl [H9] <;> iassumption
  iintro ⟨H9, Hw⟩
  iapply Hk
  isplitl [Ho]; · iexact Ho
  isplitl [H9]; · iexists _; iexact H9
  isplitl [H10]; · iexact H10
  isplitl [Hw]; · iexact Hw
  isplitl [HD] <;> iassumption

end Cert.MatProof
-- ==== Proof.Whole.lean ====
/- One device's run: what it starts from, what it is promised by the others, and what it leaves. -/
module

public import proofs.«01_k».proof.Proof.Middle

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

theorem seq_has_lent {s : Shape} {e : EltTy} (v : ℕ → Memref sig .tc .vmem s e) (q : PosShare TreeShare) (V : ℕ → s.Idx → Elt F e) (i n : ℕ) :
    seq (fun j => has c (v j) q (V j)) i n ⊢ seq (fun j => lent c (v j) q) i n :=
  seq_mono n i fun j _ _ => has_lent c (v j) q (V j)

/-! ## The buffers, cut and gathered -/

theorem mem_open (f₀ : (b : Ref sig .tc) → b.ty.Contents (Elt F)) :
    iprop(full c cc0_scratch2 fullShare ∗ full c cc0_scratch3 fullShare ∗ full c cc0_scratch4 fullShare ∗ full c cc0_scratch5 fullShare ∗ full c cc0_scratch6 fullShare
        ∗ full c cc0_scratch7 fullShare ∗ full c cc0_scratch8 fullShare ∗ full c cc0_scratch9 fullShare)
      ⊢ iprop(seq (payOf (F := F) (fun _ => c)) 0 15 ∗ (lent c (slX 0) fullShare ∗ lent c (slA 0) fullShare)
        ∗ (lent c (slS 0 0) fullShare ∗ lent c (slS 1 0) fullShare) ∗ (lent c (slS 0 1) fullShare ∗ lent c (slS 1 1) fullShare)) := by
  rw [full_X c f₀, full_R0 c f₀, full_R1 c f₀, full_L0 c f₀, full_L1 c f₀, full_S0 c f₀, full_S1 c f₀, full_A c f₀, payOf_seq,
    show (9 : ℕ) = 8 + 1 from rfl, show (16 : ℕ) = 15 + 1 from rfl, seq_head (fun s => lent (F := F) c (slX s) fullShare), seq_head (fun s => lent (F := F) c (slA s) fullShare),
    show (2 : ℕ) = 1 + 1 from rfl, seq_head (fun s => lent (F := F) c (slS 0 s) fullShare), seq_head (fun s => lent (F := F) c (slS 1 s) fullShare), seq_one, seq_one]
  iintro ⟨⟨HX0, HX⟩, HR0, HR1, HL0, HL1, ⟨HS00, HS01⟩, ⟨HS10, HS11⟩, ⟨HA0, HA⟩⟩
  isplitl [HA HX HR0 HR1 HL0 HL1]
  · isplitl [HA]; · iexact HA
    isplitl [HX]; · iexact HX
    isplitl [HR0 HR1]
    · isplitl [HR0] <;> iassumption
    · isplitl [HL0] <;> iassumption
  isplitl [HX0 HA0]; · isplitl [HX0] <;> iassumption
  isplitl [HS00 HS10]
  · isplitl [HS00] <;> iassumption
  · isplitl [HS01] <;> iassumption

/-- The operands' buffers, from the shares lent to the copies and those kept. -/
theorem close_ops (f₀ : (b : Ref sig .tc) → b.ty.Contents (Elt F)) :
    iprop(keep m ρ c ∗ (lent c (slB (offB (nb 0 c)) (inbB _)) lh ∗ seq (fun i => lent c (slB (offB (nb (i + 1) c)) (inbB _)) lh) 0 8 ∗ seq (fun i => lent c (slB (offB (nb i c)) (inbB _)) lh) 9 7)
        ∗ (lent c (slW 0) lh ∗ lent c (slW 1) lh))
      ⊢ iprop(full c cc0_scratch0 fullShare ∗ full c cc0_scratch1 fullShare) := by
  have hB := full_B c f₀ lh
  rw [show (16 : ℕ) = (8 + 1) + 7 from rfl, seq_add, seq_head (fun i => lent (F := F) c (slB (offB (nb i c)) (inbB _)) lh) 8] at hB
  have hW := Entails.of_eq (full_W c f₀ lh).symm
  rw [show (2 : ℕ) = 1 + 1 from rfl, seq_head (fun s => lent (F := F) c (slW s) lh), seq_one] at hW
  have hx := full_join c cc0_scratch0 (xb m ρ c)
  have hw := full_join c cc0_scratch1 (wb m ρ c)
  unfold keep
  iintro ⟨⟨Hx, Hw⟩, ⟨HB0, HB1, HB2⟩, HW⟩
  isplitl [Hx HB0 HB1 HB2]
  · iapply hx
    isplitr [Hx]
    · iapply hB
      isplitl [HB0 HB1]
      · isplitl [HB0] <;> iassumption
      iexact HB2
    iexact Hx
  · iapply hw
    isplitl [HW]
    · iapply hW; iexact HW
    iexact Hw

/-- A ring buffer's slots, from the shares lent to the copies and those kept; the last was never lent. -/
theorem close_ring (q : ℕ) : iprop(seq (fun s => lent (F := F) c (slR q s) lh) 0 7 ∗ seq (fun s => lent c (slR q s) rh) 0 7 ∗ lent c (slR q 7) fullShare)
    ⊢ seq (fun s => lent c (slR q s) fullShare) 0 8 := by
  rw [show (8 : ℕ) = 7 + 1 from rfl, seq_snoc (fun s => lent (F := F) c (slR q s) fullShare) 0 7]
  have h := seq_mono (Φ := fun s => iprop(lent (F := F) c (slR q s) lh ∗ lent c (slR q s) rh)) (Ψ := fun s => lent c (slR q s) fullShare) 7 0 fun j _ _ => lent_whole c (slR q j)
  rw [seq_sep (fun s => lent (F := F) c (slR q s) lh) (fun s => lent (F := F) c (slR q s) rh)] at h
  iintro ⟨H1, H2, H3⟩
  isplitr [H3]
  · iapply h
    isplitl [H1] <;> iassumption
  iexact H3

/-! ## What a device starts from -/

def ghostPos : sProp 𝕄 := seq (fun k => pos (F := F) c k 0) 0 97
def ghostCred : sProp 𝕄 := iprop(cred (tallyAt (cell c 96) () 15) ∗ (seq (fun s => tok (F := F) c (8 * 0 + s)) 0 8 ∗ seq (fun s => tok c (8 * 1 + s)) 0 8)
  ∗ (seq (fun s => tok c (32 + 7 * 0 + s)) 0 7 ∗ seq (fun s => tok c (32 + 7 * 1 + s)) 0 7) ∗ seq (fun i => tok c (58 + i)) 0 8 ∗ seq (fun i => tok c (81 + i)) 0 15)
/-- The rights to pay its own departures. -/
def ghostOwn : sProp 𝕄 := iprop((seq (fun s => pays (F := F) c (16 + 8 * 0 + s) 0 0) 0 8 ∗ seq (fun s => pays c (16 + 8 * 1 + s) 0 0) 0 8)
  ∗ (seq (fun s => pays c (kLd 0 s) (s / 2) 0) 0 7 ∗ seq (fun s => pays c (kLd 1 s) (s / 2) 0) 0 7) ∗ seq (fun i => pays c (50 + i) 0 0) 0 8 ∗ seq (fun i => pays c (66 + i) 0 0) 0 15)
/-- The rights to pay the others' arrivals. -/
def ghostOut : sProp 𝕄 := iprop(seq (fun i => pays (F := F) (nb (i + 1) c) 96 0 (14 - i)) 0 15
  ∗ (seq (fun s => pays (nb 1 c) (8 * 0 + s) 0 0) 0 8 ∗ seq (fun s => pays (nb 1 c) (8 * 1 + s) 0 0) 0 8)
  ∗ (seq (fun s => pays (nb 15 c) (32 + 7 * 0 + s) 0 0) 0 7 ∗ seq (fun s => pays (nb 15 c) (32 + 7 * 1 + s) 0 0) 0 7)
  ∗ seq (fun i => pays (nb (i + 1) c) (58 + i) 0 0) 0 8 ∗ seq (fun i => pays (nb (i + 1) c) (81 + i) 0 0) 0 15)

/-- What half `q`'s steps need, apart from the blocks of rows. -/
def halfIn (q : ℕ) : sProp 𝕄 :=
  iprop((seq (fun s => pays (F := F) c (kLd q s) (s / 2) 0) 0 7 ∗ seq (fun s => pays (nb 15 c) (32 + 7 * q + s) 0 0) 0 7)
    ∗ (seq (fun s => tok c (32 + 7 * q + s)) 0 7 ∗ seq (fun s => pos c (32 + 7 * q + s) 0) 0 7)
    ∗ (seq (fun s => tok c (8 * q + s)) 0 8 ∗ seq (fun s => pos c (8 * q + s) 0) 0 8)
    ∗ (seq (fun s => pays c (16 + 8 * q + s) 0 0) 0 8 ∗ seq (fun s => pays (nb 1 c) (8 * q + s) 0 0) 0 8)
    ∗ (seq (fun s => lent (nb 1 c) (slR q s) fullShare) 0 8 ∗ seq (fun s => lent (nb 15 c) (slL q s) fullShare) 0 7))

theorem halfIn_split (q : ℕ) : halfIn (F := F) c q
    ⊢ iprop((lent (nb 1 c) (slR q 0) fullShare ∗ pays c (16 + 8 * q + 0) 0 0 ∗ pays (nb 1 c) (8 * q + 0) 0 0)
      ∗ seq (sendIn c q) 0 7 ∗ seq (fwdIn c q) 0 7 ∗ seq (addIn c q) 0 7 ∗ (tok c (8 * q + 7) ∗ pos c (8 * q + 7) 0)) := by
  unfold halfIn sendIn fwdIn addIn
  rw [show (8 : ℕ) = 7 + 1 from rfl]
  rw [seq_snoc (fun s => tok (F := F) c ((7 + 1) * q + s)) 0 7, seq_snoc (fun s => pos (F := F) c ((7 + 1) * q + s) 0) 0 7,
    seq_head (fun s => pays (F := F) c (16 + (7 + 1) * q + s) 0 0) 7, seq_head (fun s => pays (F := F) (nb 1 c) ((7 + 1) * q + s) 0 0) 7,
    seq_head (fun s => lent (F := F) (nb 1 c) (slR q s) fullShare) 7]
  simp only [seq_sep, Nat.zero_add]
  iintro ⟨⟨H1, H2⟩, ⟨H3, H4⟩, ⟨⟨H5, H6⟩, ⟨H7, H8⟩⟩, ⟨⟨H9, H10⟩, ⟨H11, H12⟩⟩, ⟨⟨H13, H14⟩, H15⟩⟩
  isplitl [H13 H9 H11]
  · isplitl [H13]; · iexact H13
    isplitl [H9] <;> iassumption
  isplitl [H15 H1 H2]
  · isplitl [H15]; · iexact H15
    isplitl [H1] <;> iassumption
  isplitl [H5 H7 H14 H10 H12]
  · isplitl [H5 H7]; · isplitl [H5] <;> iassumption
    isplitl [H14]; · iexact H14
    isplitl [H10] <;> iassumption
  isplitl [H3 H4]
  · isplitl [H3] <;> iassumption
  isplitl [H6] <;> iassumption

/-- What half `q`'s steps leave. -/
def halfOut (q : ℕ) : sProp 𝕄 :=
  iprop(seq (fun s => rest (F := F) c (8 * q + s)) 0 7 ∗ seq (fun s => tok c (16 + 8 * q + (s + 1))) 0 7 ∗ seq (fun s => lent c (slR q s) rh) 0 7
    ∗ seq (fun s => rest c (32 + 7 * q + s)) 0 7 ∗ seq (fun s => lent c (slL q s) fullShare) 0 7)

theorem stOut_split : seq (stOut m ρ c) 0 7 ⊢ iprop(halfOut c 0 ∗ halfOut c 1 ∗ seq (fun s => lent c (slX (s + 1)) fullShare) 0 7) := by
  have h0 := seq_has_lent c (slR 0) rh (fun s => wH m ρ (nb (15 - s) c) 0) 0 7
  have h1 := seq_has_lent c (slR 1) rh (fun s => wH m ρ (nb (15 - s) c) 1) 0 7
  have hx := seq_has_lent c (fun s => slX (s + 1)) fullShare (fun s => xblk m ρ (nb (15 - s) c) c) 0 7
  unfold stOut fwdOut addOut xin halfOut
  simp only [seq_sep]
  iintro ⟨⟨⟨⟨A1, A2⟩, A3⟩, ⟨⟨B1, B2⟩, B3⟩⟩, ⟨⟨A4, A5⟩, ⟨B4, B5⟩⟩, HX⟩
  isplitl [A1 A2 A3 A4 A5]
  · isplitl [A1]; · iexact A1
    isplitl [A2]; · iexact A2
    isplitl [A3]; · iapply h0; iexact A3
    isplitl [A4] <;> iassumption
  isplitl [B1 B2 B3 B4 B5]
  · isplitl [B1]; · iexact B1
    isplitl [B2]; · iexact B2
    isplitl [B3]; · iapply h1; iexact B3
    isplitl [B4] <;> iassumption
  iapply hx; iexact HX

end Cert.MatProof
-- ==== Proof.Run.lean ====
/- One device's run, whole. -/
module

public import proofs.«01_k».proof.Proof.Whole

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ) (c : Dev nD)

/-- The operands' blocks and halves, set out for the copies. -/
theorem ops_open : iprop(at_ c cc0_scratch0 (xb m ρ c) ∗ at_ c cc0_scratch1 (wb m ρ c))
    ⊢ iprop(keep m ρ c ∗ (lent c (slB (offB (nb 0 c)) (inbB _)) lh ∗ seq (fun i => lent c (slB (offB (nb i c)) (inbB _)) lh) 9 7)
      ∗ seq (fun i => has c (slB (offB (nb (i + 1) c)) (inbB _)) lh (xblk m ρ c (nb (i + 1) c))) 0 8
      ∗ (has c (srcR 0 0) lh (wH m ρ (nb (16 - 0) c) 0) ∗ has c (srcR 1 0) lh (wH m ρ (nb (16 - 0) c) 1))) := by
  have hc := cut_staged m ρ c
  rw [show (16 : ℕ) = (8 + 1) + 7 from rfl, seq_add, seq_head (fun i => has c (slB (offB (nb i c)) (inbB _)) lh (xblk m ρ c (nb i c))) 8,
    show (2 : ℕ) = 1 + 1 from rfl, seq_head (fun i => has c (slW i) lh (wH m ρ c i)), seq_one] at hc
  have h2 := seq_has_lent c (fun i => slB (offB (nb i c)) (inbB _)) lh (fun i => xblk m ρ c (nb i c)) 9 7
  rw [show nb (16 - 0) c = c from nb_full c]
  refine hc.trans ?_
  iintro ⟨Hk, ⟨⟨H0, H1⟩, H2⟩, Hw0, Hw1⟩
  isplitl [Hk]; · iexact Hk
  isplitl [H0 H2]
  · isplitl [H0]
    · iapply (has_lent c (slB (offB (nb 0 c)) (inbB _)) lh (xblk m ρ c (nb 0 c))); iexact H0
    · iapply h2; iexact H2
  isplitl [H1]; · iexact H1
  isplitl [Hw0]
  · iexact Hw0
  · iexact Hw1

/-- The kernel's own buffers, at whatever they hold. -/
def scr : sProp 𝕄 :=
  iprop(full (F := F) c cc0_scratch0 fullShare ∗ full c cc0_scratch1 fullShare ∗ full c cc0_scratch2 fullShare ∗ full c cc0_scratch3 fullShare ∗ full c cc0_scratch4 fullShare
    ∗ full c cc0_scratch5 fullShare ∗ full c cc0_scratch6 fullShare ∗ full c cc0_scratch7 fullShare ∗ full c cc0_scratch8 fullShare ∗ full c cc0_scratch9 fullShare
    ∗ full c cc0_scratch10 fullShare)

/-- The slots of the incoming blocks, the ring's, and the partial sums', gathered. -/
theorem mem_close (f₀ : (b : Ref sig .tc) → b.ty.Contents (Elt F)) :
    iprop((lent (F := F) c (slX 0) fullShare ∗ seq (fun s => lent c (slX (s + 1)) fullShare) 0 8)
        ∗ (seq (fun s => lent c (slR 0 s) fullShare) 0 8 ∗ seq (fun s => lent c (slR 1 s) fullShare) 0 8)
        ∗ (seq (fun s => lent c (slL 0 s) fullShare) 0 7 ∗ seq (fun s => lent c (slL 1 s) fullShare) 0 7)
        ∗ ((lent c (slS 0 6) fullShare ∗ lent c (slS 0 5) fullShare) ∗ (lent c (slS 1 6) fullShare ∗ lent c (slS 1 5) fullShare)))
      ⊢ iprop(full c cc0_scratch2 fullShare ∗ full c cc0_scratch3 fullShare ∗ full c cc0_scratch4 fullShare ∗ full c cc0_scratch5 fullShare ∗ full c cc0_scratch6 fullShare
        ∗ full c cc0_scratch7 fullShare ∗ full c cc0_scratch8 fullShare) := by
  rw [full_X c f₀, full_R0 c f₀, full_R1 c f₀, full_L0 c f₀, full_L1 c f₀, full_S0 c f₀, full_S1 c f₀,
    show (9 : ℕ) = 8 + 1 from rfl, seq_head (fun s => lent (F := F) c (slX s) fullShare),
    show (2 : ℕ) = 1 + 1 from rfl, seq_head (fun s => lent (F := F) c (slS 0 s) fullShare), seq_head (fun s => lent (F := F) c (slS 1 s) fullShare), seq_one, seq_one]
  rw [← slS_mod 0 6, ← slS_mod 0 5, ← slS_mod 1 6, ← slS_mod 1 5]
  iintro ⟨HX, ⟨HR0, HR1⟩, ⟨HL0, HL1⟩, HS0, HS1⟩
  isplitl [HX]; · iexact HX
  isplitl [HR0]; · iexact HR0
  isplitl [HR1]; · iexact HR1
  isplitl [HL0]; · iexact HL0
  isplitl [HL1]; · iexact HL1
  isplitl [HS0]
  · iexact HS0
  · iexact HS1

/-- The blocks received, of which the last goes to the last step. -/
theorem xins : seq (fun i => iprop(rest c (58 + i) ∗ xin m ρ c i)) 0 8 = iprop(seq (fun i => rest c (58 + i)) 0 8 ∗ seq (xin m ρ c) 0 7 ∗ xin m ρ c 7) := by
  rw [seq_sep (fun i => rest c (58 + i)) (xin m ρ c), show (8 : ℕ) = 7 + 1 from rfl, seq_snoc (xin m ρ c) 0 7]

theorem src_head (q : ℕ) : seq (fun s => lent (F := F) c (srcR q s) lh) 0 8 ⊢ iprop(lent c (slW q) lh ∗ seq (fun s => lent c (slR q s) lh) 0 7) :=
  Entails.of_eq (seq_head (fun s => lent (F := F) c (srcR q s) lh) 7)

theorem pos_four : seq (fun s => pos (F := F) c (46 + s) 0) 0 4 ⊢ iprop(pos c 46 0 ∗ pos c 47 0 ∗ pos c 48 0 ∗ pos c 49 0) := by
  show iprop(pos (F := F) c 46 0 ∗ pos c 47 0 ∗ pos c 48 0 ∗ pos c 49 0 ∗ emp) ⊢ _
  rw [emp_right]

theorem xin_lent (s : ℕ) : xin m ρ c s ⊢ lent c (slX (s + 1)) fullShare := has_lent c (slX (s + 1)) fullShare (xblk m ρ (nb (15 - s) c) c)

theorem wp_device {α : Type} (k : Dev nD → KProg F α) (Φ : α → sProp 𝕄) : run c (k c) Φ ⊢ run c (do let d ← Prog.lift .deviceId; k d) Φ := by
  unfold run
  rw [wp_bind]
  unfold Prog.lift
  simp only [wp_deviceId, wp_ret]
  iintro H
  imodintro
  iexact H

set_option maxRecDepth 4000 in
theorem body_run (Φ : PUnit → sProp 𝕄) :
    iprop(ctx m ρ K ∗ (ghostPos c ∗ ghostCred c ∗ ghostOwn c ∗ ghostOut c) ∗ owesL c (oweAll c)
        ∗ (at_ c cc0_stg0_0 (xstg m ρ c) ∗ at_ c cc0_stg1_0 (wstg m ρ c) ∗ full c cc0_stg2_0 fullShare) ∗ scr c)
      ⊢ iprop(((owesL c [] ∗ (at_ c cc0_stg0_0 (xstg m ρ c) ∗ at_ c cc0_stg1_0 (wstg m ρ c) ∗ at_ c cc0_stg2_0 (outAt m ρ c)) ∗ scr c ∗ seq (fun k => rest c k) 0 97) -∗ Φ ⟨⟩)
        -∗ run c (body (Memref.whole cc0_stg0_0) (Memref.whole cc0_stg1_0) (Memref.whole cc0_stg2_0)) Φ) := by
  have hopen := mem_open (F := F) c (fun b => m ((c : Thread nD τ).loc b))
  have hops := ops_open m ρ c
  have hcl := mem_close (F := F) c (fun b => m ((c : Thread nD τ).loc b))
  have hco := close_ops m ρ c (fun b => m ((c : Thread nD τ).loc b))
  have hr0 := close_ring (F := F) c 0
  have hr1 := close_ring (F := F) c 1
  have hpos : ghostPos (F := F) c = _ := cells (fun k => pos (F := F) c k 0)
  rw [hpos, cells (fun k => rest (F := F) c k)]
  unfold ghostCred ghostOwn ghostOut scr
  iintro ⟨#HC, ⟨⟨P1, P2, P3, P4, P5, P6, P7, P8, P9, P10, P11, P12⟩, ⟨C0, ⟨C1, C2⟩, ⟨C3, C4⟩, C5, C6⟩, ⟨⟨W1, W2⟩, ⟨W3, W4⟩, W5, W6⟩,
    ⟨O0, ⟨O1, O2⟩, ⟨O3, O4⟩, O5, O6⟩⟩, Ho, ⟨Hx, Hw, Hout⟩, M0, M1, M2, M3, M4, M5, M6, M7, M8, M9, M10⟩ Hk
  unfold body
  iapply (wp_device c _ _)
  ihave Hm := hopen $$ [M2 M3 M4 M5 M6 M7 M8 M9]
  · isplitl [M2]; · iexact M2
    isplitl [M3]; · iexact M3
    isplitl [M4]; · iexact M4
    isplitl [M5]; · iexact M5
    isplitl [M6]; · iexact M6
    isplitl [M7]; · iexact M7
    isplitl [M8] <;> iassumption
  icases Hm with ⟨Hpay, ⟨HX0, HA0⟩, HS0, HS1⟩
  iapply (open_spec m ρ K c _ _) $$ [Ho O0 C0 P12 Hpay Hx Hw M0 M1]
  · isplitr; · iexact HC
    isplitl [Ho]; · iexact Ho
    isplitl [O0 C0 P12]
    · isplitl [O0]; · iexact O0
      isplitl [C0] <;> iassumption
    isplitl [Hpay]; · iexact Hpay
    isplitl [Hx]; · iexact Hx
    isplitl [Hw]; · iexact Hw
    isplitl [M0] <;> iassumption
  rw [barPay_eq, payOf_seq]
  iintro ⟨Ho, R96, ⟨HA, HX, ⟨HR0, HR1⟩, ⟨HL0, HL1⟩⟩, Hx, Hw, Hops⟩
  ihave Hops2 := hops $$ Hops
  icases Hops2 with ⟨Hkp, ⟨HB0, HB9⟩, HB, HW0, HW1⟩
  ihave Hh0 := (halfIn_split (F := F) c 0) $$ [W3 O3 C3 P5 C1 P1 W1 O1 HR0 HL0]
  · unfold halfIn
    isplitl [W3 O3]; · isplitl [W3] <;> iassumption
    isplitl [C3 P5]; · isplitl [C3] <;> iassumption
    isplitl [C1 P1]; · isplitl [C1] <;> iassumption
    isplitl [W1 O1]; · isplitl [W1] <;> iassumption
    isplitl [HR0]
    · iexact HR0
    · iexact HL0
  icases Hh0 with ⟨HR0, Hsi0, Hfi0, Hai0, Hla0⟩
  ihave Hh1 := (halfIn_split (F := F) c 1) $$ [W4 O4 C4 P6 C2 P2 W2 O2 HR1 HL1]
  · unfold halfIn
    isplitl [W4 O4]; · isplitl [W4] <;> iassumption
    isplitl [C4 P6]; · isplitl [C4] <;> iassumption
    isplitl [C2 P2]; · isplitl [C2] <;> iassumption
    isplitl [W2 O2]; · isplitl [W2] <;> iassumption
    isplitl [HR1]
    · iexact HR1
    · iexact HL1
  icases Hh1 with ⟨HR1, Hsi1, Hfi1, Hai1, Hla1⟩
  iapply (first_copies m ρ K c _ _) $$ [Ho Hkp HB HX W5 O5 C5 P9 HS0 HW0 HR0 HW1 HR1]
  · isplitr; · iexact HC
    isplitl [Ho]; · iexact Ho
    isplitl [Hkp]; · iexact Hkp
    isplitl [HB HX W5 O5]
    · unfold sendXIn
      simp only [seq_sep]
      isplitl [HB]; · iexact HB
      isplitl [HX]; · iexact HX
      isplitl [W5] <;> iassumption
    isplitl [C5 P9]
    · simp only [seq_sep]
      isplitl [C5] <;> iassumption
    isplitl [HS0]; · iexact HS0
    unfold sendRIn
    isplitl [HW0 HR0]
    · isplitl [HW0] <;> iassumption
    · isplitl [HW1] <;> iassumption
  rw [xins]
  iintro ⟨Ho, Hkp, HTX, ⟨R58, Hxi, Hxi7⟩, HS0, ⟨HTR0, HTR1⟩⟩
  iapply (steps_spec m ρ K c _ _) $$ [Ho Hkp HS0 HS1 P7 Hsi0 Hsi1 Hfi0 Hfi1 Hai0 Hai1 Hla0 Hla1 Hxi Hxi7]
  · isplitr; · iexact HC
    isplitl [Hkp]; · iexact Hkp
    isplitl [Ho]; · iexact Ho
    isplitl [HS0]; · iexact HS0
    isplitl [P7]
    · ihave P7' := (pos_four (F := F) c) $$ P7
      icases P7' with ⟨Q0, Q1, Q2, Q3⟩
      isplitl [Q0 Q1]
      · isplitl [Q0]
        · iexact Q0
        · iexact Q1
      · isplitl [Q2]
        · iexact Q2
        · iexact Q3
    isplitl [HS1]; · iexact HS1
    isplitl [Hsi0 Hsi1 Hfi0 Hfi1 Hai0 Hai1 Hxi]
    · unfold stIn
      simp only [seq_sep]
      isplitl [Hsi0 Hsi1]; · isplitl [Hsi0] <;> iassumption
      isplitl [Hfi0 Hfi1]; · isplitl [Hfi0] <;> iassumption
      isplitl [Hai0 Hai1]; · isplitl [Hai0] <;> iassumption
      iexact Hxi
    unfold lastIn
    isplitl [Hla0 Hla1]
    · isplitl [Hla0]
      · iexact Hla0
      · iexact Hla1
    iexact Hxi7
  iintro ⟨Hkp, Ho, Hg5, Hg6, Hso, Hlo⟩
  ihave Hso2 := (stOut_split m ρ c) $$ Hso
  unfold halfOut lastOut
  icases Hso2 with ⟨⟨R1, T0, Y0, R5, L0⟩, ⟨R2, T1, Y1, R6, L1⟩, HXl⟩
  icases Hlo with ⟨⟨⟨R1l, R2l⟩, ⟨Z0, Z1⟩⟩, Hxi7⟩
  iapply (maxima_spec m ρ K c _ _) $$ [Ho M10 HA0 HA W6 O6]
  · isplitr; · iexact HC
    isplitl [Ho]; · iexact Ho
    isplitl [M10 HA0]; · isplitl [M10] <;> iassumption
    unfold sendAIn
    simp only [seq_sep]
    isplitl [HA]; · iexact HA
    isplitl [W6] <;> iassumption
  iintro ⟨Ho, HMd, HA0, HTA⟩
  iapply (departures_spec m ρ K c _ _) $$ [Ho HTX P8 HTR0 T0 P3 HTR1 T1 P4 Hg5 Hg6]
  · isplitr; · iexact HC
    isplitl [Ho]; · iexact Ho
    simp only [seq_sep]
    isplitl [HTX P8]; · isplitl [HTX] <;> iassumption
    isplitl [HTR0 T0 P3 HTR1 T1 P4]
    · rw [show (8 : ℕ) = 7 + 1 from rfl, seq_head (fun s => tok (F := F) c (16 + (7 + 1) * 0 + s)) 7, seq_head (fun s => tok (F := F) c (16 + (7 + 1) * 1 + s)) 7]
      isplitl [HTR0 T0 P3]
      · isplitr [P3]
        · isplitl [HTR0] <;> iassumption
        iexact P3
      · isplitr [P4]
        · isplitl [HTR1] <;> iassumption
        iexact P4
    isplitl [Hg5] <;> iassumption
  unfold backX backR backL
  simp only [seq_sep]
  iintro ⟨Ho, ⟨R50, HB⟩, ⟨⟨R16, HD0⟩, ⟨R24, HD1⟩⟩, ⟨⟨Ra, Sa⟩, ⟨Rb, Sb⟩⟩, ⟨⟨Rc, Sc⟩, ⟨Rd, Sd⟩⟩⟩
  ihave HD0' := (src_head (F := F) c 0) $$ HD0
  ihave HD1' := (src_head (F := F) c 1) $$ HD1
  icases HD0' with ⟨HW0, HD0⟩
  icases HD1' with ⟨HW1, HD1⟩
  iapply (close_spec m ρ K c _) $$ [Ho HMd HA0 HTA P10 C6 P11 Hout]
  · isplitr; · iexact HC
    isplitl [Ho]; · iexact Ho
    isplitl [HMd]; · iexact HMd
    isplitl [HA0]; · iexact HA0
    simp only [seq_sep]
    isplitl [HTA P10]; · isplitl [HTA] <;> iassumption
    isplitl [C6 P11]; · isplitl [C6] <;> iassumption
    iexact Hout
  iintro ⟨Ho, M9, M10, Hout, R66, R81⟩
  ihave Hm01 := hco $$ [Hkp HB0 HB HB9 HW0 HW1]
  · isplitl [Hkp]; · iexact Hkp
    isplitl [HB0 HB HB9]
    · isplitl [HB0]; · iexact HB0
      isplitl [HB] <;> iassumption
    isplitl [HW0] <;> iassumption
  icases Hm01 with ⟨M0, M1⟩
  ihave HR0 := hr0 $$ [HD0 Y0 Z0]
  · isplitl [HD0]; · iexact HD0
    isplitl [Y0] <;> iassumption
  ihave HR1 := hr1 $$ [HD1 Y1 Z1]
  · isplitl [HD1]; · iexact HD1
    isplitl [Y1] <;> iassumption
  ihave Hm := hcl $$ [HX0 HXl Hxi7 HR0 HR1 L0 L1 Sa Sb Sc Sd]
  · isplitl [HX0 HXl Hxi7]
    · isplitl [HX0]; · iexact HX0
      rw [show (8 : ℕ) = 7 + 1 from rfl, seq_snoc (fun s => lent (F := F) c (slX (s + 1)) fullShare) 0 7]
      isplitl [HXl]; · iexact HXl
      iapply (xin_lent m ρ c 7); iexact Hxi7
    isplitl [HR0 HR1]; · isplitl [HR0] <;> iassumption
    isplitl [L0 L1]; · isplitl [L0] <;> iassumption
    isplitl [Sa Sc]
    · isplitl [Sc] <;> iassumption
    · isplitl [Sd] <;> iassumption
  icases Hm with ⟨M2, M3, M4, M5, M6, M7, M8⟩
  iapply Hk
  isplitl [Ho]; · iexact Ho
  isplitl [Hx Hw Hout]
  · isplitl [Hx]; · iexact Hx
    isplitl [Hw] <;> iassumption
  isplitl [M0 M1 M2 M3 M4 M5 M6 M7 M8 M9 M10]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    isplitl [M9] <;> iassumption
  isplitl [R1 R1l]
  · rw [show seq (fun s => rest (F := F) c (8 * 0 + s)) 0 8 = iprop(seq (fun s => rest c (8 * 0 + s)) 0 7 ∗ rest c 7) from seq_snoc (fun s => rest (F := F) c (8 * 0 + s)) 0 7]
    isplitl [R1] <;> iassumption
  isplitl [R2 R2l]
  · rw [show seq (fun s => rest (F := F) c (8 * 1 + s)) 0 8 = iprop(seq (fun s => rest c (8 * 1 + s)) 0 7 ∗ rest c 15) from seq_snoc (fun s => rest (F := F) c (8 * 1 + s)) 0 7]
    isplitl [R2] <;> iassumption
  isplitl [R16]; · iexact R16
  isplitl [R24]; · iexact R24
  isplitl [R5]; · iexact R5
  isplitl [R6]; · iexact R6
  isplitl [Ra Rb Rc Rd]
  · rw [show seq (fun s => rest (F := F) c (46 + s)) 0 4 = iprop(rest c (kLd 0 6) ∗ rest c (kLd 0 5) ∗ rest c (kLd 1 6) ∗ rest c (kLd 1 5) ∗ emp) from rfl, emp_right]
    isplitl [Rc]; · iexact Rc
    isplitl [Ra]; · iexact Ra
    isplitl [Rd] <;> iassumption
  isplitl [R50]; · iexact R50
  isplitl [R58]; · iexact R58
  isplitl [R66]; · iexact R66
  isplitl [R81] <;> iassumption

end Cert.MatProof
-- ==== Proof.BodyEq.lean ====
/- The printed body is the phases of `Clean`: both unfold to the same sequence of operations. -/
module

public import proofs.«01_k».proof.Proof.Clean

@[expose] public section

noncomputable section

namespace Cert.MatProof

open Cert.KernelIdeal Cert.KernelIdeal.Gen
open Idealize.ShloMosaic
open Idealize.ShloMosaic.TcCoe
open Idealize.SL.Sem

variable {F : FTy → Type} [FloatOps F]

theorem step_congr {α β : Type} {E : Type → Type 1} {p p' : Prog E β} {k k' : β → Prog E α} (he : p = p') (hk : ∀ x, k x = k' x) :
    (p >>= k) = p' >>= k' := by subst he; exact congrArg _ (funext hk)

set_option maxRecDepth 100000 in
set_option maxHeartbeats 0 in
/-- The printed body, at the launch's buffers and semaphores, is `body`. -/
theorem body_eq (a0 : Memref sig .tc .vmem S4096x256 .bf16) (h0 : a0.IsWhole) (a1 : Memref sig .tc .vmem S256x2048 .bf16) (h1 : a1.IsWhole)
    (a2 : Memref sig .tc .vmem S256x2048 .f32) (h2 : a2.IsWhole) :
    cc0_body_skel (F := F) a0 h0 a1 h1 a2 h2 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22
      = body a0 a1 a2 := by
  simp (maxSteps := 100000000) only [cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, bind_assoc, pure_bind]
  simp (maxSteps := 100000000) only [body, rep, opSig, opStage, opBar, opSendX, opOwn, opFirst, opWaitXv, opSendR, step0, stepM, step6, step7, opSendL,
    opNext, opFwd, opAdd, opAddFirst, opAcc, opMax, opSendA, opWaitXd, opWaitRd, opWaitLd, opWaitAd, opWaitAv, opOut, opWaitRv, opWaitLv,
    ldX, ldW, ldXr, ldR, ldL, ldS, stS, bind_assoc, pure_bind]
  repeat refine step_congr rfl fun _ => ?_
  rfl

end Cert.MatProof
-- ==== Proof.Body.lean ====
/- A device's run of the kernel as the pipeline asks for it. -/
module

public import proofs.«01_k».proof.Proof.Run
public import proofs.«01_k».proof.Proof.BodyEq

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device owes as the launch begins. -/
def O₀ (c : Dev nD) : CellTallies nD τ sig Unit := owed (oweAll c)

/-- Every cell's record, and device `c`'s positions and tokens. -/
def ghost (K : Dev nD × Fin 97 → ℕ) (c : Dev nD) : sProp 𝕄 :=
  iprop(recs m ρ K ∗ ghostPos c ∗ ghostOwn c ∗ ghostOut c)

/-- What device `c` starts from: those at some names, the credits it will take and the levels. -/
def start (c : Dev nD) : sProp 𝕄 :=
  iprop((∃ K, ghost m ρ K c) ∗ ghostCred c ∗ levAts L lv)

def Φ₀ (c : Dev nD) : sProp 𝕄 := iprop(start m ρ c ∗ scr c)
def Φ₁ (c : Dev nD) : sProp 𝕄 := iprop(scr (F := F) c ∗ seq (fun k => rest c k) 0 97)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Window 0 fetches its block at the only point, and so does window 1. -/
theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_at (c : Dev nD) (b : Ref sig .tc) (X : Buf (Elt F) ((c : Thread nD τ).loc b)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at_ c b f) := by
  unfold owns; simp only [Memref.view_whole, View.read_whole, View.set_whole]

/-- A staging buffer at the contents `X`. -/
abbrev stg (c : Dev nD) (b : Ref sig .tc) (X : Buf (Elt F) ((c : Thread nD τ).loc b)) : sProp 𝕄 :=
  iprop(∃ f : Buf (Elt F) ((c : Thread nD τ).loc b), ⌜f = X⌝ ∗ at_ c b f)

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (outAt m ρ c))

/-- The kernel's run between the two. -/
theorem sound (c : Dev nD) :
    bodyPre m ρ c ⊢ run c (body (Memref.whole cc0_stg0_0) (Memref.whole cc0_stg1_0) (Memref.whole cc0_stg2_0)) (fun _ => bodyPost m ρ c) := by
  unfold bodyPre Φ₀ start ghost
  iintro ⟨⟨⟨⟨%K, Hr, Hp, Ho, Ht⟩, Hc, Hl⟩, Hscr⟩, Howe, ⟨%d0, %g0, %hg0, Hx⟩, ⟨%d1, %g1, %hg1, Hw⟩, ⟨%d2, %g2, -, Hz⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Howe with ⟨%W, %hW, HO⟩
  iapply (body_run m ρ K c fun _ => bodyPost m ρ c) $$ [Hr Hp Ho Ht Hc Hl Hscr HO Hx Hw Hz]
  · isplitl [Hr Hl]
    · unfold ctx; isplitl [Hr] <;> iassumption
    isplitl [Hp Hc Ho Ht]
    · isplitl [Hp]; · iexact Hp
      isplitl [Hc]; · iexact Hc
      isplitl [Ho] <;> iassumption
    isplitl [HO]
    · unfold owesL; iexists W; iexact HO
    isplitl [Hx Hw Hz]
    · isplitl [Hx]; · iexact Hx
      isplitl [Hw]; · iexact Hw
      unfold full; iexists g2; iexact Hz
    iexact Hscr
  iintro ⟨HO, ⟨Hx, Hw, Hz⟩, Hscr, Hrest⟩
  unfold owesL
  icases HO with ⟨%W', HO⟩
  unfold bodyPost Φ₁
  isplitl [Hscr Hrest]
  · isplitl [Hscr] <;> iassumption
  isplitl [HO]
  · unfold Dat.owesAt Pipeline.owesWithin
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hz

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_at]
  show bodyPre m ρ c ⊢ run c (cc0_body_skel _ _ _ _ _ _ _ _ _ _ _ _ _ _ _ _ _ _ _ _ _ _ _ _ _ _ _ _ _ _ _ _ _ _ _ _ _ _ _ _) (fun _ => bodyPost m ρ c)
  rw [body_eq]
  exact sound m ρ c

end Cert.MatProof
-- ==== Proof.Deal.lean ====
/- The cells' records and the rights to pay, dealt to the devices as the launch begins. -/
module

public import proofs.«01_k».proof.Proof.Body

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem csm_inj {a b : ℕ} (ha : a < 97) (hb : b < 97) (h : csm a = csm b) : a = b := by
  rw [← codeOf_csm ha, ← codeOf_csm hb, h]

theorem kcell_injective : Function.Injective kcell := by
  rintro ⟨c, k⟩ ⟨c', k'⟩ h
  have h1 : c = c' := congrArg (fun g : GSem nD τ sig => g.1.1) h
  have h2 : k = k' := Fin.ext (csm_inj k.isLt k'.isLt (congrArg Prod.snd h))
  rw [h1, h2]
def allCells : Finset (GSem nD τ sig) := Finset.univ.map ⟨kcell, kcell_injective⟩

/-! ## Every duty has one token -/

/-- The duties of a device's cells in order: the cell, the round, the number within the round. -/
def tokK (j : ℕ) : ℕ × ℕ × ℕ :=
  if j < 46 then (j, 0, 0)
  else if j < 60 then (46 + 2 * ((j - 46) / 7) + (j - 46) % 7 % 2, (j - 46) % 7 / 2, 0)
  else if j < 106 then (j - 10, 0, 0)
  else (96, 0, j - 106)

theorem tokK_lt (j : Fin 121) : (tokK j.val).1 < 97 := by revert j; decide +kernel
theorem tokK_inj (i j : Fin 121) (h : tokK i.val = tokK j.val) : i = j := by revert i j; decide +kernel

abbrev tokOf (x : Dev nD × Fin 121) : GSem nD τ sig × ℕ × ℕ := (cell x.1 (tokK x.2.val).1, (tokK x.2.val).2)
theorem tokOf_injective : Function.Injective tokOf := by
  rintro ⟨c, j⟩ ⟨c', j'⟩ h
  have h1 : c = c' := congrArg (fun x : GSem nD τ sig × ℕ × ℕ => x.1.1.1) h
  have h2 : (tokK j.val).1 = (tokK j'.val).1 := csm_inj (tokK_lt j) (tokK_lt j') (congrArg (fun x : GSem nD τ sig × ℕ × ℕ => x.1.2) h)
  have h3 : (tokK j.val).2 = (tokK j'.val).2 := congrArg (fun x : GSem nD τ sig × ℕ × ℕ => x.2) h
  have h4 : j = j' := tokK_inj j j' (Prod.ext h2 h3)
  rw [h1, h4]
def allToks : Finset (GSem nD τ sig × ℕ × ℕ) := Finset.univ.map ⟨tokOf, tokOf_injective⟩

def u₀ : UU := (initOf (Pipeline.cells cfgs cellOf_inj) (Pipeline.launchToks cfgs cellOf_inj), initOf allCells allToks)

def payTok (c : Dev nD) (j : ℕ) : sProp 𝕄 := pays c (tokK j).1 (tokK j).2.1 (tokK j).2.2

theorem payTok_low (c : Dev nD) {j : ℕ} (h : j < 46) : payTok (F := F) c j = pays c j 0 0 := by unfold payTok tokK; rw [if_pos h]
theorem payTok_ld (c : Dev nD) {q s : ℕ} (hq : q < 2) (hs : s < 7) : payTok (F := F) c (46 + 7 * q + s) = pays c (kLd q s) (s / 2) 0 := by
  unfold payTok tokK
  rw [if_neg (by omega), if_pos (by omega), show (46 + 7 * q + s - 46) / 7 = q by omega, show (46 + 7 * q + s - 46) % 7 = s by omega]
theorem payTok_high (c : Dev nD) {j : ℕ} (h1 : 50 ≤ j) (h2 : j < 96) : payTok (F := F) c (10 + j) = pays c j 0 0 := by
  unfold payTok tokK
  rw [if_neg (by omega), if_neg (by omega), if_pos (by omega), show 10 + j - 10 = j by omega]
theorem payTok_bar (c : Dev nD) (j : ℕ) : payTok (F := F) c (106 + j) = pays c 96 0 j := by
  unfold payTok tokK
  rw [if_neg (by omega), if_neg (by omega), if_neg (by omega), show 106 + j - 106 = j by omega]

/-- The tokens of a device's own cells, family by family. -/
def toks (c : Dev nD) : sProp 𝕄 :=
  iprop((seq (fun s => pays (F := F) c (8 * 0 + s) 0 0) 0 8 ∗ seq (fun s => pays c (8 * 1 + s) 0 0) 0 8)
    ∗ (seq (fun s => pays c (16 + 8 * 0 + s) 0 0) 0 8 ∗ seq (fun s => pays c (16 + 8 * 1 + s) 0 0) 0 8)
    ∗ (seq (fun s => pays c (32 + 7 * 0 + s) 0 0) 0 7 ∗ seq (fun s => pays c (32 + 7 * 1 + s) 0 0) 0 7)
    ∗ (seq (fun s => pays c (kLd 0 s) (s / 2) 0) 0 7 ∗ seq (fun s => pays c (kLd 1 s) (s / 2) 0) 0 7)
    ∗ seq (fun i => pays c (50 + i) 0 0) 0 8 ∗ seq (fun i => pays c (58 + i) 0 0) 0 8
    ∗ seq (fun i => pays c (66 + i) 0 0) 0 15 ∗ seq (fun i => pays c (81 + i) 0 0) 0 15
    ∗ seq (fun j => pays c 96 0 j) 0 15)

theorem seq_part (Φ Ψ : ℕ → sProp 𝕄) (a n : ℕ) (h : ∀ s, s < n → Φ (a + s) = Ψ s) : seq Φ a n = seq Ψ 0 n := by
  rw [seq_at]; exact seq_congr n 0 fun j _ hj => h j (by omega)

theorem toks_split (c : Dev nD) : seq (payTok (F := F) c) 0 121 ⊢ toks c := by
  rw [show 121 = 8 + (8 + (8 + (8 + (7 + (7 + (7 + (7 + (8 + (8 + (15 + (15 + 15))))))))))) from rfl]
  simp only [seq_add]
  unfold toks
  rw [seq_part (payTok (F := F) c) (fun s => pays c (8 * 0 + s) 0 0) 0 8 (fun s hs => by rw [show 0 + s = 8 * 0 + s by omega]; exact payTok_low c (by omega)),
    seq_part (payTok (F := F) c) (fun s => pays c (8 * 1 + s) 0 0) (0 + 8) 8 (fun s hs => payTok_low c (by omega)),
    seq_part (payTok (F := F) c) (fun s => pays c (16 + 8 * 0 + s) 0 0) (0 + 8 + 8) 8 (fun s hs => payTok_low c (by omega)),
    seq_part (payTok (F := F) c) (fun s => pays c (16 + 8 * 1 + s) 0 0) (0 + 8 + 8 + 8) 8 (fun s hs => payTok_low c (by omega)),
    seq_part (payTok (F := F) c) (fun s => pays c (32 + 7 * 0 + s) 0 0) (0 + 8 + 8 + 8 + 8) 7 (fun s hs => payTok_low c (by omega)),
    seq_part (payTok (F := F) c) (fun s => pays c (32 + 7 * 1 + s) 0 0) (0 + 8 + 8 + 8 + 8 + 7) 7 (fun s hs => payTok_low c (by omega)),
    seq_part (payTok (F := F) c) (fun s => pays c (kLd 0 s) (s / 2) 0) (0 + 8 + 8 + 8 + 8 + 7 + 7) 7 (fun s hs => payTok_ld c (q := 0) (by omega) hs),
    seq_part (payTok (F := F) c) (fun s => pays c (kLd 1 s) (s / 2) 0) (0 + 8 + 8 + 8 + 8 + 7 + 7 + 7) 7 (fun s hs => payTok_ld c (q := 1) (by omega) hs),
    seq_part (payTok (F := F) c) (fun i => pays c (50 + i) 0 0) (0 + 8 + 8 + 8 + 8 + 7 + 7 + 7 + 7) 8
      (fun s hs => by rw [show 0 + 8 + 8 + 8 + 8 + 7 + 7 + 7 + 7 + s = 10 + (50 + s) by omega]; exact payTok_high c (by omega) (by omega)),
    seq_part (payTok (F := F) c) (fun i => pays c (58 + i) 0 0) (0 + 8 + 8 + 8 + 8 + 7 + 7 + 7 + 7 + 8) 8
      (fun s hs => by rw [show 0 + 8 + 8 + 8 + 8 + 7 + 7 + 7 + 7 + 8 + s = 10 + (58 + s) by omega]; exact payTok_high c (by omega) (by omega)),
    seq_part (payTok (F := F) c) (fun i => pays c (66 + i) 0 0) (0 + 8 + 8 + 8 + 8 + 7 + 7 + 7 + 7 + 8 + 8) 15
      (fun s hs => by rw [show 0 + 8 + 8 + 8 + 8 + 7 + 7 + 7 + 7 + 8 + 8 + s = 10 + (66 + s) by omega]; exact payTok_high c (by omega) (by omega)),
    seq_part (payTok (F := F) c) (fun i => pays c (81 + i) 0 0) (0 + 8 + 8 + 8 + 8 + 7 + 7 + 7 + 7 + 8 + 8 + 15) 15
      (fun s hs => by rw [show 0 + 8 + 8 + 8 + 8 + 7 + 7 + 7 + 7 + 8 + 8 + 15 + s = 10 + (81 + s) by omega]; exact payTok_high c (by omega) (by omega)),
    seq_part (payTok (F := F) c) (fun j => pays c 96 0 j) (0 + 8 + 8 + 8 + 8 + 7 + 7 + 7 + 7 + 8 + 8 + 15 + 15) 15 (fun s _ => payTok_bar c s)]
  iintro ⟨H1, H2, H3, H4, H5, H6, H7, H8, H⟩
  isplitl [H1 H2]; · isplitl [H1] <;> iassumption
  isplitl [H3 H4]; · isplitl [H3] <;> iassumption
  isplitl [H5 H6]; · isplitl [H5] <;> iassumption
  isplitl [H7 H8]; · isplitl [H7] <;> iassumption
  iexact H

/-! ## The tokens go to the payers -/

theorem seq_dev (Φ : Dev nD → ℕ → sProp 𝕄) (n : ℕ) : ∀ i,
    bigSep Finset.univ (fun c => seq (Φ c) i n) = seq (fun j => bigSep Finset.univ fun c => Φ c j) i n := by
  induction n with
  | zero => intro i; exact BI.bigSep_emp_const Finset.univ
  | succ n ih =>
    intro i
    show bigSep Finset.univ (fun c => iprop(Φ c i ∗ seq (Φ c) (i + 1) n)) = _
    rw [bigSep_sep', ih (i + 1)]; rfl

/-- A family over all devices, each member taken `o j` places ahead. -/
theorem around (o : ℕ → ℕ) (Φ : Dev nD → ℕ → sProp 𝕄) (n : ℕ) :
    bigSep Finset.univ (fun c => seq (fun j => Φ c j) 0 n) = bigSep Finset.univ (fun c => seq (fun j => Φ (nb (o j) c) j) 0 n) := by
  rw [seq_dev, seq_dev (fun c j => Φ (nb (o j) c) j)]
  exact seq_congr n 0 fun j _ _ => bigSep_univ_equiv (nbE (o j)) fun c => Φ c j

theorem toks_around : (bigSep Finset.univ fun c : Dev nD => toks (F := F) c) ⊢ bigSep Finset.univ fun c : Dev nD => iprop(ghostOwn (F := F) c ∗ ghostOut c) := by
  unfold toks ghostOwn ghostOut
  simp only [bigSep_sep']
  rw [around (fun _ => 1) (fun c s => pays (F := F) c (8 * 0 + s) 0 0), around (fun _ => 1) (fun c s => pays (F := F) c (8 * 1 + s) 0 0),
    around (fun _ => 15) (fun c s => pays (F := F) c (32 + 7 * 0 + s) 0 0), around (fun _ => 15) (fun c s => pays (F := F) c (32 + 7 * 1 + s) 0 0),
    around (fun i => i + 1) (fun c i => pays (F := F) c (58 + i) 0 0), around (fun i => i + 1) (fun c i => pays (F := F) c (81 + i) 0 0),
    bigSep_congr (s := Finset.univ) (fun (c : Dev nD) _ => seq_rev (fun j => pays (F := F) c 96 0 j) 15),
    around (fun i => i + 1) (fun c i => pays (F := F) c 96 0 (15 - 1 - i))]
  iintro ⟨⟨A1, A2⟩, ⟨B1, B2⟩, ⟨C1, C2⟩, ⟨D1, D2⟩, E1, E2, F1, F2, G1⟩
  isplitl [B1 B2 D1 D2 E1 F1]
  · isplitl [B1 B2]; · isplitl [B1] <;> iassumption
    isplitl [D1 D2]; · isplitl [D1] <;> iassumption
    isplitl [E1] <;> iassumption
  isplitl [G1]; · iexact G1
  isplitl [A1 A2]; · isplitl [A1] <;> iassumption
  isplitl [C1 C2]; · isplitl [C1] <;> iassumption
  isplitl [E2] <;> iassumption

/-! ## Dealing -/

/-- What the launch deals device `c`, -/
def G (c : Dev nD) : sProp 𝕄 :=
  iprop((bigSep Finset.univ fun k : Fin 97 => roundState ER (Sch m ρ) (kcell (c, k)) 0)
    ∗ (bigSep Finset.univ fun k : Fin 97 => iprop(atPos ER (kcell (c, k)) 0 ∅ 0 ∗ reached ER (kcell (c, k)) 0)) ∗ toks c)
/-- and what it holds once every record stands. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 97 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => (Entails.of_eq (seq_univ (payTok (F := F) c) 121)).trans (toks_split c)
  iintro HX
  imod (Rounds.fund ER (Sch m ρ) allCells allToks) $$ HX with ⟨Hst, Hr, Hat, Htok⟩
  imodintro
  ihave Hst' := (Entails.of_eq (hX fun g => roundState ER (Sch m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores -/

/-- The kernel's own semaphores: every cell but the barrier's. -/
def osem (k : Fin 96) : SemLoc sig := csm k.val

theorem ownSemFacts : Pipeline.OwnSemFacts cfg0.spec osem where
  isScoped := by decide +kernel
  inj a b h := Fin.ext (csm_inj (by have := a.isLt; omega) (by have := b.isLt; omega) h)
  disj := by decide +kernel

theorem ownSems_eq (c : Dev nD) : (Pipeline.ownSems0 (Ix := Unit) (Name := ℕ) (U := UU) (Lvl := ℕ) (Val := Elt F) (τ := τ) osem c : sProp 𝕄)
    = seq (fun k => rest c k) 0 96 := by
  rw [← seq_univ]; rfl
theorem barSems_eq (c : Dev nD) : (unscopedSems0 c : sProp 𝕄) = rest (F := F) c 96 := by
  unfold unscopedSems0; rw [bigSep_eq_bigSepL_of_eq [SemLoc.reg barS] (by decide +kernel) (by decide +kernel)]; rfl
theorem sems_eq (c : Dev nD) :
    iprop(Pipeline.ownSems0 (Ix := Unit) (Name := ℕ) (U := UU) (Lvl := ℕ) (Val := Elt F) (τ := τ) osem c ∗ unscopedSems0 c)
      = seq (fun k => rest (F := F) c k) 0 97 := by
  rw [ownSems_eq, barSems_eq, seq_snoc (fun k => rest (F := F) c k) 0 96, Nat.zero_add]

/-! ## The records -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Sch m ρ) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ bigSep Finset.univ fun k : Fin 97 => (semVal (kcell (c, k)) 0 : sProp 𝕄) := by
    rw [sems_eq, ← seq_univ]; exact .rfl
  have hi : iprop((bigSep Finset.univ fun k : Fin 97 => semVal (kcell (c, k)) 0) ∗ bigSep Finset.univ fun k : Fin 97 => roundState ER (Sch m ρ) (kcell (c, k)) 0)
      ⊢ (|={Set.univ}=> bigSep Finset.univ fun k => iprop(∃ κ : ℕ, cellInv ER (Sch m ρ) κ (kcell (c, k))) : sProp 𝕄) := by
    rw [← bigSep_sep']
    exact (bigSep_mono fun k _ => (Rounds.body_intro ER (Sch m ρ) (kcell (c, k))).trans inv_alloc).trans (bigSep_fupd _ _)
  unfold G
  iintro ⟨Hos, Hus, Hst, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hat] <;> iassumption

/-- A persistent fact goes along with every member. -/
theorem bigSep_along {I : Type} [DecidableEq I] {S : Finset I} {R : sProp 𝕄} [BI.Persistent R] {Φ Ψ : I → sProp 𝕄}
    (h : ∀ i ∈ S, (iprop(R ∗ Φ i) ⊢ Ψ i)) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Sch m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hc (c : Dev nD) : iprop((bigSep Finset.univ fun k : Fin 97 => (atPos ER (kcell (c, k)) 0 ∅ 0 : sProp 𝕄)) ∗ (ghostOwn (F := F) c ∗ ghostOut c))
      ⊢ iprop(ghostPos c ∗ ghostOwn (F := F) c ∗ ghostOut c) := by
    unfold ghostPos; rw [← seq_univ]; exact .rfl
  have hp : iprop((bigSep Finset.univ fun c : Dev nD => bigSep Finset.univ fun k : Fin 97 => (atPos ER (kcell (c, k)) 0 ∅ 0 : sProp 𝕄))
      ∗ bigSep Finset.univ fun c : Dev nD => iprop(ghostOwn (F := F) c ∗ ghostOut c))
      ⊢ bigSep Finset.univ fun c : Dev nD => iprop(ghostPos c ∗ ghostOwn (F := F) c ∗ ghostOut c) := by
    rw [← bigSep_sep']
    exact bigSep_mono fun c _ => hc c
  have hk (K : Dev nD × Fin 97 → ℕ) (c : Dev nD) : iprop(recs m ρ K ∗ (ghostPos c ∗ ghostOwn (F := F) c ∗ ghostOut c)) ⊢ G' m ρ c := by
    unfold G' ghost; iintro H; iexists K; iexact H
  rw [bigSep_sep', bigSep_sep', ← bigSep_univ_prod (fun ck : Dev nD × Fin 97 => iprop(∃ κ : ℕ, cellInv ER (Sch m ρ) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄))]
  iintro ⟨HI, ⟨Hat, HR⟩, Htok⟩
  ihave HK := (BI.bigSep_exists_pi Finset.univ (fun (ck : Dev nD × Fin 97) (κ : ℕ) => (cellInv ER (Sch m ρ) κ (kcell ck) : sProp 𝕄))) $$ HI
  icases HK with ⟨%K, HI⟩
  ihave Htk := (toks_around (F := F)) $$ Htok
  iapply (bigSep_along (R := recs m ρ K) fun c _ => hk K c)
  isplitl [HI HR]
  · unfold recs; rw [bigSep_sep']; isplitl [HI] <;> iassumption
  iapply hp
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.MatProof
-- ==== Proof.Launch.lean ====
/- The credits the devices start with, and the launch of the kernel on every device. -/
module

public import proofs.«01_k».proof.Proof.Deal
public import Idealize.ShloMosaic.Lib.Pipeline.CollectiveSegs

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Credits -/

/-- What any device owes: how many places ahead, and which cell. -/
def dues : List (ℕ × ℕ) :=
  (List.range 15).map (fun i => (i + 1, 96)) ++ (List.range 8).map (fun i => (i + 1, 58 + i))
    ++ [(1, 0), (1, 8)] ++ (List.range 7).flatMap (fun s => [(15, 32 + s), (15, 39 + s), (1, 1 + s), (1, 9 + s)])
    ++ (List.range 15).map (fun i => (i + 1, 81 + i))

theorem dues_eq (d : Dev nD) : oweAll d = dues.map fun p => (nb p.1 d, p.2) := rfl
theorem dues_lt : ∀ p ∈ dues, p.2 < 97 := by decide

/-- How many of a list's credits are for cell `k`. -/
def cnt (k : ℕ) (l : List (ℕ × ℕ)) : ℕ := (l.filter fun p => p.2 = k).length

theorem cell_eq_iff {a b : Dev nD} {i k : ℕ} (hi : i < 97) (hk : k < 97) : cell a i = cell b k ↔ a = b ∧ i = k :=
  ⟨fun h => ⟨congrArg (fun g : GSem nD τ sig => g.1.1) h, csm_inj hi hk (congrArg Prod.snd h)⟩, fun h => by rw [h.1, h.2]⟩

/-- One credit, over all the devices that may owe it to `c`. -/
theorem one_due (c : Dev nD) {k : ℕ} (hk : k < 97) (o : ℕ) {i : ℕ} (hi : i < 97) (a : ℕ) :
    ∑ d : Dev nD, (tallyAt (cell (nb o d) i) () a : CellTallies nD τ sig Unit) (cell c k) () = if i = k then a else 0 := by
  rw [← Equiv.sum_comp (nbE o).symm, Finset.sum_congr rfl fun d _ => by
    rw [show nb o ((nbE o).symm d) = d from (nbE o).apply_symm_apply d, tallyAt_apply]]
  by_cases h : i = k
  · subst h
    rw [if_pos rfl, Finset.sum_congr rfl fun d _ => (if_congr (show (cell c i = cell d i ∧ () = ()) ↔ c = d from
      ⟨fun h => ((cell_eq_iff hi hi).mp h.1).1, fun h => ⟨by rw [h], rfl⟩⟩) rfl rfl : _ = if c = d then a else 0),
      Finset.sum_ite_eq, if_pos (Finset.mem_univ _)]
  · rw [if_neg h]
    exact Finset.sum_eq_zero fun d _ => if_neg fun e => h ((cell_eq_iff hk hi).mp e.1).2.symm

theorem all_due (c : Dev nD) {k : ℕ} (hk : k < 97) : ∀ l : List (ℕ × ℕ), (∀ p ∈ l, p.2 < 97) →
    ∑ d : Dev nD, owed (l.map fun p => (nb p.1 d, p.2)) (cell c k) () = amountK k * cnt k l
  | [], _ => Finset.sum_const_zero
  | p :: l, h => by
    have ih := all_due c hk l fun x hx => h x (List.mem_cons_of_mem _ hx)
    have hp := h p List.mem_cons_self
    show ∑ d : Dev nD, (owed (l.map fun p => (nb p.1 d, p.2)) + tallyAt (cell (nb p.1 d) p.2) () (amountK p.2)) (cell c k) () = _
    rw [Finset.sum_congr rfl fun d _ => by rw [Pi.add_apply, Finsupp.add_apply], Finset.sum_add_distrib, ih, one_due c hk p.1 hp]
    unfold cnt
    by_cases e : p.2 = k
    · rw [if_pos e, List.filter_cons_of_pos (by simp only [e, decide_true]), List.length_cons, e, Nat.mul_succ]
    · rw [if_neg e, List.filter_cons_of_neg (by simp only [e, decide_false]; decide), Nat.add_zero]

theorem launch_at (c : Dev nD) {k : ℕ} (hk : k < 97) :
    tallyOn (cell c k) (launchCredit (Pipeline.owing O₀) 0 (cell c k)) = (tallyAt (cell c k) () (amountK k * cnt k dues) : CellTallies nD τ sig Unit) := by
  unfold tallyAt; refine congrArg _ (Finsupp.ext fun u => ?_); cases u
  rw [Pipeline.launchCredit_owing, Finsupp.single_eq_same]
  exact (Finset.sum_congr rfl fun d _ => by unfold O₀; rw [dues_eq]).trans (all_due c hk dues dues_lt)

theorem cnt_one (k : Fin 97) (h : k.val < 16 ∨ (32 ≤ k.val ∧ k.val < 46) ∨ (58 ≤ k.val ∧ k.val < 66) ∨ (81 ≤ k.val ∧ k.val < 96)) : cnt k.val dues = 1 := by
  revert k; decide +kernel
theorem cnt_bar : cnt 96 dues = 15 := by decide +kernel

/-- The launch's credit at a device's cell. -/
def credAt' (c : Dev nD) (k : ℕ) : sProp 𝕄 := cred (tallyAt (cell c k) () (amountK k * cnt k dues))
theorem credAt_one (c : Dev nD) {k : ℕ} (h : k < 16 ∨ (32 ≤ k ∧ k < 46) ∨ (58 ≤ k ∧ k < 66) ∨ (81 ≤ k ∧ k < 96)) : credAt' (F := F) c k = tok c k := by
  unfold credAt' tok; rw [cnt_one ⟨k, by omega⟩ h, Nat.mul_one]

theorem creds (c : Dev nD) : (Pipeline.launchCred O₀ c : sProp 𝕄) ⊢ ghostCred c := by
  have h1 : (Pipeline.launchCred O₀ c : sProp 𝕄) ⊢ seq (credAt' (F := F) c) 0 97 := by
    rw [← seq_univ]
    unfold Pipeline.launchCred
    refine (BI.bigSep_subset (Finset.subset_univ (Finset.univ.map ⟨fun k : Fin 97 => csm k.val, fun a b h => Fin.ext (csm_inj a.isLt b.isLt h)⟩))).trans ?_
    rw [bigSep_map]
    exact bigSep_mono fun k _ => Entails.of_eq (congrArg (fun t => (cred t : sProp 𝕄)) (launch_at c k.isLt))
  refine h1.trans ?_
  rw [cells, seq_congr (Ψ := fun s => tok (F := F) c (8 * 0 + s)) 8 0 (fun j _ hj => credAt_one c (by omega)),
    seq_congr (Ψ := fun s => tok (F := F) c (8 * 1 + s)) 8 0 (fun j _ hj => credAt_one c (by omega)),
    seq_congr (Ψ := fun s => tok (F := F) c (32 + 7 * 0 + s)) 7 0 (fun j _ hj => credAt_one c (by omega)),
    seq_congr (Ψ := fun s => tok (F := F) c (32 + 7 * 1 + s)) 7 0 (fun j _ hj => credAt_one c (by omega)),
    seq_congr (Φ := fun s => credAt' (F := F) c (58 + s)) (Ψ := fun s => tok (F := F) c (58 + s)) 8 0 (fun j _ hj => credAt_one c (by omega)),
    seq_congr (Φ := fun s => credAt' (F := F) c (81 + s)) (Ψ := fun s => tok (F := F) c (81 + s)) 15 0 (fun j _ hj => credAt_one c (by omega))]
  unfold ghostCred
  iintro ⟨A1, A2, -, -, B1, B2, -, -, C, -, D, E⟩
  isplitl [E]
  · unfold credAt'; rw [cnt_bar, show amountK 96 * 15 = 15 from rfl]; iexact E
  isplitl [A1 A2]; · isplitl [A1] <;> iassumption
  isplitl [B1 B2]; · isplitl [B1] <;> iassumption
  isplitl [C] <;> iassumption

/-! ## Entering and leaving -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr full
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr full
  rw [← sems_eq]
  iintro ⟨Hr, Ho, Hu⟩
  isplitl [Hu]; · iexact Hu
  isplitl [Ho] <;> iassumption

theorem above_all (c : Dev nD) : Above 0 (oweAll c) :=
  Above.lst ((above_X c).mono (by decide)) 15 0 fun j _ _ => ⟨by show 96 < 97; decide, by show 0 < lvK 96; decide⟩

theorem stage_level (w : Fin cfg0.W) (s : Fin (cfg0.win w).nbuf) : lvK (codeOf (.dma ((cfg0.win w).sem s))) = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (oweAll c) ((stage_level w s).symm ▸ above_all c)
    · exact mayWait c _ [] (Above.nil _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every fair execution of the kernel on the sixteen
    devices terminates, with each device's result at the computed contents, its operands unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold after the run what they held before. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.MatProof
-- ==== Proof.Frames.lean ====
/- Every program terminates, leaves its operands as they were and every semaphore counter at zero. -/
module

public import proofs.«01_k».proof.Defs
public import proofs.«01_k».proof.Proof.Launch
public import proofs.«01_k».proof.Proof.Gen.Kernel

@[expose] public section

noncomputable section

namespace Cert.MatProof

open Cert.KernelIdeal
open Idealize.ShloMosaic Idealize.ShloMosaic.TcCoe Idealize.SL.Sem

variable {F : FTy → Type} [FloatOps F]

theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c (0 : Fin 3)).trans (finalA_x m ρ c), (h.1 c (1 : Fin 3)).trans (finalA_w m ρ c)⟩, h.2⟩)
    (run_main m ρ)

theorem frame_ideal : Cert.quiescent_KernelIdeal := fun m ρ _ => frame_any m ρ

/-- The kernel as written is the same program at the machine's floats. -/
theorem bodies_eq : Kernel.defs₀ (F := Bits) = defs₀ (F := Bits) := by
  unfold Kernel.defs₀ defs₀
  refine congrArg Defs.onTc (funext fun l => funext fun a => ?_)
  match l, a with
  | ⟨0, _⟩, (t, s) => rfl
  | ⟨_ + 1, h⟩, _ => exact absurd h (Nat.not_lt.2 (Nat.le_add_left _ _))
theorem programs_eq : Kernel.defs (F := Bits) = defs (F := Bits) :=
  congrArg (Pipeline.defs (pcfgs (F := Bits))) bodies_eq

theorem frame_kernel : Cert.quiescent_Kernel := fun m ρ _ => by
  have h := frame_any (F := Bits) m ρ
  rw [← programs_eq] at h
  exact h

end Cert.MatProof
-- ==== Proof.Arith.lean ====
/- Extended-real arithmetic: the two spellings of the quantiser agree, a maximum over every index is its least
   upper bound, a product read at a row and a column. -/
module

public import proofs.«01_k».proof.Proof.Clean
public import Idealize.ShloMosaic.Lib.MatmulPlain
public import Idealize.ShloMosaic.Lib.Pointwise.Sums
public import Idealize.ShloMosaic.Lib.Pipeline.Value
public import proofs.«01_k».proof.Proof.Gen.ReferenceIdeal.Value

@[expose] public section

noncomputable section

namespace Cert.MatProof

open Idealize.ShloMosaic

/-! ## Constants -/

theorem ofBits_448 : Ideal.ofBits .f32 0x43E00000#32 = ((448 : ℝ) : EReal) := by
  simp [Ideal.ofBits, Ideal.ieee, -EReal.coe_mul]; norm_num
theorem ofBits_bot : Ideal.ofBits .f32 0xFF800000#32 = ⊥ := by
  simp [Ideal.ofBits, Ideal.ieee]

/-! ## The quantiser -/

/-- Scaling by `448 / A` is dividing by `A / 448`, once the result is scaled back by `A / 448`. -/
theorem quant_eq (r A : EReal) :
    min (r * Ideal.div ((448 : ℝ) : EReal) A) ((448 : ℝ) : EReal) * Ideal.div A ((448 : ℝ) : EReal)
      = min (Ideal.div r (Ideal.div A ((448 : ℝ) : EReal))) ((448 : ℝ) : EReal) * Ideal.div A ((448 : ℝ) : EReal) := by
  have h448 : ((448 : ℝ) : EReal) ≠ 0 := by norm_num
  have hi : (((448 : ℝ) : EReal))⁻¹ = (((448 : ℝ)⁻¹ : ℝ) : EReal) := (EReal.coe_inv _).symm
  by_cases h0 : A = 0
  · subst h0
    have e : Ideal.div 0 ((448 : ℝ) : EReal) = 0 := by unfold Ideal.div; rw [if_neg h448, zero_mul]
    rw [e, mul_zero, mul_zero]
  · have e1 : Ideal.div ((448 : ℝ) : EReal) A = ((448 : ℝ) : EReal) * A⁻¹ := by unfold Ideal.div; rw [if_neg h0]
    have e2 : Ideal.div A ((448 : ℝ) : EReal) = A * (((448 : ℝ)⁻¹ : ℝ) : EReal) := by unfold Ideal.div; rw [if_neg h448, hi]
    rw [e1, e2]
    induction A with
    | bot =>
      have e3 : (⊥ : EReal) * (((448 : ℝ)⁻¹ : ℝ) : EReal) = ⊥ := EReal.bot_mul_coe_of_pos (by norm_num)
      rw [e3]
      unfold Ideal.div
      rw [if_neg (by simp), EReal.inv_bot, mul_zero, mul_zero]
    | top =>
      have e3 : (⊤ : EReal) * (((448 : ℝ)⁻¹ : ℝ) : EReal) = ⊤ := EReal.top_mul_coe_of_pos (by norm_num)
      rw [e3]
      unfold Ideal.div
      rw [if_neg (by simp), EReal.inv_top, mul_zero, mul_zero]
    | coe a =>
      have ha : a ≠ 0 := fun h => h0 (by rw [h]; rfl)
      have e3 : (a : EReal) * (((448 : ℝ)⁻¹ : ℝ) : EReal) = ((a * (448 : ℝ)⁻¹ : ℝ) : EReal) := (EReal.coe_mul _ _).symm
      have hs : ((a * (448 : ℝ)⁻¹ : ℝ) : EReal) ≠ 0 := by
        intro h; exact (mul_ne_zero ha (by norm_num)) (EReal.coe_eq_zero.mp h)
      rw [e3]
      unfold Ideal.div
      rw [if_neg hs, ← EReal.coe_inv, ← EReal.coe_inv, ← EReal.coe_mul, mul_inv, inv_inv, mul_comm (448 : ℝ)]

/-! ## The maximum over every index -/

theorem fold_max_le {ι : Type} [DecidableEq ι] (s : Finset ι) (f : ι → EReal) (z : EReal) :
    s.fold max ⊥ f ≤ z ↔ ∀ i ∈ s, f i ≤ z := by
  rw [Finset.fold_max_le]
  exact ⟨fun h => h.2, fun h => ⟨bot_le, h⟩⟩

/-- Into a shape of one index, the reduction by maximum is the least upper bound. -/
theorem reduce_max_le {s t : Shape} {axes : List (Fin s.rank)} (h : s.Reduces axes t) (ht : ∀ b, t.size b = 1)
    (src : FVec Ideal s .f32) (hφ : FKind.Formats .f32) (hacc : (0xFF800000#32 : BitVec 32) = FKind.maximumf.neutral .f32 hφ) (j : t.Idx) (z : EReal) :
    multiReduction .maximumf axes t src 0xFF800000#32 h hφ hacc j ≤ z ↔ ∀ i, src i ≤ z := by
  rw [multiReduction_maximumf_eq_fold]
  rw [Finset.filter_true_of_mem fun i _ => funext fun b => Fin.ext (by
    have := (h.drop i b).isLt; have := (j b).isLt; have := ht b; omega)]
  show Finset.fold max (Ideal.ofBits .f32 0xFF800000#32) src Finset.univ ≤ z ↔ _
  rw [ofBits_bot, fold_max_le]
  exact ⟨fun h i => h i (Finset.mem_univ i), fun h i _ => h i⟩

theorem shapeCast_le {s t : Shape} (x : s.Idx → EReal) (h : s.ShapeCasts t) (z : EReal) :
    (∀ j, shapeCast t x h j ≤ z) ↔ ∀ i, x i ≤ z :=
  ⟨fun H i => by have := H ((Shape.reshapeEquiv h).symm i); unfold shapeCast at this; rwa [Equiv.apply_symm_apply] at this, fun H j => H _⟩

/-- The one entry of such a maximum, read through a change of shape. -/
theorem extract_max_le {s t u : Shape} {axes : List (Fin s.rank)} (h : s.Reduces axes t) (ht : ∀ b, t.size b = 1) (hc : t.ShapeCasts u)
    (src : FVec Ideal s .f32) (hφ : FKind.Formats .f32) (hacc : (0xFF800000#32 : BitVec 32) = FKind.maximumf.neutral .f32 hφ)
    (p : Fin u.rank → Nat) (hp : ∀ a, p a < u.size a) (z : EReal) :
    extractAt p (shapeCast u (multiReduction .maximumf axes t src 0xFF800000#32 h hφ hacc) hc) hp ≤ z ↔ ∀ i, src i ≤ z :=
  reduce_max_le h ht src hφ hacc _ z

end Cert.MatProof
-- ==== Proof.Maxima.lean ====
/- The kernel's and the reference's result at one index, over the extended reals: each a function of a
   product entry and of the maximum over all of them. -/
module

public import proofs.«01_k».proof.Proof.Arith
public import Idealize.ShloMosaic.Lib.Pointwise.SelectCore
public import Idealize.ShloMosaic.Lib.Pointwise.Reshape

@[expose] public section

noncomputable section

namespace Cert.MatProof

open Cert.KernelIdeal Cert.KernelIdeal.Gen
open Idealize.ShloMosaic

/-- A vector of two values is bounded when both are. -/
theorem two_le (a b : FVec Ideal S1 .f32) (z : EReal) :
    (∀ i, (concatenate S2 0 [⟨S1, a⟩, ⟨S1, b⟩] concatenates_S1_S1_S2_d0 : FVec Ideal S2 .f32) i ≤ z) ↔ (∀ i, a i ≤ z) ∧ ∀ i, b i ≤ z := by
  refine ⟨fun H => ⟨fun i => ?_, fun i => ?_⟩, fun H i => ?_⟩
  · have h := H (fun a => ⟨0, by revert a; decide⟩)
    have hi : i = fun a => ⟨0, by revert a; decide⟩ := by
      funext a; apply Fin.ext; have := (i a).isLt; fin_cases a; change (i (0 : Fin 1)).val < 1 at this; show (i (0 : Fin 1)).val = 0; omega
    rw [concatenate_pair_apply_left 0 a b concatenates_S1_S1_S2_d0 _ rfl i (fun c => by rw [hi])] at h
    exact h
  · have h := H (fun a => ⟨1, by revert a; decide⟩)
    have hi : i = fun a => ⟨0, by revert a; decide⟩ := by
      funext a; apply Fin.ext; have := (i a).isLt; fin_cases a; change (i (0 : Fin 1)).val < 1 at this; show (i (0 : Fin 1)).val = 0; omega
    rw [concatenate_pair_apply_right 0 a b concatenates_S1_S1_S2_d0 _ rfl rfl i (fun c hc => absurd (by fin_cases c; rfl) hc) (by rw [hi]; rfl)] at h
    exact h
  · exact concatenate_forall (P := fun v => v ≤ z) S2 0 [⟨S1, a⟩, ⟨S1, b⟩] concatenates_S1_S1_S2_d0 (by
      intro p hp
      rcases List.mem_cons.mp hp with rfl | hp
      · exact H.1
      · rw [List.mem_singleton.mp hp]; exact H.2) i

theorem all_broadcast {s : Shape} (i₀ : s.Idx) (a z : EReal) : (∀ i, (broadcast s a : s.Idx → EReal) i ≤ z) ↔ a ≤ z := ⟨fun h => h i₀, fun h _ => h⟩

/-- The larger of two blocks' maxima. -/
def maxOf (a b : FVec Ideal S1x256x1024 .f32) : EReal :=
  extractAt ![0, 0] (shapeCast S1x1 (multiReduction .maximumf [1] S1 (shapeCast S1x2 (concatenate S2 0 [⟨S1, (broadcast S1 (extractAt ![0, 0, 0] (shapeCast S1x1x1 (multiReduction .maximumf [1, 2] S1 a 0xFF800000#32 reduces_S1x256x1024_S1 (.inl rfl) rfl : FVec Ideal S1 .f32) shapeCasts_S1_S1x1x1) inpos_S1x1x1_p0_0_0) : FVec Ideal S1 .f32)⟩, ⟨S1, (broadcast S1 (extractAt ![0, 0, 0] (shapeCast S1x1x1 (multiReduction .maximumf [1, 2] S1 b 0xFF800000#32 reduces_S1x256x1024_S1 (.inl rfl) rfl : FVec Ideal S1 .f32) shapeCasts_S1_S1x1x1) inpos_S1x1x1_p0_0_0) : FVec Ideal S1 .f32)⟩] concatenates_S1_S1_S2_d0 : FVec Ideal S2 .f32) shapeCasts_S2_S1x2) 0xFF800000#32 reduces_S1x2_S1 (.inl rfl) rfl : FVec Ideal S1 .f32) shapeCasts_S1_S1x1) inpos_S1x1_p0_0

theorem maxOf_le (a b : FVec Ideal S1x256x1024 .f32) (z : EReal) :
    maxOf a b ≤ z ↔ (∀ i, a i ≤ z) ∧ ∀ i, b i ≤ z := by
  have i₀ : S1.Idx := fun a => ⟨0, by revert a; decide⟩
  unfold maxOf
  refine (extract_max_le reduces_S1x2_S1 (by decide) shapeCasts_S1_S1x1 _ (.inl rfl) rfl ![0, 0] inpos_S1x1_p0_0 z).trans ?_
  refine (shapeCast_le _ _ z).trans ((two_le _ _ z).trans (and_congr ((all_broadcast i₀ _ z).trans ?_) ((all_broadcast i₀ _ z).trans ?_)))
  · exact extract_max_le reduces_S1x256x1024_S1 (by decide) shapeCasts_S1_S1x1x1 a (.inl rfl) rfl ![0, 0, 0] inpos_S1x1x1_p0_0_0 z
  · exact extract_max_le reduces_S1x256x1024_S1 (by decide) shapeCasts_S1_S1x1x1 b (.inl rfl) rfl ![0, 0, 0] inpos_S1x1x1_p0_0_0 z

theorem maxTile_eq (a : FVec Ideal S1x256x1024 .f32) (y : VF Ideal) :
    k0_pay57 (F := Ideal) y a
      = shapeCast S8x128 (broadcast S8x128 (Scalar.maximumf (F := Ideal) (φ := .f32) (maxOf a (shapeCast S1x256x1024 y shapeCasts_S256x1024_S1x256x1024)) (Scalar.ofBits .f32 0x00000000#32))) shapeCasts_S8x128_S8x128 := rfl

theorem scalar_max (A : EReal) : Scalar.maximumf (F := Ideal) (φ := .f32) A (Scalar.ofBits .f32 0x00000000#32) = max A 0 := by
  rw [← Ideal.ofBits_zero_f32]; rfl

theorem cast_const {s : Shape} (h : s.ShapeCasts s) (A B : EReal) (e : A = B) (j : s.Idx) :
    shapeCast s (broadcast s A : s.Idx → EReal) h j = B := e

theorem maxTile_apply (y : VF Ideal) (a : FVec Ideal S1x256x1024 .f32) (j : S8x128.Idx) :
    k0_pay57 (F := Ideal) y a j = max (maxOf a (shapeCast S1x256x1024 y shapeCasts_S256x1024_S1x256x1024)) 0 :=
  (congrFun (maxTile_eq a y) j).trans (cast_const shapeCasts_S8x128_S8x128 _ _ (scalar_max _) j)

theorem cast_le (y : FVec Ideal S256x1024 .f32) (z : EReal) :
    (∀ i, (shapeCast S1x256x1024 y shapeCasts_S256x1024_S1x256x1024 : FVec Ideal S1x256x1024 .f32) i ≤ z) ↔ ∀ i, y i ≤ z := shapeCast_le y _ z

/-- The maximum a device sends bounds zero and every entry of its two halves. -/
theorem maxTile_le (acc : VF Ideal × VF Ideal) (j : S8x128.Idx) (z : EReal) :
    maxTile acc j ≤ z ↔ 0 ≤ z ∧ (∀ i, acc.1 i ≤ z) ∧ ∀ i, acc.2 i ≤ z := by
  unfold maxTile
  generalize acc.1 = y₁
  generalize acc.2 = y₂
  rw [maxTile_apply]
  exact (max_le_iff.trans and_comm).trans (and_congr Iff.rfl ((maxOf_le _ _ z).trans (and_congr (cast_le y₁ z) (cast_le y₂ z))))

/-- The maximum over the gathered tiles is their least upper bound. -/
theorem gathered_le (ab : Vec Ideal S16x8x128 .f32) (z : EReal) : k0_pay61 (F := Ideal) ab ≤ z ↔ ∀ i, ab i ≤ z := by
  unfold k0_pay61
  dsimp only
  refine (extract_max_le reduces_S1x16x8x128_S1 (by decide) shapeCasts_S1_S1x1x1x1 _ (.inl rfl) rfl ![0, 0, 0, 0] inpos_S1x1x1x1_p0_0_0_0 z).trans ?_
  exact shapeCast_le _ _ z

/-- The kernel's entry from the product's and the maximum. -/
theorem quant_apply (y : VF Ideal) (ab : Vec Ideal S16x8x128 .f32) (j : S256x1024.Idx) :
    quant y ab j = min (max (y j) 0 * Ideal.div ((448 : ℝ) : EReal) (k0_pay61 (F := Ideal) ab)) ((448 : ℝ) : EReal) * Ideal.div (k0_pay61 (F := Ideal) ab) ((448 : ℝ) : EReal) := by
  unfold quant k0_pay64 k0_pay62 k0_pay63 k0_pay59
  generalize k0_pay61 (F := Ideal) ab = A
  simp only [Scalar.ofBits, Ideal.ofBits_def, ofBits_448, Ideal.ofBits_zero_f32]
  rfl

/-! ## The reference -/

/-- The reference's product, and its maximum. -/
def prodR (x : Vec Ideal Cert.ReferenceIdeal.S4096x4096 .bf16) (w : Vec Ideal Cert.ReferenceIdeal.S4096x2048 .bf16) : FVec Ideal Cert.ReferenceIdeal.S4096x2048 .f32 :=
  matmul (φ₁ := .bf16) (φ₂ := .bf16) Cert.ReferenceIdeal.dot_S4096x4096_S4096x2048_S4096x2048_1_0_0_1_n_n none x w (constant Cert.ReferenceIdeal.S4096x2048 .f32 0x00000000#32)
def reluR (y : FVec Ideal Cert.ReferenceIdeal.S4096x2048 .f32) : FVec Ideal Cert.ReferenceIdeal.S4096x2048 .f32 := fun i => max (y i) (Ideal.ofBits .f32 0x00000000#32)
def maxR (y : FVec Ideal Cert.ReferenceIdeal.S4096x2048 .f32) : EReal :=
  extractAt ![0, 0, 0] (shapeCast Cert.ReferenceIdeal.S1x1x1 (multiReduction .maximumf [1, 2] Cert.ReferenceIdeal.S1 (shapeCast Cert.ReferenceIdeal.S1x4096x2048 (absf (reluR y)) Cert.ReferenceIdeal.Gen.shapeCasts_S4096x2048_S1x4096x2048) 0xFF800000#32 Cert.ReferenceIdeal.Gen.reduces_S1x4096x2048_S1 (.inl rfl) rfl) Cert.ReferenceIdeal.Gen.shapeCasts_S1_S1x1x1) Cert.ReferenceIdeal.Gen.inpos_S1x1x1_p0_0_0

theorem ref_apply (x : Vec Ideal Cert.ReferenceIdeal.S4096x4096 .bf16) (w : Vec Ideal Cert.ReferenceIdeal.S4096x2048 .bf16) (i : Cert.ReferenceIdeal.S4096x2048.Idx) :
    Cert.ReferenceIdeal.Gen.k0_pay1 (F := Ideal) x w i
      = min (Ideal.div (max (prodR x w i) 0) (Ideal.div (maxR (prodR x w)) ((448 : ℝ) : EReal))) ((448 : ℝ) : EReal) * Ideal.div (maxR (prodR x w)) ((448 : ℝ) : EReal) := by
  have h : ∀ A, A = maxR (prodR x w) → _ := fun A h => h
  unfold Cert.ReferenceIdeal.Gen.k0_pay1
  show FloatOps.mulf _ _ = _
  unfold prodR maxR reluR
  simp only [Scalar.ofBits, Ideal.ofBits_def, ofBits_448, Ideal.ofBits_zero_f32]
  rfl

theorem maxR_le (y : FVec Ideal Cert.ReferenceIdeal.S4096x2048 .f32) (z : EReal) : maxR y ≤ z ↔ ∀ i, max (y i) 0 ≤ z := by
  unfold maxR
  refine (extract_max_le Cert.ReferenceIdeal.Gen.reduces_S1x4096x2048_S1 (by decide) Cert.ReferenceIdeal.Gen.shapeCasts_S1_S1x1x1 _ (.inl rfl) rfl ![0, 0, 0] Cert.ReferenceIdeal.Gen.inpos_S1x1x1_p0_0_0 z).trans ?_
  refine (shapeCast_le _ _ z).trans (forall_congr' fun i => ?_)
  show max (reluR y i) (-(reluR y i)) ≤ z ↔ _
  unfold reluR
  rw [Ideal.ofBits_zero_f32, max_eq_left]
  have h0 : (0 : EReal) ≤ max (y i) 0 := le_max_right _ _
  exact le_trans (EReal.neg_le_zero.mpr h0) h0

end Cert.MatProof
-- ==== Proof.Final.lean ====
/- What the launch leaves in the result, and the operands each product reads, entry by entry. -/
module

public import proofs.«01_k».proof.Proof.Launch
public import proofs.«01_k».proof.Proof.Maxima

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

section Any

variable {F : FTy → Type} [FloatOps F]
variable (m : (ℓ : Loc nD τ sig) → Buf (Elt F) ℓ) (ρ : Dev nD → PrngReg)

/-! ## The one block of each array is the array -/

theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)

theorem emb0 (t : Fin cfg0.N) (j : S4096x256.Idx) : ((cfg0.win 0).blk t).view.emb j = j := by
  obtain ⟨e0, e1⟩ := idx_zero0 t
  funext a; apply Fin.ext
  match a with
  | ⟨0, _⟩ => show win0_0.index t (0 : Fin 2) * 4096 + 1 * (j 0).val = (j 0).val; omega
  | ⟨1, _⟩ => show win0_0.index t (1 : Fin 2) * 256 + 1 * (j 1).val = (j 1).val; omega
theorem emb1 (t : Fin cfg0.N) (j : S256x2048.Idx) : ((cfg0.win 1).blk t).view.emb j = j := by
  obtain ⟨e0, e1⟩ := idx_zero1 t
  funext a; apply Fin.ext
  match a with
  | ⟨0, _⟩ => show win0_1.index t (0 : Fin 2) * 256 + 1 * (j 0).val = (j 0).val; omega
  | ⟨1, _⟩ => show win0_1.index t (1 : Fin 2) * 2048 + 1 * (j 1).val = (j 1).val; omega
theorem emb2 (t : Fin cfg0.N) (j : S256x2048.Idx) : ((cfg0.win 2).blk t).view.emb j = j := by
  obtain ⟨e0, e1⟩ := idx_zero2 t
  funext a; apply Fin.ext
  match a with
  | ⟨0, _⟩ => show win0_2.index t (0 : Fin 2) * 256 + 1 * (j 0).val = (j 0).val; omega
  | ⟨1, _⟩ => show win0_2.index t (1 : Fin 2) * 2048 + 1 * (j 1).val = (j 1).val; omega

theorem cut2_eq (t : Fin cfg0.N) (X : Vec F S256x2048 .f32) :
    (cfg0.win 2).cut (grid0.coords t) X = ((cfg0.win 2).blk t).view.read (Elt F) X := by
  funext j
  show X j = X (((cfg0.win 2).blk t).view.emb j)
  rw [emb2]

theorem covered2 (i : S256x2048.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The result after the run. -/
theorem finalA_out (c : Dev nD) : finalA m ρ c (2 : Fin 3) = outAt m ρ c :=
  (dats m ρ 0 c).arrAt_eq_of_cover 2 (outAt m ρ c) (fun t _ => cut2_eq t (outAt m ρ c)) covered2

theorem xstg_eq (c : Dev nD) : xstg m ρ c = m ((c : Thread nD τ).loc main_arg0) := by
  funext j
  show m ((c : Thread nD τ).loc main_arg0) (((cfg0.win 0).blk (0 : Fin 1)).view.emb j) = _
  exact congrArg (m ((c : Thread nD τ).loc main_arg0)) (emb0 (0 : Fin 1) j)
theorem wstg_eq (c : Dev nD) : wstg m ρ c = m ((c : Thread nD τ).loc main_arg1) := by
  funext j
  show m ((c : Thread nD τ).loc main_arg1) (((cfg0.win 1).blk (0 : Fin 1)).view.emb j) = _
  exact congrArg (m ((c : Thread nD τ).loc main_arg1)) (emb1 (0 : Fin 1) j)

theorem pay2_id (v : Vec F S4096x256 .bf16) : k0_pay2 v = v := by
  unfold k0_pay2; exact (shapeCast_id _ _).trans (shapeCast_id _ _)
theorem pay34_id (v : Vec F S256x2048 .bf16) : k0_pay4 (k0_pay3 v) = v := by
  unfold k0_pay4 k0_pay3; exact (shapeCast_id _ _).trans (shapeCast_id _ _)

theorem xb_eq (c : Dev nD) : xb m ρ c = m ((c : Thread nD τ).loc main_arg0) := (pay2_id _).trans (xstg_eq m ρ c)
theorem wb_eq (c : Dev nD) : wb m ρ c = m ((c : Thread nD τ).loc main_arg1) := (pay34_id _).trans (wstg_eq m ρ c)

/-! ## The operands of a product -/

theorem xblk_apply (c b : Dev nD) (i : S256x256.Idx) (j : S4096x256.Idx)
    (h0 : (j 0).val = 256 * b.val + (i 0).val) (h1 : (j 1).val = (i 1).val) :
    xblk m ρ c b i = m ((c : Thread nD τ).loc main_arg0) j := by
  unfold xblk
  rw [xb_eq]
  show m ((c : Thread nD τ).loc main_arg0) ((Rect.unit (s := S4096x256) (offB b) S256x256.size (inbB b)).emb i) = _
  refine congrArg (m ((c : Thread nD τ).loc main_arg0)) (funext fun a => Fin.ext ?_)
  rw [ValueKit.rect_emb_unit_val]
  fin_cases a
  · exact h0.symm
  · exact (Nat.zero_add _).trans h1.symm

theorem wH_apply (c : Dev nD) (q : ℕ) (hq : q < 2) (i : S256x1024.Idx) (j : S256x2048.Idx)
    (h0 : (j 0).val = (i 0).val) (h1 : (j 1).val = 1024 * q + (i 1).val) :
    wH m ρ c q i = m ((c : Thread nD τ).loc main_arg1) j := by
  unfold wH
  rw [wb_eq]
  have e : (slW q).view.emb i = j := by
    funext a; apply Fin.ext
    refine (ValueKit.rect_emb_unit_val _ _ _ _ a).trans ?_
    fin_cases a
    · exact (Nat.zero_add _).trans h0.symm
    · refine Eq.trans ?_ h1.symm; show 1024 * (q % 2) + (i 1).val = _; omega
  exact congrArg (m ((c : Thread nD τ).loc main_arg1)) e

end Any

end Cert.MatProof
-- ==== Proof.Sums.lean ====
/- The accumulator a device ends with is its block of the whole product: the sum over the sixteen devices of the
   products of their blocks. -/
module

public import proofs.«01_k».proof.Proof.Final

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

/-! ## Products, entry by entry -/

theorem pdot_apply (x : VX Ideal) (w : VW Ideal) (r : Fin 256) (l : Fin 1024) :
    pdot x w (ValueIdx.ix2 r l) = ∑ k : Fin 256, (x (ValueIdx.ix2 r k) : EReal) * w (ValueIdx.ix2 k l) := by
  refine (Ideal.matmul_plain_apply (φ₁ := .bf16) (φ₂ := .bf16) none x w (constant S256x1024 .f32 0x00000000#32) r l).trans ?_
  show Ideal.ofBits .f32 0x00000000#32 + _ = _
  rw [Ideal.ofBits_zero_f32, zero_add]

theorem prodR_apply (x : Vec Ideal Cert.ReferenceIdeal.S4096x4096 .bf16) (w : Vec Ideal Cert.ReferenceIdeal.S4096x2048 .bf16) (r : Fin 4096) (l : Fin 2048) :
    prodR x w (ValueIdx.ix2 r l) = ∑ k : Fin 4096, (x (ValueIdx.ix2 r k) : EReal) * w (ValueIdx.ix2 k l) := by
  refine (Ideal.matmul_plain_apply (φ₁ := .bf16) (φ₂ := .bf16) none x w (constant Cert.ReferenceIdeal.S4096x2048 .f32 0x00000000#32) r l).trans ?_
  show Ideal.ofBits .f32 0x00000000#32 + _ = _
  rw [Ideal.ofBits_zero_f32, zero_add]

variable (m : (ℓ : Loc nD τ sig) → Buf (Elt Ideal) ℓ) (ρ : Dev nD → PrngReg) (c : Dev nD)

/-- Device `d`'s share of an entry of `c`'s block. -/
def P (c : Dev nD) (q : ℕ) (j : S256x1024.Idx) (d : Dev nD) : EReal := pdot (xblk m ρ d c) (wH m ρ d q) j

/-! ## The sum a device ends with -/

theorem Lv_zero (q : ℕ) (j : S256x1024.Idx) : (Lv m ρ q 0 (nb 7 c) j : EReal) = P m ρ c q j (nb 7 c) := by
  show pdot (xblk m ρ (nb 7 c) (nb 9 (nb 7 c))) (wH m ρ (nb 7 c) q) j = _
  rw [nb_back c (by decide : 7 + 9 = 16)]; rfl

theorem Lv_succ (q s : ℕ) (hs : s < 6) (j : S256x1024.Idx) :
    (Lv m ρ q (s + 1) (nb (6 - s) c) j : EReal) = (Lv m ρ q s (nb (7 - s) c) j : EReal) + P m ρ c q j (nb (6 - s) c) := by
  show (Lv m ρ q s (nb 1 (nb (6 - s) c)) j : EReal) + pdot (xblk m ρ (nb (6 - s) c) (nb (10 + s) (nb (6 - s) c))) (wH m ρ (nb (6 - s) c) q) j = _
  rw [nb_back c (by omega : 6 - s + (10 + s) = 16), nb_nb, (by omega : 6 - s + 1 = 7 - s)]; rfl

theorem Lv_six (q : ℕ) (j : S256x1024.Idx) :
    (Lv m ρ q 6 (nb 1 c) j : EReal)
      = ((((((P m ρ c q j (nb 7 c) + P m ρ c q j (nb 6 c)) + P m ρ c q j (nb 5 c)) + P m ρ c q j (nb 4 c)) + P m ρ c q j (nb 3 c)) + P m ρ c q j (nb 2 c)) + P m ρ c q j (nb 1 c)) := by
  rw [← Lv_zero m ρ c q j]
  have e0 := Lv_succ m ρ c q 0 (by decide) j
  have e1 := Lv_succ m ρ c q 1 (by decide) j
  have e2 := Lv_succ m ρ c q 2 (by decide) j
  have e3 := Lv_succ m ρ c q 3 (by decide) j
  have e4 := Lv_succ m ρ c q 4 (by decide) j
  have e5 := Lv_succ m ρ c q 5 (by decide) j
  simp only [Nat.reduceAdd, Nat.reduceSub, Nat.sub_zero, Nat.zero_add] at e0 e1 e2 e3 e4 e5
  rw [e5, e4, e3, e2, e1, e0]

/-- Half `q` of the accumulator. -/
def accQ (s q : ℕ) : VF Ideal := if q = 0 then (accV m ρ c s).1 else (accV m ρ c s).2

theorem accQ_zero (q : ℕ) (hq : q < 2) (j : S256x1024.Idx) : accQ m ρ c 0 q j = P m ρ c q j c := by
  rcases (by omega : q = 0 ∨ q = 1) with rfl | rfl <;> rfl

theorem accQ_succ (s q : ℕ) (hs : s ≠ 6) (hq : q < 2) (j : S256x1024.Idx) :
    accQ m ρ c (s + 1) q j = accQ m ρ c s q j + P m ρ c q j (nb (15 - s) c) := by
  have hb : bump m ρ c s (accV m ρ c s) = accV m ρ c s := if_neg hs
  rcases (by omega : q = 0 ∨ q = 1) with rfl | rfl
  · show (bump m ρ c s (accV m ρ c s)).1 j + _ = _; rw [hb]; rfl
  · show (bump m ρ c s (accV m ρ c s)).2 j + _ = _; rw [hb]; rfl

theorem accQ_seven (q : ℕ) (hq : q < 2) (j : S256x1024.Idx) :
    accQ m ρ c 7 q j = (accQ m ρ c 6 q j + (Lv m ρ q 6 (nb 1 c) j : EReal)) + P m ρ c q j (nb 9 c) := by
  have hb : bump m ρ c 6 (accV m ρ c 6) = (addf (accV m ρ c 6).1 (widen (Lv m ρ 0 6 (nb 1 c))), addf (accV m ρ c 6).2 (widen (Lv m ρ 1 6 (nb 1 c)))) := if_pos rfl
  rcases (by omega : q = 0 ∨ q = 1) with rfl | rfl
  · show (bump m ρ c 6 (accV m ρ c 6)).1 j + _ = _; rw [hb]; rfl
  · show (bump m ρ c 6 (accV m ρ c 6)).2 j + _ = _; rw [hb]; rfl

/-- An accumulator ends at the sum over the devices. -/
theorem accQ_eight (q : ℕ) (hq : q < 2) (j : S256x1024.Idx) : accQ m ρ c 8 q j = ∑ d : Dev nD, P m ρ c q j d := by
  have e0 := accQ_succ m ρ c 0 q (by decide) hq j
  have e1 := accQ_succ m ρ c 1 q (by decide) hq j
  have e2 := accQ_succ m ρ c 2 q (by decide) hq j
  have e3 := accQ_succ m ρ c 3 q (by decide) hq j
  have e4 := accQ_succ m ρ c 4 q (by decide) hq j
  have e5 := accQ_succ m ρ c 5 q (by decide) hq j
  have e7 := accQ_succ m ρ c 7 q (by decide) hq j
  simp only [Nat.reduceAdd, Nat.reduceSub, Nat.sub_zero, Nat.zero_add] at e0 e1 e2 e3 e4 e5 e7
  rw [e7, accQ_seven m ρ c q hq j, e5, e4, e3, e2, e1, e0, accQ_zero m ρ c q hq j, Lv_six]
  rw [← Equiv.sum_comp (nbF c)]
  show _ = ∑ i : Fin 16, P m ρ c q j (nb i.val c)
  simp only [Fin.sum_univ_succ, Fin.sum_univ_zero, Fin.val_succ, Fin.val_zero, Nat.reduceAdd, add_zero, nb_zero]
  generalize P m ρ c q j = p
  generalize p c = p0
  generalize p (nb 1 c) = p1
  generalize p (nb 2 c) = p2
  generalize p (nb 3 c) = p3
  generalize p (nb 4 c) = p4
  generalize p (nb 5 c) = p5
  generalize p (nb 6 c) = p6
  generalize p (nb 7 c) = p7
  generalize p (nb 8 c) = p8
  generalize p (nb 9 c) = p9
  generalize p (nb 10 c) = p10
  generalize p (nb 11 c) = p11
  generalize p (nb 12 c) = p12
  generalize p (nb 13 c) = p13
  generalize p (nb 14 c) = p14
  generalize p (nb 15 c) = p15
  ac_rfl

/-! ## … is the whole product's entry -/

variable (X : Vec Ideal Cert.ReferenceIdeal.S4096x4096 .bf16) (W : Vec Ideal Cert.ReferenceIdeal.S4096x2048 .bf16)

/-- Each device holds its blocks of the whole operands. -/
def Holds : Prop := ∀ c : Dev nD,
  m ((c.tc : Thread nD τ).loc main_arg0) = Layout.block ⟨2, ![4096, 256]⟩ ⟨2, ![4096, 4096]⟩ 1 16 c X
  ∧ m ((c.tc : Thread nD τ).loc main_arg1) = Layout.block ⟨2, ![256, 2048]⟩ ⟨2, ![4096, 2048]⟩ 0 16 c W

/-- The entry of the whole result a device's entry is. -/
def whole (c : Dev nD) (q : ℕ) (hq : q < 2) (j : S256x1024.Idx) : Cert.ReferenceIdeal.S4096x2048.Idx :=
  ValueIdx.ix2 ⟨c.val * 256 + (j 0).val, by have h : c.val < 16 := c.isLt; have h' : (j 0).val < 256 := (j 0).isLt; omega⟩
    ⟨1024 * q + (j 1).val, by have h' : (j 1).val < 1024 := (j 1).isLt; omega⟩

theorem P_eq (H : Holds m X W) (q : ℕ) (hq : q < 2) (r : Fin 256) (l : Fin 1024) (d : Dev nD) :
    P m ρ c q (ValueIdx.ix2 r l) d = ∑ k : Fin 256,
      (X (ValueIdx.ix2 ⟨c.val * 256 + r.val, by have h : c.val < 16 := c.isLt; omega⟩ ⟨d.val * 256 + k.val, by have h : d.val < 16 := d.isLt; omega⟩) : EReal)
        * W (ValueIdx.ix2 ⟨d.val * 256 + k.val, by have h : d.val < 16 := d.isLt; omega⟩ ⟨1024 * q + l.val, by omega⟩) := by
  unfold P
  rw [pdot_apply]
  refine Finset.sum_congr rfl fun k _ => ?_
  have hc : c.val < 16 := c.isLt
  have hx := xblk_apply m ρ d c (ValueIdx.ix2 r k) (ValueIdx.ix2 ⟨256 * c.val + r.val, by omega⟩ ⟨k.val, k.isLt⟩) rfl rfl
  have hw := wH_apply m ρ d q hq (ValueIdx.ix2 k l) (ValueIdx.ix2 ⟨k.val, k.isLt⟩ ⟨1024 * q + l.val, by omega⟩) rfl rfl
  rw [hx, hw, (H d).1, (H d).2]
  refine congrArg₂ (fun a b : EReal => a * b) (congrArg X (funext fun a => Fin.ext ?_)) (congrArg W (funext fun a => Fin.ext ?_))
  · fin_cases a
    · show 256 * c.val + r.val = c.val * 256 + r.val; omega
    · rfl
  · fin_cases a
    · rfl
    · rfl

/-- A device's accumulator is its block of the whole product. -/
theorem accQ_prod (H : Holds m X W) (q : ℕ) (hq : q < 2) (j : S256x1024.Idx) :
    accQ m ρ c 8 q j = prodR X W (whole c q hq j) := by
  rw [accQ_eight m ρ c q hq]
  obtain ⟨r, l, rfl⟩ : ∃ r l, j = ValueIdx.ix2 (n0 := 256) (n1 := 1024) r l := ⟨_, _, ValueIdx.eq_ix2 j⟩
  unfold whole
  rw [prodR_apply, Fin.sum_univ_tiles 16 256 rfl]
  exact Finset.sum_congr rfl fun d _ => P_eq m ρ c X W H q hq r l d

end Cert.MatProof
-- ==== Proof.Algebraic.lean ====
/- Over the extended reals the kernel on sixteen devices computes what the reference computes on one. -/
module

public import proofs.«01_k».proof.Proof.Sums
public import proofs.«01_k».proof.Proof.Frames

@[expose] public section

noncomputable section

namespace Cert.MatProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (Dat Cfg Window BodyObligation cellOf)

section Entries

variable (m : (ℓ : Loc nD τ sig) → Buf (Elt Ideal) ℓ) (ρ : Dev nD → PrngReg) (c : Dev nD)
variable (X : Vec Ideal Cert.ReferenceIdeal.S4096x4096 .bf16) (W : Vec Ideal Cert.ReferenceIdeal.S4096x2048 .bf16)

/-- Every entry of the whole result is an entry of some device's block. -/
theorem whole_surj (i : Cert.ReferenceIdeal.S4096x2048.Idx) :
    ∃ (d : Dev nD) (q : ℕ) (hq : q < 2) (j : S256x1024.Idx), whole d q hq j = i := by
  have h0 : (i 0).val < 4096 := (i 0).isLt
  have h1 : (i 1).val < 2048 := (i 1).isLt
  refine ⟨⟨(i 0).val / 256, ?_⟩, (i 1).val / 1024, ?_, ValueIdx.ix2 ⟨(i 0).val % 256, ?_⟩ ⟨(i 1).val % 1024, ?_⟩, ?_⟩
  · show (i 0).val / 256 < 16; omega
  · omega
  · omega
  · omega
  · funext a; apply Fin.ext
    fin_cases a
    · show (i 0).val / 256 * 256 + (i 0).val % 256 = (i 0).val; omega
    · show 1024 * ((i 1).val / 1024) + (i 1).val % 1024 = (i 1).val; omega

theorem acc_le (H : Holds m X W) (d : Dev nD) (z : EReal) :
    ((∀ i, (accV m ρ d 8).1 i ≤ z) ∧ ∀ i, (accV m ρ d 8).2 i ≤ z) ↔ ∀ (q : ℕ) (hq : q < 2) (j : S256x1024.Idx), prodR X W (whole d q hq j) ≤ z := by
  refine ⟨fun h q hq j => ?_, fun h => ⟨fun i => ?_, fun i => ?_⟩⟩
  · rw [← accQ_prod m ρ d X W H q hq j]
    rcases (by omega : q = 0 ∨ q = 1) with rfl | rfl
    · exact h.1 j
    · exact h.2 j
  · have e := accQ_prod m ρ d X W H 0 (by decide) i
    exact le_trans (le_of_eq e) (h 0 (by decide) i)
  · have e := accQ_prod m ρ d X W H 1 (by decide) i
    exact le_trans (le_of_eq e) (h 1 (by decide) i)

/-- The maximum each device scales by is the reference's. -/
theorem max_eq (H : Holds m X W) : k0_pay61 (F := Ideal) (abV m ρ c) = maxR (prodR X W) := by
  refine eq_of_forall_ge_iff fun z => ?_
  rw [gathered_le, maxR_le]
  refine ⟨fun h i => ?_, fun h i => ?_⟩
  · obtain ⟨d, q, hq, j, rfl⟩ := whole_surj i
    have hc : c.val < 16 := c.isLt
    have hd : d.val < 16 := d.isLt
    have h2 := h (fun a => ⟨if a.val = 0 then (c.val + 16 - d.val) % 16 else 0, by fin_cases a <;> simp <;> omega⟩)
    have hn : nb (16 - (c.val + 16 - d.val) % 16) c = d := by
      apply Fin.ext; show (c.val + (16 - (c.val + 16 - d.val) % 16)) % 16 = d.val; omega
    have h3 : ∃ k, tile m ρ d k ≤ z := ⟨_, by rw [← hn]; exact h2⟩
    obtain ⟨k, h3⟩ := h3
    unfold tile at h3
    rw [maxTile_le, acc_le m ρ X W H] at h3
    exact max_le (h3.2 q hq j) h3.1
  · show tile m ρ (nb (16 - (i 0).val) c) _ ≤ z
    unfold tile
    refine (maxTile_le _ _ z).mpr ?_
    rw [acc_le m ρ X W H]
    exact ⟨le_trans (le_max_right _ _) (h (whole c 0 (by decide) (fun a => ⟨0, by fin_cases a <;> decide⟩))), fun q hq j => le_trans (le_max_left _ _) (h _)⟩

/-- A device's entry is the reference's. -/
theorem entry_eq (H : Holds m X W) (q : ℕ) (hq : q < 2) (j : S256x1024.Idx) :
    quant (accQ m ρ c 8 q) (abV m ρ c) j = Cert.ReferenceIdeal.Gen.k0_pay1 (F := Ideal) X W (whole c q hq j) := by
  rw [quant_apply, max_eq m ρ c X W H, accQ_prod m ρ c X W H q hq j, ref_apply]
  exact quant_eq _ _

/-- A device's result is its block of the reference's. -/
theorem out_eq (H : Holds m X W) :
    outAt m ρ c = Layout.block ⟨2, ![256, 2048]⟩ ⟨2, ![4096, 2048]⟩ 0 16 c (Cert.ReferenceIdeal.Gen.k0_pay1 (F := Ideal) X W) := by
  funext i
  change S256x2048.Idx at i
  have h1 : (i 1).val < 2048 := (i 1).isLt
  have h0 : (i 0).val < 256 := (i 0).isLt
  show (if (i 1).val < 1024 then quant (accV m ρ c 8).1 (abV m ρ c) (loI i) else quant (accV m ρ c 8).2 (abV m ρ c) (loI i)) = Cert.ReferenceIdeal.Gen.k0_pay1 (F := Ideal) X W _
  split_ifs with h
  · refine (entry_eq m ρ c X W H 0 (by decide) (loI i)).trans (congrArg _ (funext fun a => Fin.ext ?_))
    fin_cases a
    · show c.val * 256 + (i 0).val % 256 = c.val * 256 + (i 0).val; omega
    · show 1024 * 0 + (i 1).val % 1024 = (i 1).val; omega
  · refine (entry_eq m ρ c X W H 1 (by decide) (loI i)).trans (congrArg _ (funext fun a => Fin.ext ?_))
    fin_cases a
    · show c.val * 256 + (i 0).val % 256 = c.val * 256 + (i 0).val; omega
    · show 1024 * 1 + (i 1).val % 1024 = (i 1).val; omega

end Entries

theorem algebraic : Cert.algebraic_KernelIdeal_ReferenceIdeal := fun m g m' g' _ H =>
  ⟨Cert.ReferenceIdeal.Gen.k0_pay1 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (defs (F := Ideal)) _ _).mono
      (fun _ h c => ⟨((h.1 c (2 : Fin 3)).trans (finalA_out m g c)).trans (out_eq m g c _ _ H),
        (h.1 c (0 : Fin 3)).trans (finalA_x m g c), (h.1 c (1 : Fin 3)).trans (finalA_w m g c)⟩)
      (run_main (F := Ideal) m g),
    (θ_run (Cert.ReferenceIdeal.defs (F := Ideal)) _ _).mono (fun _ h => h 0) (Cert.ReferenceIdeal.Value.run (F := Ideal) m' g')⟩

end Cert.MatProof
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ => Cert.ReferenceIdeal.Gen.frame m ρ

theorem claim : Cert.Claim := ⟨Cert.Kernel.Gen.facts, Cert.KernelIdeal.Gen.facts, Cert.ReferenceIdeal.Gen.facts,
  Cert.MatProof.frame_kernel, Cert.MatProof.frame_ideal, frame_reference, trivial, Cert.MatProof.algebraic⟩

end Cert.Proof

end
